-- ==== Defs.lean ====
def Pre_Kernel [hPre_in_segments : Cert.Pre_in_segments.Facts] (m : (ℓ : Loc Cert.Kernel.nD Cert.Kernel.τ Cert.Kernel.sig) → Buf (Elt Bits) ℓ) : Prop :=
  ∀ c : Dev Cert.Kernel.nD,
    (Cert.Pre_in_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_segments : Cert.Pre_in_segments.Facts] (m : (ℓ : Loc Cert.KernelIdeal.nD Cert.KernelIdeal.τ Cert.KernelIdeal.sig) → Buf (Elt Ideal) ℓ) : Prop :=
  ∀ c : Dev Cert.KernelIdeal.nD,
    (Cert.Pre_in_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_segments_moderate [hPre_in_segments_moderate : Cert.Pre_in_segments_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_in_segments_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_segments_moderate [hPre_in_segments_moderate : Cert.Pre_in_segments_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_segments_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_segments : Cert.Pre_in_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_segments : Cert.Pre_in_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_segments_moderate [hKernelIdeal : Cert.KernelIdeal.Facts] [hPre_in_segments_moderate : Cert.Pre_in_segments_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_segments_moderate m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_segments_moderate [hReferenceIdeal : Cert.ReferenceIdeal.Facts] [hPre_in_segments_moderate : Cert.Pre_in_segments_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_segments_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_segments_moderate [hKernelIdeal : Cert.KernelIdeal.Facts] [hReferenceIdeal : Cert.ReferenceIdeal.Facts] [hPre_in_segments_moderate : Cert.Pre_in_segments_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_segments_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_segments : Cert.Pre_in_segments.Facts) (hPre_in_segments_moderate : Cert.Pre_in_segments_moderate.Facts),
    quiescent_Kernel (hKernel := hKernel) (hPre_in_segments := hPre_in_segments)
    ∧ quiescent_KernelIdeal (hKernelIdeal := hKernelIdeal) (hPre_in_segments := hPre_in_segments)
    ∧ quiescent_KernelIdeal_pre_in_segments_moderate (hKernelIdeal := hKernelIdeal) (hPre_in_segments_moderate := hPre_in_segments_moderate)
    ∧ quiescent_ReferenceIdeal (hReferenceIdeal := hReferenceIdeal)
    ∧ quiescent_ReferenceIdeal_pre_in_segments_moderate (hReferenceIdeal := hReferenceIdeal) (hPre_in_segments_moderate := hPre_in_segments_moderate)
    ∧ preserves_Kernel_KernelIdeal
    ∧ algebraic_KernelIdeal_ReferenceIdeal_pre_in_segments_moderate (hKernelIdeal := hKernelIdeal) (hReferenceIdeal := hReferenceIdeal) (hPre_in_segments_moderate := hPre_in_segments_moderate)
-- ==== Pre_in_segments.lean ====
abbrev S100000x128 : Shape := ⟨2, ![100000, 128]⟩
abbrev S100000 : Shape := ⟨1, ![100000]⟩
abbrev S1x128 : Shape := ⟨2, ![1, 128]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S1x128 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_in_segments_moderate.lean ====
abbrev S100000x128 : Shape := ⟨2, ![100000, 128]⟩
abbrev S100000 : Shape := ⟨1, ![100000]⟩
abbrev S1x128 : Shape := ⟨2, ![1, 128]⟩
abbrev S1 : Shape := ⟨1, ![1]⟩
abbrev S_ : Shape := ⟨0, ![]⟩
abbrev S128x1 : Shape := ⟨2, ![128, 1]⟩
abbrev S100000x1 : Shape := ⟨2, ![100000, 1]⟩
abbrev S1x1 : Shape := ⟨2, ![1, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  reducesTo_S100000x1_S_d0_1 : S100000x1.ReducesTo [0, 1] S_
  dot_S100000x128_S128x1_S100000x1_1_0_0_1_n_n_wf : DotDims.WF S100000x128 S128x1 S100000x1 [1] [0] [0] [1] [] []

variable [Facts]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def fn_part1 {F : FTy → Type} [FloatOps F] (main_arg0 : FVec F S100000x128 .f32) (main_arg1 : IVec S100000 32) (main_arg2 : FVec F S1x128 .f32) (main_arg3 : FVec F S1 .f32) (main_v13 : IVec S_ 1) (main_v15 : IVec S100000 1) (main_c_5 : IVec S_ 32) : IVec S_ 1 :=
  let main_v16 : IVec S100000 32 := broadcastInDim S100000 ![] bcast_S_S100000 main_c_5
  let main_v17 : IVec S100000 1 := cmpi .slt main_arg1 main_v16
  let main_v18 : IVec S100000 1 := andi main_v15 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v19 main_v13
  let main_v21 : FVec F S128x1 .f32 := (transpose S128x1 [1, 0] · transposes_S1x128_S128x1_1_0) main_arg2
  let main_v22 : FVec F S100000x1 .f32 := (fun l r => Host.dotGeneral dot_S100000x128_S128x1_S100000x1_1_0_0_1_n_n none l r) main_arg0 main_v21
  let main_v23 : FVec F S1x1 .f32 := broadcastInDim S1x1 ![1] bcast_S1_S1x1_1 main_arg3
  let main_v24 : FVec F S100000x1 .f32 := broadcastInDim S100000x1 ![0, 1] bcast_S1x1_S100000x1_0_1 main_v23
  let main_v25 : FVec F S100000x1 .f32 := addf main_v22 main_v24
  let main_v26 : FVec F S100000x1 .f32 := Host.exp main_v25
  let main_cst_7 : FVec F S_ .f32 := constant S_ .f32 0x0DA24260#32
  let main_v27 : FVec F S100000x1 .f32 := broadcastInDim S100000x1 ![] bcast_S_S100000x1 main_cst_7
  let main_v28 : IVec S100000x1 1 := cmpf .oge main_v26 main_v27
  let main_c_8 : IVec S_ 1 := constantI S_ 1 1#1
  let main_v29 : IVec S_ 1 := (fun x v => Host.reduce IntOp.andi x v reducesTo_S100000x1_S_d0_1 h_S_) main_v28 main_c_8
  let main_v30 : IVec S_ 1 := andi main_v20 main_v29
  main_v30

def fn {F : FTy → Type} [FloatOps F] (main_arg0 : FVec F S100000x128 .f32) (main_arg1 : IVec S100000 32) (main_arg2 : FVec F S1x128 .f32) (main_arg3 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg1 main_v14
  let main_c_5 : IVec S_ 32 := constantI S_ 32 256#32
  fn_part1 (F := F) main_arg0 main_arg1 main_arg2 main_arg3 main_v13 main_v15 main_c_5
-- ==== Kernel.lean ====
abbrev S100000x128 : Shape := ⟨2, ![100000, 128]⟩
abbrev S100000 : Shape := ⟨1, ![100000]⟩
abbrev S1x128 : Shape := ⟨2, ![1, 128]⟩
abbrev S1 : Shape := ⟨1, ![1]⟩
abbrev S25x1x4000 : Shape := ⟨3, ![25, 1, 4000]⟩
abbrev S128 : Shape := ⟨1, ![128]⟩
abbrev S16 : Shape := ⟨1, ![16]⟩
abbrev S128x1 : Shape := ⟨2, ![128, 1]⟩
abbrev S_ : Shape := ⟨0, ![]⟩
abbrev S128x8 : Shape := ⟨2, ![128, 8]⟩
abbrev S1x1 : Shape := ⟨2, ![1, 1]⟩
abbrev S12800000 : Shape := ⟨1, ![12800000]⟩
abbrev S8192x128 : Shape := ⟨2, ![8192, 128]⟩
abbrev S8192x16 : Shape := ⟨2, ![8192, 16]⟩
abbrev S16000 : Shape := ⟨1, ![16000]⟩
abbrev S1152 : Shape := ⟨1, ![1152]⟩
abbrev S256x128 : Shape := ⟨2, ![256, 128]⟩
abbrev S256x16 : Shape := ⟨2, ![256, 16]⟩
abbrev S1x16 : Shape := ⟨2, ![1, 16]⟩
abbrev S8 : Shape := ⟨1, ![8]⟩
abbrev S4 : Shape := ⟨1, ![4]⟩
abbrev S2 : Shape := ⟨1, ![2]⟩
abbrev S256x8 : Shape := ⟨2, ![256, 8]⟩
abbrev S1x1x4000 : Shape := ⟨3, ![1, 1, 4000]⟩
abbrev S4000x128 : Shape := ⟨2, ![4000, 128]⟩
abbrev S256x136 : Shape := ⟨2, ![256, 136]⟩
abbrev S4000x8 : Shape := ⟨2, ![4000, 8]⟩
abbrev S4000x1 : Shape := ⟨2, ![4000, 1]⟩
abbrev S1x4000 : Shape := ⟨2, ![1, 4000]⟩
abbrev S256x4000 : Shape := ⟨2, ![256, 4000]⟩
abbrev S4000x136 : Shape := ⟨2, ![4000, 136]⟩
abbrev S32x256x128 : Shape := ⟨3, ![32, 256, 128]⟩
abbrev S32x256x16 : Shape := ⟨3, ![32, 256, 16]⟩
abbrev S256x1 : Shape := ⟨2, ![256, 1]⟩
abbrev S32x256x1 : Shape := ⟨3, ![32, 256, 1]⟩

abbrev nBuf : Table → Nat
  | .hbm => 20
  | .local .tc .vmem => 14
  | .local .scVector .vmem => 7
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S1x128, .f32⟩
  | .hbm, ⟨3, _⟩ => ⟨S1, .f32⟩
  | .hbm, ⟨4, _⟩ => ⟨S25x1x4000, .i32⟩
  | .hbm, ⟨5, _⟩ => ⟨S128, .f32⟩
  | .hbm, ⟨6, _⟩ => ⟨S16, .f32⟩
  | .hbm, ⟨7, _⟩ => ⟨S128x1, .f32⟩
  | .hbm, ⟨8, _⟩ => ⟨S_, .i32⟩
  | .hbm, ⟨9, _⟩ => ⟨S_, .f32⟩
  | .hbm, ⟨10, _⟩ => ⟨S128x8, .f32⟩
  | .hbm, ⟨11, _⟩ => ⟨S1x1, .f32⟩
  | .hbm, ⟨12, _⟩ => ⟨S12800000, .f32⟩
  | .hbm, ⟨13, _⟩ => ⟨S8192x128, .f32⟩
  | .hbm, ⟨14, _⟩ => ⟨S8192x16, .f32⟩
  | .hbm, ⟨15, _⟩ => ⟨S256x128, .f32⟩
  | .hbm, ⟨16, _⟩ => ⟨S256x8, .f32⟩
  | .hbm, ⟨17, _⟩ => ⟨S32x256x128, .f32⟩
  | .hbm, ⟨18, _⟩ => ⟨S32x256x16, .f32⟩
  | .hbm, ⟨19, _⟩ => ⟨S256x128, .f32⟩
  | .local .tc .vmem, ⟨0, _⟩ => ⟨S1x1x4000, .i32⟩
  | .local .tc .vmem, ⟨1, _⟩ => ⟨S1x1x4000, .i32⟩
  | .local .tc .vmem, ⟨2, _⟩ => ⟨S4000x128, .f32⟩
  | .local .tc .vmem, ⟨3, _⟩ => ⟨S4000x128, .f32⟩
  | .local .tc .vmem, ⟨4, _⟩ => ⟨S128x8, .f32⟩
  | .local .tc .vmem, ⟨5, _⟩ => ⟨S1x1, .f32⟩
  | .local .tc .vmem, ⟨6, _⟩ => ⟨S256x128, .f32⟩
  | .local .tc .vmem, ⟨7, _⟩ => ⟨S256x8, .f32⟩
  | .local .tc .vmem, ⟨8, _⟩ => ⟨S256x136, .f32⟩
  | .local .tc .vmem, ⟨9, _⟩ => ⟨S32x256x128, .f32⟩
  | .local .tc .vmem, ⟨10, _⟩ => ⟨S32x256x16, .f32⟩
  | .local .tc .vmem, ⟨11, _⟩ => ⟨S256x128, .f32⟩
  | .local .tc .vmem, ⟨12, _⟩ => ⟨S256x8, .f32⟩
  | .local .tc .vmem, ⟨13, _⟩ => ⟨S256x128, .f32⟩
  | .local .scVector .vmem, ⟨0, _⟩ => ⟨S16000, .f32⟩
  | .local .scVector .vmem, ⟨1, _⟩ => ⟨S16000, .f32⟩
  | .local .scVector .vmem, ⟨2, _⟩ => ⟨S128, .f32⟩
  | .local .scVector .vmem, ⟨3, _⟩ => ⟨S16, .f32⟩
  | .local .scVector .vmem, ⟨4, _⟩ => ⟨S1152, .i32⟩
  | .local .scVector .vmem, ⟨5, _⟩ => ⟨S256x128, .f32⟩
  | .local .scVector .vmem, ⟨6, _⟩ => ⟨S256x16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v6_scv : Ref sig .scVector := ⟨.hbm, 12, rfl⟩
abbrev main_arg1_scv : Ref sig .scVector := ⟨.hbm, 1, rfl⟩
abbrev main_v1_scv : Ref sig .scVector := ⟨.hbm, 5, rfl⟩
abbrev main_v2_scv : Ref sig .scVector := ⟨.hbm, 6, rfl⟩
abbrev main_v7_0_scv : Ref sig .scVector := ⟨.hbm, 13, rfl⟩
abbrev main_v7_1_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  ![v20.toNat]
@[reducible] def k0_t1_loop : Scf.Loop 32 :=
  let c0_i32_6 : BitVec 32 := 0#32
  let c2048_i32 : BitVec 32 := 2048#32
  let v23 : BitVec 32 := Scalar.addi c0_i32_6 c2048_i32
  let c1_i32_7 : BitVec 32 := 1#32
  ⟨c0_i32_6, v23, c1_i32_7⟩
def k0_off2 (k0_t1 : Fin k0_t1_loop.trips) : Fin 2 → Nat :=
  let c0_i32_6 : BitVec 32 := 0#32
  let c1_i32_7 : BitVec 32 := 1#32
  let arg17 : BitVec 32 := Scf.iv c0_i32_6 c1_i32_7 k0_t1
  let c0_i32_27 : BitVec 32 := 0#32
  let v56 : BitVec 1 := Scalar.cmpi .sgt arg17 c0_i32_27
  let v57 : BitVec 32 := Scalar.extui v56
  let c0_i32_28 : BitVec 32 := 0#32
  let v58 : BitVec 1 := Scalar.cmpi .slt arg17 c0_i32_28
  let v59 : BitVec 32 := Scalar.extui v58
  let v60 : BitVec 32 := Scalar.subi v57 v59
  let c8_i32_26 : BitVec 32 := 8#32
  let c0_i32_29 : BitVec 32 := 0#32
  let v61 : BitVec 1 := Scalar.cmpi .sgt c8_i32_26 c0_i32_29
  let v62 : BitVec 32 := Scalar.extui v61
  let c0_i32_30 : BitVec 32 := 0#32
  let v63 : BitVec 1 := Scalar.cmpi .slt c8_i32_26 c0_i32_30
  let v64 : BitVec 32 := Scalar.extui v63
  let v65 : BitVec 32 := Scalar.subi v62 v64
  let v66 : BitVec 1 := Scalar.cmpi .ne v60 v65
  let v67 : BitVec 32 := Scalar.remsi arg17 c8_i32_26
  let c0_i32_31 : BitVec 32 := 0#32
  let v68 : BitVec 1 := Scalar.cmpi .ne v67 c0_i32_31
  let v69 : BitVec 1 := Scalar.andi v66 v68
  let v55 : BitVec 32 := Scalar.divsi arg17 c8_i32_26
  let c1_i32_32 : BitVec 32 := 1#32
  let v70 : BitVec 32 := Scalar.subi v55 c1_i32_32
  let v71 : BitVec 32 := Scalar.select v69 v70 v55
  let v83 : Index := Scalar.indexCast v71
  let c8_i32_33 : BitVec 32 := 8#32
  let c0_i32_34 : BitVec 32 := 0#32
  let v72 : BitVec 1 := Scalar.cmpi .eq c8_i32_33 c0_i32_34
  let c1_i32_35 : BitVec 32 := 1#32
  let v73 : BitVec 32 := Scalar.select v72 c1_i32_35 c8_i32_33
  let v74 : BitVec 32 := Scalar.remsi arg17 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let c16_i32 : BitVec 32 := 16#32
  let v82 : BitVec 32 := Scalar.muli v81 c16_i32
  let v84 : Index := Scalar.indexCast v82
  ![v83.toNat, v84.toNat]
@[reducible] def k0_t2_loop : Scf.Loop 32 :=
  let c0_i32_10 : BitVec 32 := 0#32
  let c256_i32 : BitVec 32 := 256#32
  let v24 : BitVec 32 := Scalar.addi c0_i32_10 c256_i32
  let c1_i32_11 : BitVec 32 := 1#32
  ⟨c0_i32_10, v24, c1_i32_11⟩
def k0_off3 (k0_t2 : Fin k0_t2_loop.trips) : Fin 2 → Nat :=
  let c0_i32_10 : BitVec 32 := 0#32
  let c1_i32_11 : BitVec 32 := 1#32
  let arg17 : BitVec 32 := Scf.iv c0_i32_10 c1_i32_11 k0_t2
  let v55 : Index := Scalar.indexCast arg17
  let c0_26 : Index := 0#32
  ![v55.toNat, 0]
def k0_off4 (i : grid0.Coords) (c0_i32_14 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let v43 : BitVec 32 := Scalar.addi v2 c0_i32_14
  let c128_i32 : BitVec 32 := 128#32
  let v44 : BitVec 32 := Scalar.muli v43 c128_i32
  ![v44.toNat]
@[reducible] def k0_t3_loop : Scf.Loop 32 :=
  let c0_i32_16 : BitVec 32 := 0#32
  let c4_i32 : BitVec 32 := 4#32
  let v47 : BitVec 32 := Scalar.addi c0_i32_16 c4_i32
  let c1_i32_17 : BitVec 32 := 1#32
  ⟨c0_i32_16, v47, c1_i32_17⟩
def k0_off5 (i : grid0.Coords) (k0_t3 : Fin k0_t3_loop.trips) (c1_i32_27 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let c2_i32_26 : BitVec 32 := 2#32
  let c0_i32_16 : BitVec 32 := 0#32
  let c1_i32_17 : BitVec 32 := 1#32
  let arg17 : BitVec 32 := Scf.iv c0_i32_16 c1_i32_17 k0_t3
  let v55 : BitVec 32 := Scalar.muli c2_i32_26 arg17
  let v56 : BitVec 32 := Scalar.addi v55 c1_i32_27
  let c125_i32 : BitVec 32 := 125#32
  let v57 : BitVec 32 := Scalar.muli v56 c125_i32
  let v58 : BitVec 32 := Scalar.addi v2 v57
  let c128_i32_28 : BitVec 32 := 128#32
  let v59 : BitVec 32 := Scalar.muli v58 c128_i32_28
  ![v59.toNat]
def k0_off6 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let c2_i32_26 : BitVec 32 := 2#32
  let c0_i32_16 : BitVec 32 := 0#32
  let c1_i32_17 : BitVec 32 := 1#32
  let arg17 : BitVec 32 := Scf.iv c0_i32_16 c1_i32_17 k0_t3
  let v55 : BitVec 32 := Scalar.muli c2_i32_26 arg17
  let c125_i32_29 : BitVec 32 := 125#32
  let v62 : BitVec 32 := Scalar.muli v55 c125_i32_29
  let v63 : BitVec 32 := Scalar.addi v2 v62
  let c128_i32_30 : BitVec 32 := 128#32
  let v64 : BitVec 32 := Scalar.muli v63 c128_i32_30
  ![v64.toNat]
@[reducible] def k0_t4_loop : Scf.Loop 32 :=
  let c0_i32_32 : BitVec 32 := 0#32
  let c25_i32_33 : BitVec 32 := 25#32
  let v67 : BitVec 32 := Scalar.addi c0_i32_32 c25_i32_33
  let c1_i32_34 : BitVec 32 := 1#32
  ⟨c0_i32_32, v67, c1_i32_34⟩
def k0_off7 (i : grid0.Coords) (k0_t3 : Fin k0_t3_loop.trips) (k0_t4 : Fin k0_t4_loop.trips) (c0_i32_49 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c2_i32_26 : BitVec 32 := 2#32
  let c0_i32_16 : BitVec 32 := 0#32
  let c1_i32_17 : BitVec 32 := 1#32
  let arg17 : BitVec 32 := Scf.iv c0_i32_16 c1_i32_17 k0_t3
  let v55 : BitVec 32 := Scalar.muli c2_i32_26 arg17
  let c125_i32_48 : BitVec 32 := 125#32
  let v83 : BitVec 32 := Scalar.muli v55 c125_i32_48
  let v84 : BitVec 32 := Scalar.addi v21 v83
  let c0_i32_32 : BitVec 32 := 0#32
  let c1_i32_34 : BitVec 32 := 1#32
  let arg18 : BitVec 32 := Scf.iv c0_i32_32 c1_i32_34 k0_t4
  let c5_i32 : BitVec 32 := 5#32
  let v82 : BitVec 32 := Scalar.muli arg18 c5_i32
  let v85 : BitVec 32 := Scalar.addi v84 v82
  let v86 : BitVec 32 := Scalar.addi v85 c0_i32_49
  let v87 : Index := Scalar.indexCast v86
  ![v87.toNat]
def k0_off8 (k0_t4 : Fin k0_t4_loop.trips) (c0_i32_57 : BitVec 32) (c0_i32_59 : BitVec 32) : Fin 1 → Nat :=
  let c0_i32_32 : BitVec 32 := 0#32
  let c1_i32_34 : BitVec 32 := 1#32
  let arg18 : BitVec 32 := Scf.iv c0_i32_32 c1_i32_34 k0_t4
  let c5_i32 : BitVec 32 := 5#32
  let v82 : BitVec 32 := Scalar.muli arg18 c5_i32
  let v128 : BitVec 32 := Scalar.addi v82 c0_i32_57
  let c128_i32_58 : BitVec 32 := 128#32
  let v129 : BitVec 32 := Scalar.muli v128 c128_i32_58
  let v130 : BitVec 32 := Scalar.addi v129 c0_i32_59
  let v131 : Index := Scalar.indexCast v130
  ![v131.toNat]
def k0_off9 (v91 : BitVec 32) : Fin 2 → Nat :=
  let v643 : Index := Scalar.indexCast v91
  let c0_170 : Index := 0#32
  ![v643.toNat, 0]

def k0_off10 (v91 : BitVec 32) : Fin 2 → Nat :=
  let v652 : Index := Scalar.indexCast v91
  let c16_172 : Index := 16#32
  ![v652.toNat, 16]
def k0_off11 (v91 : BitVec 32) : Fin 2 → Nat :=
  let v661 : Index := Scalar.indexCast v91
  let c32_174 : Index := 32#32
  ![v661.toNat, 32]
def k0_off12 (v91 : BitVec 32) : Fin 2 → Nat :=
  let v670 : Index := Scalar.indexCast v91
  let c48_176 : Index := 48#32
  ![v670.toNat, 48]
def k0_off13 (v91 : BitVec 32) : Fin 2 → Nat :=
  let v679 : Index := Scalar.indexCast v91
  let c64_178 : Index := 64#32
  ![v679.toNat, 64]
def k0_off14 (v91 : BitVec 32) : Fin 2 → Nat :=
  let v688 : Index := Scalar.indexCast v91
  let c80_180 : Index := 80#32
  ![v688.toNat, 80]
def k0_off15 (v91 : BitVec 32) : Fin 2 → Nat :=
  let v697 : Index := Scalar.indexCast v91
  let c96_182 : Index := 96#32
  ![v697.toNat, 96]
def k0_off16 (v91 : BitVec 32) : Fin 2 → Nat :=
  let v706 : Index := Scalar.indexCast v91
  let c112_184 : Index := 112#32
  ![v706.toNat, 112]
def k0_off17 (v91 : BitVec 32) : Fin 2 → Nat :=
  let v715 : Index := Scalar.indexCast v91
  let c0_186 : Index := 0#32
  ![v715.toNat, 0]

def k0_chk1 (v91 : BitVec 32) : Prop :=
  (∀ a, (k0_off9 v91) a + S1x16.size a ≤ S256x128.size a) ∧
  (∀ a, (k0_off10 v91) a + S1x16.size a ≤ S256x128.size a) ∧
  (∀ a, (k0_off11 v91) a + S1x16.size a ≤ S256x128.size a) ∧
  (∀ a, (k0_off12 v91) a + S1x16.size a ≤ S256x128.size a) ∧
  (∀ a, (k0_off13 v91) a + S1x16.size a ≤ S256x128.size a) ∧
  (∀ a, (k0_off14 v91) a + S1x16.size a ≤ S256x128.size a) ∧
  (∀ a, (k0_off15 v91) a + S1x16.size a ≤ S256x128.size a) ∧
  (∀ a, (k0_off16 v91) a + S1x16.size a ≤ S256x128.size a) ∧
  (∀ a, (k0_off17 v91) a + S1x16.size a ≤ S256x16.size a)
theorem k0_off9_inb : ∀ (v91 : BitVec 32) (k0_hw1 : k0_chk1 v91), ∀ a, (k0_off9 v91) a + S1x16.size a ≤ S256x128.size a := fun v91 k0_hw1 => k0_hw1.1
theorem k0_off10_inb : ∀ (v91 : BitVec 32) (k0_hw1 : k0_chk1 v91), ∀ a, (k0_off10 v91) a + S1x16.size a ≤ S256x128.size a := fun v91 k0_hw1 => k0_hw1.2.1
theorem k0_off11_inb : ∀ (v91 : BitVec 32) (k0_hw1 : k0_chk1 v91), ∀ a, (k0_off11 v91) a + S1x16.size a ≤ S256x128.size a := fun v91 k0_hw1 => k0_hw1.2.2.1
theorem k0_off12_inb : ∀ (v91 : BitVec 32) (k0_hw1 : k0_chk1 v91), ∀ a, (k0_off12 v91) a + S1x16.size a ≤ S256x128.size a := fun v91 k0_hw1 => k0_hw1.2.2.2.1
theorem k0_off13_inb : ∀ (v91 : BitVec 32) (k0_hw1 : k0_chk1 v91), ∀ a, (k0_off13 v91) a + S1x16.size a ≤ S256x128.size a := fun v91 k0_hw1 => k0_hw1.2.2.2.2.1
theorem k0_off14_inb : ∀ (v91 : BitVec 32) (k0_hw1 : k0_chk1 v91), ∀ a, (k0_off14 v91) a + S1x16.size a ≤ S256x128.size a := fun v91 k0_hw1 => k0_hw1.2.2.2.2.2.1
theorem k0_off15_inb : ∀ (v91 : BitVec 32) (k0_hw1 : k0_chk1 v91), ∀ a, (k0_off15 v91) a + S1x16.size a ≤ S256x128.size a := fun v91 k0_hw1 => k0_hw1.2.2.2.2.2.2.1
theorem k0_off16_inb : ∀ (v91 : BitVec 32) (k0_hw1 : k0_chk1 v91), ∀ a, (k0_off16 v91) a + S1x16.size a ≤ S256x128.size a := fun v91 k0_hw1 => k0_hw1.2.2.2.2.2.2.2.1
theorem k0_off17_inb : ∀ (v91 : BitVec 32) (k0_hw1 : k0_chk1 v91), ∀ a, (k0_off17 v91) a + S1x16.size a ≤ S256x16.size a := fun v91 k0_hw1 => k0_hw1.2.2.2.2.2.2.2.2

def k0_off18 (v100 : BitVec 32) : Fin 2 → Nat :=
  let v723 : Index := Scalar.indexCast v100
  let c0_188 : Index := 0#32
  ![v723.toNat, 0]

def k0_off19 (v100 : BitVec 32) : Fin 2 → Nat :=
  let v732 : Index := Scalar.indexCast v100
  let c16_190 : Index := 16#32
  ![v732.toNat, 16]
def k0_off20 (v100 : BitVec 32) : Fin 2 → Nat :=
  let v741 : Index := Scalar.indexCast v100
  let c32_192 : Index := 32#32
  ![v741.toNat, 32]
def k0_off21 (v100 : BitVec 32) : Fin 2 → Nat :=
  let v750 : Index := Scalar.indexCast v100
  let c48_194 : Index := 48#32
  ![v750.toNat, 48]
def k0_off22 (v100 : BitVec 32) : Fin 2 → Nat :=
  let v759 : Index := Scalar.indexCast v100
  let c64_196 : Index := 64#32
  ![v759.toNat, 64]
def k0_off23 (v100 : BitVec 32) : Fin 2 → Nat :=
  let v768 : Index := Scalar.indexCast v100
  let c80_198 : Index := 80#32
  ![v768.toNat, 80]
def k0_off24 (v100 : BitVec 32) : Fin 2 → Nat :=
  let v777 : Index := Scalar.indexCast v100
  let c96_200 : Index := 96#32
  ![v777.toNat, 96]
def k0_off25 (v100 : BitVec 32) : Fin 2 → Nat :=
  let v786 : Index := Scalar.indexCast v100
  let c112_202 : Index := 112#32
  ![v786.toNat, 112]
def k0_off26 (v100 : BitVec 32) : Fin 2 → Nat :=
  let v795 : Index := Scalar.indexCast v100
  let c0_204 : Index := 0#32
  ![v795.toNat, 0]

def k0_chk2 (v100 : BitVec 32) : Prop :=
  (∀ a, (k0_off18 v100) a + S1x16.size a ≤ S256x128.size a) ∧
  (∀ a, (k0_off19 v100) a + S1x16.size a ≤ S256x128.size a) ∧
  (∀ a, (k0_off20 v100) a + S1x16.size a ≤ S256x128.size a) ∧
  (∀ a, (k0_off21 v100) a + S1x16.size a ≤ S256x128.size a) ∧
  (∀ a, (k0_off22 v100) a + S1x16.size a ≤ S256x128.size a) ∧
  (∀ a, (k0_off23 v100) a + S1x16.size a ≤ S256x128.size a) ∧
  (∀ a, (k0_off24 v100) a + S1x16.size a ≤ S256x128.size a) ∧
  (∀ a, (k0_off25 v100) a + S1x16.size a ≤ S256x128.size a) ∧
  (∀ a, (k0_off26 v100) a + S1x16.size a ≤ S256x16.size a)
theorem k0_off18_inb : ∀ (v100 : BitVec 32) (k0_hw2 : k0_chk2 v100), ∀ a, (k0_off18 v100) a + S1x16.size a ≤ S256x128.size a := fun v100 k0_hw2 => k0_hw2.1
theorem k0_off19_inb : ∀ (v100 : BitVec 32) (k0_hw2 : k0_chk2 v100), ∀ a, (k0_off19 v100) a + S1x16.size a ≤ S256x128.size a := fun v100 k0_hw2 => k0_hw2.2.1
theorem k0_off20_inb : ∀ (v100 : BitVec 32) (k0_hw2 : k0_chk2 v100), ∀ a, (k0_off20 v100) a + S1x16.size a ≤ S256x128.size a := fun v100 k0_hw2 => k0_hw2.2.2.1
theorem k0_off21_inb : ∀ (v100 : BitVec 32) (k0_hw2 : k0_chk2 v100), ∀ a, (k0_off21 v100) a + S1x16.size a ≤ S256x128.size a := fun v100 k0_hw2 => k0_hw2.2.2.2.1
theorem k0_off22_inb : ∀ (v100 : BitVec 32) (k0_hw2 : k0_chk2 v100), ∀ a, (k0_off22 v100) a + S1x16.size a ≤ S256x128.size a := fun v100 k0_hw2 => k0_hw2.2.2.2.2.1
theorem k0_off23_inb : ∀ (v100 : BitVec 32) (k0_hw2 : k0_chk2 v100), ∀ a, (k0_off23 v100) a + S1x16.size a ≤ S256x128.size a := fun v100 k0_hw2 => k0_hw2.2.2.2.2.2.1
theorem k0_off24_inb : ∀ (v100 : BitVec 32) (k0_hw2 : k0_chk2 v100), ∀ a, (k0_off24 v100) a + S1x16.size a ≤ S256x128.size a := fun v100 k0_hw2 => k0_hw2.2.2.2.2.2.2.1
theorem k0_off25_inb : ∀ (v100 : BitVec 32) (k0_hw2 : k0_chk2 v100), ∀ a, (k0_off25 v100) a + S1x16.size a ≤ S256x128.size a := fun v100 k0_hw2 => k0_hw2.2.2.2.2.2.2.2.1
theorem k0_off26_inb : ∀ (v100 : BitVec 32) (k0_hw2 : k0_chk2 v100), ∀ a, (k0_off26 v100) a + S1x16.size a ≤ S256x16.size a := fun v100 k0_hw2 => k0_hw2.2.2.2.2.2.2.2.2

def k0_off27 (v109 : BitVec 32) : Fin 2 → Nat :=
  let v803 : Index := Scalar.indexCast v109
  let c0_206 : Index := 0#32
  ![v803.toNat, 0]

def k0_off28 (v109 : BitVec 32) : Fin 2 → Nat :=
  let v812 : Index := Scalar.indexCast v109
  let c16_208 : Index := 16#32
  ![v812.toNat, 16]
def k0_off29 (v109 : BitVec 32) : Fin 2 → Nat :=
  let v821 : Index := Scalar.indexCast v109
  let c32_210 : Index := 32#32
  ![v821.toNat, 32]
def k0_off30 (v109 : BitVec 32) : Fin 2 → Nat :=
  let v830 : Index := Scalar.indexCast v109
  let c48_212 : Index := 48#32
  ![v830.toNat, 48]
def k0_off31 (v109 : BitVec 32) : Fin 2 → Nat :=
  let v839 : Index := Scalar.indexCast v109
  let c64_214 : Index := 64#32
  ![v839.toNat, 64]
def k0_off32 (v109 : BitVec 32) : Fin 2 → Nat :=
  let v848 : Index := Scalar.indexCast v109
  let c80_216 : Index := 80#32
  ![v848.toNat, 80]
def k0_off33 (v109 : BitVec 32) : Fin 2 → Nat :=
  let v857 : Index := Scalar.indexCast v109
  let c96_218 : Index := 96#32
  ![v857.toNat, 96]
def k0_off34 (v109 : BitVec 32) : Fin 2 → Nat :=
  let v866 : Index := Scalar.indexCast v109
  let c112_220 : Index := 112#32
  ![v866.toNat, 112]
def k0_off35 (v109 : BitVec 32) : Fin 2 → Nat :=
  let v875 : Index := Scalar.indexCast v109
  let c0_222 : Index := 0#32
  ![v875.toNat, 0]

def k0_chk3 (v109 : BitVec 32) : Prop :=
  (∀ a, (k0_off27 v109) a + S1x16.size a ≤ S256x128.size a) ∧
  (∀ a, (k0_off28 v109) a + S1x16.size a ≤ S256x128.size a) ∧
  (∀ a, (k0_off29 v109) a + S1x16.size a ≤ S256x128.size a) ∧
  (∀ a, (k0_off30 v109) a + S1x16.size a ≤ S256x128.size a) ∧
  (∀ a, (k0_off31 v109) a + S1x16.size a ≤ S256x128.size a) ∧
  (∀ a, (k0_off32 v109) a + S1x16.size a ≤ S256x128.size a) ∧
  (∀ a, (k0_off33 v109) a + S1x16.size a ≤ S256x128.size a) ∧
  (∀ a, (k0_off34 v109) a + S1x16.size a ≤ S256x128.size a) ∧
  (∀ a, (k0_off35 v109) a + S1x16.size a ≤ S256x16.size a)
theorem k0_off27_inb : ∀ (v109 : BitVec 32) (k0_hw3 : k0_chk3 v109), ∀ a, (k0_off27 v109) a + S1x16.size a ≤ S256x128.size a := fun v109 k0_hw3 => k0_hw3.1
theorem k0_off28_inb : ∀ (v109 : BitVec 32) (k0_hw3 : k0_chk3 v109), ∀ a, (k0_off28 v109) a + S1x16.size a ≤ S256x128.size a := fun v109 k0_hw3 => k0_hw3.2.1
theorem k0_off29_inb : ∀ (v109 : BitVec 32) (k0_hw3 : k0_chk3 v109), ∀ a, (k0_off29 v109) a + S1x16.size a ≤ S256x128.size a := fun v109 k0_hw3 => k0_hw3.2.2.1
theorem k0_off30_inb : ∀ (v109 : BitVec 32) (k0_hw3 : k0_chk3 v109), ∀ a, (k0_off30 v109) a + S1x16.size a ≤ S256x128.size a := fun v109 k0_hw3 => k0_hw3.2.2.2.1
theorem k0_off31_inb : ∀ (v109 : BitVec 32) (k0_hw3 : k0_chk3 v109), ∀ a, (k0_off31 v109) a + S1x16.size a ≤ S256x128.size a := fun v109 k0_hw3 => k0_hw3.2.2.2.2.1
theorem k0_off32_inb : ∀ (v109 : BitVec 32) (k0_hw3 : k0_chk3 v109), ∀ a, (k0_off32 v109) a + S1x16.size a ≤ S256x128.size a := fun v109 k0_hw3 => k0_hw3.2.2.2.2.2.1
theorem k0_off33_inb : ∀ (v109 : BitVec 32) (k0_hw3 : k0_chk3 v109), ∀ a, (k0_off33 v109) a + S1x16.size a ≤ S256x128.size a := fun v109 k0_hw3 => k0_hw3.2.2.2.2.2.2.1
theorem k0_off34_inb : ∀ (v109 : BitVec 32) (k0_hw3 : k0_chk3 v109), ∀ a, (k0_off34 v109) a + S1x16.size a ≤ S256x128.size a := fun v109 k0_hw3 => k0_hw3.2.2.2.2.2.2.2.1
theorem k0_off35_inb : ∀ (v109 : BitVec 32) (k0_hw3 : k0_chk3 v109), ∀ a, (k0_off35 v109) a + S1x16.size a ≤ S256x16.size a := fun v109 k0_hw3 => k0_hw3.2.2.2.2.2.2.2.2

def k0_off36 (v118 : BitVec 32) : Fin 2 → Nat :=
  let v883 : Index := Scalar.indexCast v118
  let c0_224 : Index := 0#32
  ![v883.toNat, 0]

def k0_off37 (v118 : BitVec 32) : Fin 2 → Nat :=
  let v892 : Index := Scalar.indexCast v118
  let c16_226 : Index := 16#32
  ![v892.toNat, 16]
def k0_off38 (v118 : BitVec 32) : Fin 2 → Nat :=
  let v901 : Index := Scalar.indexCast v118
  let c32_228 : Index := 32#32
  ![v901.toNat, 32]
def k0_off39 (v118 : BitVec 32) : Fin 2 → Nat :=
  let v910 : Index := Scalar.indexCast v118
  let c48_230 : Index := 48#32
  ![v910.toNat, 48]
def k0_off40 (v118 : BitVec 32) : Fin 2 → Nat :=
  let v919 : Index := Scalar.indexCast v118
  let c64_232 : Index := 64#32
  ![v919.toNat, 64]
def k0_off41 (v118 : BitVec 32) : Fin 2 → Nat :=
  let v928 : Index := Scalar.indexCast v118
  let c80_234 : Index := 80#32
  ![v928.toNat, 80]
def k0_off42 (v118 : BitVec 32) : Fin 2 → Nat :=
  let v937 : Index := Scalar.indexCast v118
  let c96_236 : Index := 96#32
  ![v937.toNat, 96]
def k0_off43 (v118 : BitVec 32) : Fin 2 → Nat :=
  let v946 : Index := Scalar.indexCast v118
  let c112_238 : Index := 112#32
  ![v946.toNat, 112]
def k0_off44 (v118 : BitVec 32) : Fin 2 → Nat :=
  let v955 : Index := Scalar.indexCast v118
  let c0_240 : Index := 0#32
  ![v955.toNat, 0]

def k0_chk4 (v118 : BitVec 32) : Prop :=
  (∀ a, (k0_off36 v118) a + S1x16.size a ≤ S256x128.size a) ∧
  (∀ a, (k0_off37 v118) a + S1x16.size a ≤ S256x128.size a) ∧
  (∀ a, (k0_off38 v118) a + S1x16.size a ≤ S256x128.size a) ∧
  (∀ a, (k0_off39 v118) a + S1x16.size a ≤ S256x128.size a) ∧
  (∀ a, (k0_off40 v118) a + S1x16.size a ≤ S256x128.size a) ∧
  (∀ a, (k0_off41 v118) a + S1x16.size a ≤ S256x128.size a) ∧
  (∀ a, (k0_off42 v118) a + S1x16.size a ≤ S256x128.size a) ∧
  (∀ a, (k0_off43 v118) a + S1x16.size a ≤ S256x128.size a) ∧
  (∀ a, (k0_off44 v118) a + S1x16.size a ≤ S256x16.size a)
theorem k0_off36_inb : ∀ (v118 : BitVec 32) (k0_hw4 : k0_chk4 v118), ∀ a, (k0_off36 v118) a + S1x16.size a ≤ S256x128.size a := fun v118 k0_hw4 => k0_hw4.1
theorem k0_off37_inb : ∀ (v118 : BitVec 32) (k0_hw4 : k0_chk4 v118), ∀ a, (k0_off37 v118) a + S1x16.size a ≤ S256x128.size a := fun v118 k0_hw4 => k0_hw4.2.1
theorem k0_off38_inb : ∀ (v118 : BitVec 32) (k0_hw4 : k0_chk4 v118), ∀ a, (k0_off38 v118) a + S1x16.size a ≤ S256x128.size a := fun v118 k0_hw4 => k0_hw4.2.2.1
theorem k0_off39_inb : ∀ (v118 : BitVec 32) (k0_hw4 : k0_chk4 v118), ∀ a, (k0_off39 v118) a + S1x16.size a ≤ S256x128.size a := fun v118 k0_hw4 => k0_hw4.2.2.2.1
theorem k0_off40_inb : ∀ (v118 : BitVec 32) (k0_hw4 : k0_chk4 v118), ∀ a, (k0_off40 v118) a + S1x16.size a ≤ S256x128.size a := fun v118 k0_hw4 => k0_hw4.2.2.2.2.1
theorem k0_off41_inb : ∀ (v118 : BitVec 32) (k0_hw4 : k0_chk4 v118), ∀ a, (k0_off41 v118) a + S1x16.size a ≤ S256x128.size a := fun v118 k0_hw4 => k0_hw4.2.2.2.2.2.1
theorem k0_off42_inb : ∀ (v118 : BitVec 32) (k0_hw4 : k0_chk4 v118), ∀ a, (k0_off42 v118) a + S1x16.size a ≤ S256x128.size a := fun v118 k0_hw4 => k0_hw4.2.2.2.2.2.2.1
theorem k0_off43_inb : ∀ (v118 : BitVec 32) (k0_hw4 : k0_chk4 v118), ∀ a, (k0_off43 v118) a + S1x16.size a ≤ S256x128.size a := fun v118 k0_hw4 => k0_hw4.2.2.2.2.2.2.2.1
theorem k0_off44_inb : ∀ (v118 : BitVec 32) (k0_hw4 : k0_chk4 v118), ∀ a, (k0_off44 v118) a + S1x16.size a ≤ S256x16.size a := fun v118 k0_hw4 => k0_hw4.2.2.2.2.2.2.2.2

def k0_off45 (v127 : BitVec 32) : Fin 2 → Nat :=
  let v963 : Index := Scalar.indexCast v127
  let c0_242 : Index := 0#32
  ![v963.toNat, 0]

def k0_off46 (v127 : BitVec 32) : Fin 2 → Nat :=
  let v972 : Index := Scalar.indexCast v127
  let c16_244 : Index := 16#32
  ![v972.toNat, 16]
def k0_off47 (v127 : BitVec 32) : Fin 2 → Nat :=
  let v981 : Index := Scalar.indexCast v127
  let c32_246 : Index := 32#32
  ![v981.toNat, 32]
def k0_off48 (v127 : BitVec 32) : Fin 2 → Nat :=
  let v990 : Index := Scalar.indexCast v127
  let c48_248 : Index := 48#32
  ![v990.toNat, 48]
def k0_off49 (v127 : BitVec 32) : Fin 2 → Nat :=
  let v999 : Index := Scalar.indexCast v127
  let c64_250 : Index := 64#32
  ![v999.toNat, 64]
def k0_off50 (v127 : BitVec 32) : Fin 2 → Nat :=
  let v1008 : Index := Scalar.indexCast v127
  let c80_252 : Index := 80#32
  ![v1008.toNat, 80]
def k0_off51 (v127 : BitVec 32) : Fin 2 → Nat :=
  let v1017 : Index := Scalar.indexCast v127
  let c96_254 : Index := 96#32
  ![v1017.toNat, 96]
def k0_off52 (v127 : BitVec 32) : Fin 2 → Nat :=
  let v1026 : Index := Scalar.indexCast v127
  let c112_256 : Index := 112#32
  ![v1026.toNat, 112]
def k0_off53 (v127 : BitVec 32) : Fin 2 → Nat :=
  let v1035 : Index := Scalar.indexCast v127
  let c0_258 : Index := 0#32
  ![v1035.toNat, 0]

def k0_chk5 (v127 : BitVec 32) : Prop :=
  (∀ a, (k0_off45 v127) a + S1x16.size a ≤ S256x128.size a) ∧
  (∀ a, (k0_off46 v127) a + S1x16.size a ≤ S256x128.size a) ∧
  (∀ a, (k0_off47 v127) a + S1x16.size a ≤ S256x128.size a) ∧
  (∀ a, (k0_off48 v127) a + S1x16.size a ≤ S256x128.size a) ∧
  (∀ a, (k0_off49 v127) a + S1x16.size a ≤ S256x128.size a) ∧
  (∀ a, (k0_off50 v127) a + S1x16.size a ≤ S256x128.size a) ∧
  (∀ a, (k0_off51 v127) a + S1x16.size a ≤ S256x128.size a) ∧
  (∀ a, (k0_off52 v127) a + S1x16.size a ≤ S256x128.size a) ∧
  (∀ a, (k0_off53 v127) a + S1x16.size a ≤ S256x16.size a)
theorem k0_off45_inb : ∀ (v127 : BitVec 32) (k0_hw5 : k0_chk5 v127), ∀ a, (k0_off45 v127) a + S1x16.size a ≤ S256x128.size a := fun v127 k0_hw5 => k0_hw5.1
theorem k0_off46_inb : ∀ (v127 : BitVec 32) (k0_hw5 : k0_chk5 v127), ∀ a, (k0_off46 v127) a + S1x16.size a ≤ S256x128.size a := fun v127 k0_hw5 => k0_hw5.2.1
theorem k0_off47_inb : ∀ (v127 : BitVec 32) (k0_hw5 : k0_chk5 v127), ∀ a, (k0_off47 v127) a + S1x16.size a ≤ S256x128.size a := fun v127 k0_hw5 => k0_hw5.2.2.1
theorem k0_off48_inb : ∀ (v127 : BitVec 32) (k0_hw5 : k0_chk5 v127), ∀ a, (k0_off48 v127) a + S1x16.size a ≤ S256x128.size a := fun v127 k0_hw5 => k0_hw5.2.2.2.1
theorem k0_off49_inb : ∀ (v127 : BitVec 32) (k0_hw5 : k0_chk5 v127), ∀ a, (k0_off49 v127) a + S1x16.size a ≤ S256x128.size a := fun v127 k0_hw5 => k0_hw5.2.2.2.2.1
theorem k0_off50_inb : ∀ (v127 : BitVec 32) (k0_hw5 : k0_chk5 v127), ∀ a, (k0_off50 v127) a + S1x16.size a ≤ S256x128.size a := fun v127 k0_hw5 => k0_hw5.2.2.2.2.2.1
theorem k0_off51_inb : ∀ (v127 : BitVec 32) (k0_hw5 : k0_chk5 v127), ∀ a, (k0_off51 v127) a + S1x16.size a ≤ S256x128.size a := fun v127 k0_hw5 => k0_hw5.2.2.2.2.2.2.1
theorem k0_off52_inb : ∀ (v127 : BitVec 32) (k0_hw5 : k0_chk5 v127), ∀ a, (k0_off52 v127) a + S1x16.size a ≤ S256x128.size a := fun v127 k0_hw5 => k0_hw5.2.2.2.2.2.2.2.1
theorem k0_off53_inb : ∀ (v127 : BitVec 32) (k0_hw5 : k0_chk5 v127), ∀ a, (k0_off53 v127) a + S1x16.size a ≤ S256x16.size a := fun v127 k0_hw5 => k0_hw5.2.2.2.2.2.2.2.2

@[reducible] def k0_t5_loop : Scf.Loop 32 :=
  let c0_i32_44 : BitVec 32 := 0#32
  let c25_i32_45 : BitVec 32 := 25#32
  let v81 : BitVec 32 := Scalar.addi c0_i32_44 c25_i32_45
  let c1_i32_46 : BitVec 32 := 1#32
  ⟨c0_i32_44, v81, c1_i32_46⟩
def k0_off54 (i : grid0.Coords) (k0_t3 : Fin k0_t3_loop.trips) (k0_t5 : Fin k0_t5_loop.trips) (c0_i32_49 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c2_i32_26 : BitVec 32 := 2#32
  let c0_i32_16 : BitVec 32 := 0#32
  let c1_i32_17 : BitVec 32 := 1#32
  let arg17 : BitVec 32 := Scf.iv c0_i32_16 c1_i32_17 k0_t3
  let v55 : BitVec 32 := Scalar.muli c2_i32_26 arg17
  let c1_i32_42 : BitVec 32 := 1#32
  let v80 : BitVec 32 := Scalar.addi v55 c1_i32_42
  let c125_i32_48 : BitVec 32 := 125#32
  let v83 : BitVec 32 := Scalar.muli v80 c125_i32_48
  let v84 : BitVec 32 := Scalar.addi v21 v83
  let c0_i32_44 : BitVec 32 := 0#32
  let c1_i32_46 : BitVec 32 := 1#32
  let arg18 : BitVec 32 := Scf.iv c0_i32_44 c1_i32_46 k0_t5
  let c5_i32 : BitVec 32 := 5#32
  let v82 : BitVec 32 := Scalar.muli arg18 c5_i32
  let v85 : BitVec 32 := Scalar.addi v84 v82
  let v86 : BitVec 32 := Scalar.addi v85 c0_i32_49
  let v87 : Index := Scalar.indexCast v86
  ![v87.toNat]
def k0_off55 (k0_t5 : Fin k0_t5_loop.trips) (c0_i32_57 : BitVec 32) (c0_i32_59 : BitVec 32) : Fin 1 → Nat :=
  let c0_i32_44 : BitVec 32 := 0#32
  let c1_i32_46 : BitVec 32 := 1#32
  let arg18 : BitVec 32 := Scf.iv c0_i32_44 c1_i32_46 k0_t5
  let c5_i32 : BitVec 32 := 5#32
  let v82 : BitVec 32 := Scalar.muli arg18 c5_i32
  let v128 : BitVec 32 := Scalar.addi v82 c0_i32_57
  let c128_i32_58 : BitVec 32 := 128#32
  let v129 : BitVec 32 := Scalar.muli v128 c128_i32_58
  let v130 : BitVec 32 := Scalar.addi v129 c0_i32_59
  let v131 : Index := Scalar.indexCast v130
  ![v131.toNat]
def k0_off56 (v91 : BitVec 32) : Fin 2 → Nat :=
  let v643 : Index := Scalar.indexCast v91
  let c0_170 : Index := 0#32
  ![v643.toNat, 0]

def k0_off57 (v91 : BitVec 32) : Fin 2 → Nat :=
  let v652 : Index := Scalar.indexCast v91
  let c16_172 : Index := 16#32
  ![v652.toNat, 16]
def k0_off58 (v91 : BitVec 32) : Fin 2 → Nat :=
  let v661 : Index := Scalar.indexCast v91
  let c32_174 : Index := 32#32
  ![v661.toNat, 32]
def k0_off59 (v91 : BitVec 32) : Fin 2 → Nat :=
  let v670 : Index := Scalar.indexCast v91
  let c48_176 : Index := 48#32
  ![v670.toNat, 48]
def k0_off60 (v91 : BitVec 32) : Fin 2 → Nat :=
  let v679 : Index := Scalar.indexCast v91
  let c64_178 : Index := 64#32
  ![v679.toNat, 64]
def k0_off61 (v91 : BitVec 32) : Fin 2 → Nat :=
  let v688 : Index := Scalar.indexCast v91
  let c80_180 : Index := 80#32
  ![v688.toNat, 80]
def k0_off62 (v91 : BitVec 32) : Fin 2 → Nat :=
  let v697 : Index := Scalar.indexCast v91
  let c96_182 : Index := 96#32
  ![v697.toNat, 96]
def k0_off63 (v91 : BitVec 32) : Fin 2 → Nat :=
  let v706 : Index := Scalar.indexCast v91
  let c112_184 : Index := 112#32
  ![v706.toNat, 112]
def k0_off64 (v91 : BitVec 32) : Fin 2 → Nat :=
  let v715 : Index := Scalar.indexCast v91
  let c0_186 : Index := 0#32
  ![v715.toNat, 0]

def k0_chk6 (v91 : BitVec 32) : Prop :=
  (∀ a, (k0_off56 v91) a + S1x16.size a ≤ S256x128.size a) ∧
  (∀ a, (k0_off57 v91) a + S1x16.size a ≤ S256x128.size a) ∧
  (∀ a, (k0_off58 v91) a + S1x16.size a ≤ S256x128.size a) ∧
  (∀ a, (k0_off59 v91) a + S1x16.size a ≤ S256x128.size a) ∧
  (∀ a, (k0_off60 v91) a + S1x16.size a ≤ S256x128.size a) ∧
  (∀ a, (k0_off61 v91) a + S1x16.size a ≤ S256x128.size a) ∧
  (∀ a, (k0_off62 v91) a + S1x16.size a ≤ S256x128.size a) ∧
  (∀ a, (k0_off63 v91) a + S1x16.size a ≤ S256x128.size a) ∧
  (∀ a, (k0_off64 v91) a + S1x16.size a ≤ S256x16.size a)
theorem k0_off56_inb : ∀ (v91 : BitVec 32) (k0_hw6 : k0_chk6 v91), ∀ a, (k0_off56 v91) a + S1x16.size a ≤ S256x128.size a := fun v91 k0_hw6 => k0_hw6.1
theorem k0_off57_inb : ∀ (v91 : BitVec 32) (k0_hw6 : k0_chk6 v91), ∀ a, (k0_off57 v91) a + S1x16.size a ≤ S256x128.size a := fun v91 k0_hw6 => k0_hw6.2.1
theorem k0_off58_inb : ∀ (v91 : BitVec 32) (k0_hw6 : k0_chk6 v91), ∀ a, (k0_off58 v91) a + S1x16.size a ≤ S256x128.size a := fun v91 k0_hw6 => k0_hw6.2.2.1
theorem k0_off59_inb : ∀ (v91 : BitVec 32) (k0_hw6 : k0_chk6 v91), ∀ a, (k0_off59 v91) a + S1x16.size a ≤ S256x128.size a := fun v91 k0_hw6 => k0_hw6.2.2.2.1
theorem k0_off60_inb : ∀ (v91 : BitVec 32) (k0_hw6 : k0_chk6 v91), ∀ a, (k0_off60 v91) a + S1x16.size a ≤ S256x128.size a := fun v91 k0_hw6 => k0_hw6.2.2.2.2.1
theorem k0_off61_inb : ∀ (v91 : BitVec 32) (k0_hw6 : k0_chk6 v91), ∀ a, (k0_off61 v91) a + S1x16.size a ≤ S256x128.size a := fun v91 k0_hw6 => k0_hw6.2.2.2.2.2.1
theorem k0_off62_inb : ∀ (v91 : BitVec 32) (k0_hw6 : k0_chk6 v91), ∀ a, (k0_off62 v91) a + S1x16.size a ≤ S256x128.size a := fun v91 k0_hw6 => k0_hw6.2.2.2.2.2.2.1
theorem k0_off63_inb : ∀ (v91 : BitVec 32) (k0_hw6 : k0_chk6 v91), ∀ a, (k0_off63 v91) a + S1x16.size a ≤ S256x128.size a := fun v91 k0_hw6 => k0_hw6.2.2.2.2.2.2.2.1
theorem k0_off64_inb : ∀ (v91 : BitVec 32) (k0_hw6 : k0_chk6 v91), ∀ a, (k0_off64 v91) a + S1x16.size a ≤ S256x16.size a := fun v91 k0_hw6 => k0_hw6.2.2.2.2.2.2.2.2

def k0_off65 (v100 : BitVec 32) : Fin 2 → Nat :=
  let v723 : Index := Scalar.indexCast v100
  let c0_188 : Index := 0#32
  ![v723.toNat, 0]

def k0_off66 (v100 : BitVec 32) : Fin 2 → Nat :=
  let v732 : Index := Scalar.indexCast v100
  let c16_190 : Index := 16#32
  ![v732.toNat, 16]
def k0_off67 (v100 : BitVec 32) : Fin 2 → Nat :=
  let v741 : Index := Scalar.indexCast v100
  let c32_192 : Index := 32#32
  ![v741.toNat, 32]
def k0_off68 (v100 : BitVec 32) : Fin 2 → Nat :=
  let v750 : Index := Scalar.indexCast v100
  let c48_194 : Index := 48#32
  ![v750.toNat, 48]
def k0_off69 (v100 : BitVec 32) : Fin 2 → Nat :=
  let v759 : Index := Scalar.indexCast v100
  let c64_196 : Index := 64#32
  ![v759.toNat, 64]
def k0_off70 (v100 : BitVec 32) : Fin 2 → Nat :=
  let v768 : Index := Scalar.indexCast v100
  let c80_198 : Index := 80#32
  ![v768.toNat, 80]
def k0_off71 (v100 : BitVec 32) : Fin 2 → Nat :=
  let v777 : Index := Scalar.indexCast v100
  let c96_200 : Index := 96#32
  ![v777.toNat, 96]
def k0_off72 (v100 : BitVec 32) : Fin 2 → Nat :=
  let v786 : Index := Scalar.indexCast v100
  let c112_202 : Index := 112#32
  ![v786.toNat, 112]
def k0_off73 (v100 : BitVec 32) : Fin 2 → Nat :=
  let v795 : Index := Scalar.indexCast v100
  let c0_204 : Index := 0#32
  ![v795.toNat, 0]

def k0_chk7 (v100 : BitVec 32) : Prop :=
  (∀ a, (k0_off65 v100) a + S1x16.size a ≤ S256x128.size a) ∧
  (∀ a, (k0_off66 v100) a + S1x16.size a ≤ S256x128.size a) ∧
  (∀ a, (k0_off67 v100) a + S1x16.size a ≤ S256x128.size a) ∧
  (∀ a, (k0_off68 v100) a + S1x16.size a ≤ S256x128.size a) ∧
  (∀ a, (k0_off69 v100) a + S1x16.size a ≤ S256x128.size a) ∧
  (∀ a, (k0_off70 v100) a + S1x16.size a ≤ S256x128.size a) ∧
  (∀ a, (k0_off71 v100) a + S1x16.size a ≤ S256x128.size a) ∧
  (∀ a, (k0_off72 v100) a + S1x16.size a ≤ S256x128.size a) ∧
  (∀ a, (k0_off73 v100) a + S1x16.size a ≤ S256x16.size a)
theorem k0_off65_inb : ∀ (v100 : BitVec 32) (k0_hw7 : k0_chk7 v100), ∀ a, (k0_off65 v100) a + S1x16.size a ≤ S256x128.size a := fun v100 k0_hw7 => k0_hw7.1
theorem k0_off66_inb : ∀ (v100 : BitVec 32) (k0_hw7 : k0_chk7 v100), ∀ a, (k0_off66 v100) a + S1x16.size a ≤ S256x128.size a := fun v100 k0_hw7 => k0_hw7.2.1
theorem k0_off67_inb : ∀ (v100 : BitVec 32) (k0_hw7 : k0_chk7 v100), ∀ a, (k0_off67 v100) a + S1x16.size a ≤ S256x128.size a := fun v100 k0_hw7 => k0_hw7.2.2.1
theorem k0_off68_inb : ∀ (v100 : BitVec 32) (k0_hw7 : k0_chk7 v100), ∀ a, (k0_off68 v100) a + S1x16.size a ≤ S256x128.size a := fun v100 k0_hw7 => k0_hw7.2.2.2.1
theorem k0_off69_inb : ∀ (v100 : BitVec 32) (k0_hw7 : k0_chk7 v100), ∀ a, (k0_off69 v100) a + S1x16.size a ≤ S256x128.size a := fun v100 k0_hw7 => k0_hw7.2.2.2.2.1
theorem k0_off70_inb : ∀ (v100 : BitVec 32) (k0_hw7 : k0_chk7 v100), ∀ a, (k0_off70 v100) a + S1x16.size a ≤ S256x128.size a := fun v100 k0_hw7 => k0_hw7.2.2.2.2.2.1
theorem k0_off71_inb : ∀ (v100 : BitVec 32) (k0_hw7 : k0_chk7 v100), ∀ a, (k0_off71 v100) a + S1x16.size a ≤ S256x128.size a := fun v100 k0_hw7 => k0_hw7.2.2.2.2.2.2.1
theorem k0_off72_inb : ∀ (v100 : BitVec 32) (k0_hw7 : k0_chk7 v100), ∀ a, (k0_off72 v100) a + S1x16.size a ≤ S256x128.size a := fun v100 k0_hw7 => k0_hw7.2.2.2.2.2.2.2.1
theorem k0_off73_inb : ∀ (v100 : BitVec 32) (k0_hw7 : k0_chk7 v100), ∀ a, (k0_off73 v100) a + S1x16.size a ≤ S256x16.size a := fun v100 k0_hw7 => k0_hw7.2.2.2.2.2.2.2.2

def k0_off74 (v109 : BitVec 32) : Fin 2 → Nat :=
  let v803 : Index := Scalar.indexCast v109
  let c0_206 : Index := 0#32
  ![v803.toNat, 0]

def k0_off75 (v109 : BitVec 32) : Fin 2 → Nat :=
  let v812 : Index := Scalar.indexCast v109
  let c16_208 : Index := 16#32
  ![v812.toNat, 16]
def k0_off76 (v109 : BitVec 32) : Fin 2 → Nat :=
  let v821 : Index := Scalar.indexCast v109
  let c32_210 : Index := 32#32
  ![v821.toNat, 32]
def k0_off77 (v109 : BitVec 32) : Fin 2 → Nat :=
  let v830 : Index := Scalar.indexCast v109
  let c48_212 : Index := 48#32
  ![v830.toNat, 48]
def k0_off78 (v109 : BitVec 32) : Fin 2 → Nat :=
  let v839 : Index := Scalar.indexCast v109
  let c64_214 : Index := 64#32
  ![v839.toNat, 64]
def k0_off79 (v109 : BitVec 32) : Fin 2 → Nat :=
  let v848 : Index := Scalar.indexCast v109
  let c80_216 : Index := 80#32
  ![v848.toNat, 80]
def k0_off80 (v109 : BitVec 32) : Fin 2 → Nat :=
  let v857 : Index := Scalar.indexCast v109
  let c96_218 : Index := 96#32
  ![v857.toNat, 96]
def k0_off81 (v109 : BitVec 32) : Fin 2 → Nat :=
  let v866 : Index := Scalar.indexCast v109
  let c112_220 : Index := 112#32
  ![v866.toNat, 112]
def k0_off82 (v109 : BitVec 32) : Fin 2 → Nat :=
  let v875 : Index := Scalar.indexCast v109
  let c0_222 : Index := 0#32
  ![v875.toNat, 0]

def k0_chk8 (v109 : BitVec 32) : Prop :=
  (∀ a, (k0_off74 v109) a + S1x16.size a ≤ S256x128.size a) ∧
  (∀ a, (k0_off75 v109) a + S1x16.size a ≤ S256x128.size a) ∧
  (∀ a, (k0_off76 v109) a + S1x16.size a ≤ S256x128.size a) ∧
  (∀ a, (k0_off77 v109) a + S1x16.size a ≤ S256x128.size a) ∧
  (∀ a, (k0_off78 v109) a + S1x16.size a ≤ S256x128.size a) ∧
  (∀ a, (k0_off79 v109) a + S1x16.size a ≤ S256x128.size a) ∧
  (∀ a, (k0_off80 v109) a + S1x16.size a ≤ S256x128.size a) ∧
  (∀ a, (k0_off81 v109) a + S1x16.size a ≤ S256x128.size a) ∧
  (∀ a, (k0_off82 v109) a + S1x16.size a ≤ S256x16.size a)
theorem k0_off74_inb : ∀ (v109 : BitVec 32) (k0_hw8 : k0_chk8 v109), ∀ a, (k0_off74 v109) a + S1x16.size a ≤ S256x128.size a := fun v109 k0_hw8 => k0_hw8.1
theorem k0_off75_inb : ∀ (v109 : BitVec 32) (k0_hw8 : k0_chk8 v109), ∀ a, (k0_off75 v109) a + S1x16.size a ≤ S256x128.size a := fun v109 k0_hw8 => k0_hw8.2.1
theorem k0_off76_inb : ∀ (v109 : BitVec 32) (k0_hw8 : k0_chk8 v109), ∀ a, (k0_off76 v109) a + S1x16.size a ≤ S256x128.size a := fun v109 k0_hw8 => k0_hw8.2.2.1
theorem k0_off77_inb : ∀ (v109 : BitVec 32) (k0_hw8 : k0_chk8 v109), ∀ a, (k0_off77 v109) a + S1x16.size a ≤ S256x128.size a := fun v109 k0_hw8 => k0_hw8.2.2.2.1
theorem k0_off78_inb : ∀ (v109 : BitVec 32) (k0_hw8 : k0_chk8 v109), ∀ a, (k0_off78 v109) a + S1x16.size a ≤ S256x128.size a := fun v109 k0_hw8 => k0_hw8.2.2.2.2.1
theorem k0_off79_inb : ∀ (v109 : BitVec 32) (k0_hw8 : k0_chk8 v109), ∀ a, (k0_off79 v109) a + S1x16.size a ≤ S256x128.size a := fun v109 k0_hw8 => k0_hw8.2.2.2.2.2.1
theorem k0_off80_inb : ∀ (v109 : BitVec 32) (k0_hw8 : k0_chk8 v109), ∀ a, (k0_off80 v109) a + S1x16.size a ≤ S256x128.size a := fun v109 k0_hw8 => k0_hw8.2.2.2.2.2.2.1
theorem k0_off81_inb : ∀ (v109 : BitVec 32) (k0_hw8 : k0_chk8 v109), ∀ a, (k0_off81 v109) a + S1x16.size a ≤ S256x128.size a := fun v109 k0_hw8 => k0_hw8.2.2.2.2.2.2.2.1
theorem k0_off82_inb : ∀ (v109 : BitVec 32) (k0_hw8 : k0_chk8 v109), ∀ a, (k0_off82 v109) a + S1x16.size a ≤ S256x16.size a := fun v109 k0_hw8 => k0_hw8.2.2.2.2.2.2.2.2

def k0_off83 (v118 : BitVec 32) : Fin 2 → Nat :=
  let v883 : Index := Scalar.indexCast v118
  let c0_224 : Index := 0#32
  ![v883.toNat, 0]

def k0_off84 (v118 : BitVec 32) : Fin 2 → Nat :=
  let v892 : Index := Scalar.indexCast v118
  let c16_226 : Index := 16#32
  ![v892.toNat, 16]
def k0_off85 (v118 : BitVec 32) : Fin 2 → Nat :=
  let v901 : Index := Scalar.indexCast v118
  let c32_228 : Index := 32#32
  ![v901.toNat, 32]
def k0_off86 (v118 : BitVec 32) : Fin 2 → Nat :=
  let v910 : Index := Scalar.indexCast v118
  let c48_230 : Index := 48#32
  ![v910.toNat, 48]
def k0_off87 (v118 : BitVec 32) : Fin 2 → Nat :=
  let v919 : Index := Scalar.indexCast v118
  let c64_232 : Index := 64#32
  ![v919.toNat, 64]
def k0_off88 (v118 : BitVec 32) : Fin 2 → Nat :=
  let v928 : Index := Scalar.indexCast v118
  let c80_234 : Index := 80#32
  ![v928.toNat, 80]
def k0_off89 (v118 : BitVec 32) : Fin 2 → Nat :=
  let v937 : Index := Scalar.indexCast v118
  let c96_236 : Index := 96#32
  ![v937.toNat, 96]
def k0_off90 (v118 : BitVec 32) : Fin 2 → Nat :=
  let v946 : Index := Scalar.indexCast v118
  let c112_238 : Index := 112#32
  ![v946.toNat, 112]
def k0_off91 (v118 : BitVec 32) : Fin 2 → Nat :=
  let v955 : Index := Scalar.indexCast v118
  let c0_240 : Index := 0#32
  ![v955.toNat, 0]

def k0_chk9 (v118 : BitVec 32) : Prop :=
  (∀ a, (k0_off83 v118) a + S1x16.size a ≤ S256x128.size a) ∧
  (∀ a, (k0_off84 v118) a + S1x16.size a ≤ S256x128.size a) ∧
  (∀ a, (k0_off85 v118) a + S1x16.size a ≤ S256x128.size a) ∧
  (∀ a, (k0_off86 v118) a + S1x16.size a ≤ S256x128.size a) ∧
  (∀ a, (k0_off87 v118) a + S1x16.size a ≤ S256x128.size a) ∧
  (∀ a, (k0_off88 v118) a + S1x16.size a ≤ S256x128.size a) ∧
  (∀ a, (k0_off89 v118) a + S1x16.size a ≤ S256x128.size a) ∧
  (∀ a, (k0_off90 v118) a + S1x16.size a ≤ S256x128.size a) ∧
  (∀ a, (k0_off91 v118) a + S1x16.size a ≤ S256x16.size a)
theorem k0_off83_inb : ∀ (v118 : BitVec 32) (k0_hw9 : k0_chk9 v118), ∀ a, (k0_off83 v118) a + S1x16.size a ≤ S256x128.size a := fun v118 k0_hw9 => k0_hw9.1
theorem k0_off84_inb : ∀ (v118 : BitVec 32) (k0_hw9 : k0_chk9 v118), ∀ a, (k0_off84 v118) a + S1x16.size a ≤ S256x128.size a := fun v118 k0_hw9 => k0_hw9.2.1
theorem k0_off85_inb : ∀ (v118 : BitVec 32) (k0_hw9 : k0_chk9 v118), ∀ a, (k0_off85 v118) a + S1x16.size a ≤ S256x128.size a := fun v118 k0_hw9 => k0_hw9.2.2.1
theorem k0_off86_inb : ∀ (v118 : BitVec 32) (k0_hw9 : k0_chk9 v118), ∀ a, (k0_off86 v118) a + S1x16.size a ≤ S256x128.size a := fun v118 k0_hw9 => k0_hw9.2.2.2.1
theorem k0_off87_inb : ∀ (v118 : BitVec 32) (k0_hw9 : k0_chk9 v118), ∀ a, (k0_off87 v118) a + S1x16.size a ≤ S256x128.size a := fun v118 k0_hw9 => k0_hw9.2.2.2.2.1
theorem k0_off88_inb : ∀ (v118 : BitVec 32) (k0_hw9 : k0_chk9 v118), ∀ a, (k0_off88 v118) a + S1x16.size a ≤ S256x128.size a := fun v118 k0_hw9 => k0_hw9.2.2.2.2.2.1
theorem k0_off89_inb : ∀ (v118 : BitVec 32) (k0_hw9 : k0_chk9 v118), ∀ a, (k0_off89 v118) a + S1x16.size a ≤ S256x128.size a := fun v118 k0_hw9 => k0_hw9.2.2.2.2.2.2.1
theorem k0_off90_inb : ∀ (v118 : BitVec 32) (k0_hw9 : k0_chk9 v118), ∀ a, (k0_off90 v118) a + S1x16.size a ≤ S256x128.size a := fun v118 k0_hw9 => k0_hw9.2.2.2.2.2.2.2.1
theorem k0_off91_inb : ∀ (v118 : BitVec 32) (k0_hw9 : k0_chk9 v118), ∀ a, (k0_off91 v118) a + S1x16.size a ≤ S256x16.size a := fun v118 k0_hw9 => k0_hw9.2.2.2.2.2.2.2.2

def k0_off92 (v127 : BitVec 32) : Fin 2 → Nat :=
  let v963 : Index := Scalar.indexCast v127
  let c0_242 : Index := 0#32
  ![v963.toNat, 0]

def k0_off93 (v127 : BitVec 32) : Fin 2 → Nat :=
  let v972 : Index := Scalar.indexCast v127
  let c16_244 : Index := 16#32
  ![v972.toNat, 16]
def k0_off94 (v127 : BitVec 32) : Fin 2 → Nat :=
  let v981 : Index := Scalar.indexCast v127
  let c32_246 : Index := 32#32
  ![v981.toNat, 32]
def k0_off95 (v127 : BitVec 32) : Fin 2 → Nat :=
  let v990 : Index := Scalar.indexCast v127
  let c48_248 : Index := 48#32
  ![v990.toNat, 48]
def k0_off96 (v127 : BitVec 32) : Fin 2 → Nat :=
  let v999 : Index := Scalar.indexCast v127
  let c64_250 : Index := 64#32
  ![v999.toNat, 64]
def k0_off97 (v127 : BitVec 32) : Fin 2 → Nat :=
  let v1008 : Index := Scalar.indexCast v127
  let c80_252 : Index := 80#32
  ![v1008.toNat, 80]
def k0_off98 (v127 : BitVec 32) : Fin 2 → Nat :=
  let v1017 : Index := Scalar.indexCast v127
  let c96_254 : Index := 96#32
  ![v1017.toNat, 96]
def k0_off99 (v127 : BitVec 32) : Fin 2 → Nat :=
  let v1026 : Index := Scalar.indexCast v127
  let c112_256 : Index := 112#32
  ![v1026.toNat, 112]
def k0_off100 (v127 : BitVec 32) : Fin 2 → Nat :=
  let v1035 : Index := Scalar.indexCast v127
  let c0_258 : Index := 0#32
  ![v1035.toNat, 0]

def k0_chk10 (v127 : BitVec 32) : Prop :=
  (∀ a, (k0_off92 v127) a + S1x16.size a ≤ S256x128.size a) ∧
  (∀ a, (k0_off93 v127) a + S1x16.size a ≤ S256x128.size a) ∧
  (∀ a, (k0_off94 v127) a + S1x16.size a ≤ S256x128.size a) ∧
  (∀ a, (k0_off95 v127) a + S1x16.size a ≤ S256x128.size a) ∧
  (∀ a, (k0_off96 v127) a + S1x16.size a ≤ S256x128.size a) ∧
  (∀ a, (k0_off97 v127) a + S1x16.size a ≤ S256x128.size a) ∧
  (∀ a, (k0_off98 v127) a + S1x16.size a ≤ S256x128.size a) ∧
  (∀ a, (k0_off99 v127) a + S1x16.size a ≤ S256x128.size a) ∧
  (∀ a, (k0_off100 v127) a + S1x16.size a ≤ S256x16.size a)
theorem k0_off92_inb : ∀ (v127 : BitVec 32) (k0_hw10 : k0_chk10 v127), ∀ a, (k0_off92 v127) a + S1x16.size a ≤ S256x128.size a := fun v127 k0_hw10 => k0_hw10.1
theorem k0_off93_inb : ∀ (v127 : BitVec 32) (k0_hw10 : k0_chk10 v127), ∀ a, (k0_off93 v127) a + S1x16.size a ≤ S256x128.size a := fun v127 k0_hw10 => k0_hw10.2.1
theorem k0_off94_inb : ∀ (v127 : BitVec 32) (k0_hw10 : k0_chk10 v127), ∀ a, (k0_off94 v127) a + S1x16.size a ≤ S256x128.size a := fun v127 k0_hw10 => k0_hw10.2.2.1
theorem k0_off95_inb : ∀ (v127 : BitVec 32) (k0_hw10 : k0_chk10 v127), ∀ a, (k0_off95 v127) a + S1x16.size a ≤ S256x128.size a := fun v127 k0_hw10 => k0_hw10.2.2.2.1
theorem k0_off96_inb : ∀ (v127 : BitVec 32) (k0_hw10 : k0_chk10 v127), ∀ a, (k0_off96 v127) a + S1x16.size a ≤ S256x128.size a := fun v127 k0_hw10 => k0_hw10.2.2.2.2.1
theorem k0_off97_inb : ∀ (v127 : BitVec 32) (k0_hw10 : k0_chk10 v127), ∀ a, (k0_off97 v127) a + S1x16.size a ≤ S256x128.size a := fun v127 k0_hw10 => k0_hw10.2.2.2.2.2.1
theorem k0_off98_inb : ∀ (v127 : BitVec 32) (k0_hw10 : k0_chk10 v127), ∀ a, (k0_off98 v127) a + S1x16.size a ≤ S256x128.size a := fun v127 k0_hw10 => k0_hw10.2.2.2.2.2.2.1
theorem k0_off99_inb : ∀ (v127 : BitVec 32) (k0_hw10 : k0_chk10 v127), ∀ a, (k0_off99 v127) a + S1x16.size a ≤ S256x128.size a := fun v127 k0_hw10 => k0_hw10.2.2.2.2.2.2.2.1
theorem k0_off100_inb : ∀ (v127 : BitVec 32) (k0_hw10 : k0_chk10 v127), ∀ a, (k0_off100 v127) a + S1x16.size a ≤ S256x16.size a := fun v127 k0_hw10 => k0_hw10.2.2.2.2.2.2.2.2

@[reducible] def k0_t6_loop : Scf.Loop 32 :=
  let c0_i32_21 : BitVec 32 := 0#32
  let c25_i32 : BitVec 32 := 25#32
  let v52 : BitVec 32 := Scalar.addi c0_i32_21 c25_i32
  let c1_i32_22 : BitVec 32 := 1#32
  ⟨c0_i32_21, v52, c1_i32_22⟩
def k0_off101 (i : grid0.Coords) (k0_t6 : Fin k0_t6_loop.trips) (c0_i32_27 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1125_i32 : BitVec 32 := 1125#32
  let v2 : BitVec 32 := Scalar.muli v1 c1125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c1000_i32_26 : BitVec 32 := 1000#32
  let v56 : BitVec 32 := Scalar.addi v21 c1000_i32_26
  let c0_i32_21 : BitVec 32 := 0#32
  let c1_i32_22 : BitVec 32 := 1#32
  let arg17 : BitVec 32 := Scf.iv c0_i32_21 c1_i32_22 k0_t6
  let c5_i32 : BitVec 32 := 5#32
  let v55 : BitVec 32 := Scalar.muli arg17 c5_i32
  let v57 : BitVec 32 := Scalar.addi v56 v55
  let v58 : BitVec 32 := Scalar.addi v57 c0_i32_27
  let v59 : Index := Scalar.indexCast v58
  ![v59.toNat]
def k0_off102 (k0_t6 : Fin k0_t6_loop.trips) (c0_i32_35 : BitVec 32) (c0_i32_37 : BitVec 32) : Fin 1 → Nat :=
  let c0_i32_21 : BitVec 32 := 0#32
  let c1_i32_22 : BitVec 32 := 1#32
  let arg17 : BitVec 32 := Scf.iv c0_i32_21 c1_i32_22 k0_t6
  let c5_i32 : BitVec 32 := 5#32
  let v55 : BitVec 32 := Scalar.muli arg17 c5_i32
  let v96 : BitVec 32 := Scalar.addi v55 c0_i32_35
  let c128_i32_36 : BitVec 32 := 128#32
  let v97 : BitVec 32 := Scalar.muli v96 c128_i32_36
  let v98 : BitVec 32 := Scalar.addi v97 c0_i32_37
  let v99 : Index := Scalar.indexCast v98
  ![v99.toNat]
def k0_off103 (v63 : BitVec 32) : Fin 2 → Nat :=
  let v611 : Index := Scalar.indexCast v63
  let c0_148 : Index := 0#32
  ![v611.toNat, 0]

def k0_off104 (v63 : BitVec 32) : Fin 2 → Nat :=
  let v620 : Index := Scalar.indexCast v63
  let c16_150 : Index := 16#32
  ![v620.toNat, 16]
def k0_off105 (v63 : BitVec 32) : Fin 2 → Nat :=
  let v629 : Index := Scalar.indexCast v63
  let c32_152 : Index := 32#32
  ![v629.toNat, 32]
def k0_off106 (v63 : BitVec 32) : Fin 2 → Nat :=
  let v638 : Index := Scalar.indexCast v63
  let c48_154 : Index := 48#32
  ![v638.toNat, 48]
def k0_off107 (v63 : BitVec 32) : Fin 2 → Nat :=
  let v647 : Index := Scalar.indexCast v63
  let c64_156 : Index := 64#32
  ![v647.toNat, 64]
def k0_off108 (v63 : BitVec 32) : Fin 2 → Nat :=
  let v656 : Index := Scalar.indexCast v63
  let c80_158 : Index := 80#32
  ![v656.toNat, 80]
def k0_off109 (v63 : BitVec 32) : Fin 2 → Nat :=
  let v665 : Index := Scalar.indexCast v63
  let c96_160 : Index := 96#32
  ![v665.toNat, 96]
def k0_off110 (v63 : BitVec 32) : Fin 2 → Nat :=
  let v674 : Index := Scalar.indexCast v63
  let c112_162 : Index := 112#32
  ![v674.toNat, 112]
def k0_off111 (v63 : BitVec 32) : Fin 2 → Nat :=
  let v683 : Index := Scalar.indexCast v63
  let c0_164 : Index := 0#32
  ![v683.toNat, 0]

def k0_chk11 (v63 : BitVec 32) : Prop :=
  (∀ a, (k0_off103 v63) a + S1x16.size a ≤ S256x128.size a) ∧
  (∀ a, (k0_off104 v63) a + S1x16.size a ≤ S256x128.size a) ∧
  (∀ a, (k0_off105 v63) a + S1x16.size a ≤ S256x128.size a) ∧
  (∀ a, (k0_off106 v63) a + S1x16.size a ≤ S256x128.size a) ∧
  (∀ a, (k0_off107 v63) a + S1x16.size a ≤ S256x128.size a) ∧
  (∀ a, (k0_off108 v63) a + S1x16.size a ≤ S256x128.size a) ∧
  (∀ a, (k0_off109 v63) a + S1x16.size a ≤ S256x128.size a) ∧
  (∀ a, (k0_off110 v63) a + S1x16.size a ≤ S256x128.size a) ∧
  (∀ a, (k0_off111 v63) a + S1x16.size a ≤ S256x16.size a)
theorem k0_off103_inb : ∀ (v63 : BitVec 32) (k0_hw11 : k0_chk11 v63), ∀ a, (k0_off103 v63) a + S1x16.size a ≤ S256x128.size a := fun v63 k0_hw11 => k0_hw11.1
theorem k0_off104_inb : ∀ (v63 : BitVec 32) (k0_hw11 : k0_chk11 v63), ∀ a, (k0_off104 v63) a + S1x16.size a ≤ S256x128.size a := fun v63 k0_hw11 => k0_hw11.2.1
theorem k0_off105_inb : ∀ (v63 : BitVec 32) (k0_hw11 : k0_chk11 v63), ∀ a, (k0_off105 v63) a + S1x16.size a ≤ S256x128.size a := fun v63 k0_hw11 => k0_hw11.2.2.1
theorem k0_off106_inb : ∀ (v63 : BitVec 32) (k0_hw11 : k0_chk11 v63), ∀ a, (k0_off106 v63) a + S1x16.size a ≤ S256x128.size a := fun v63 k0_hw11 => k0_hw11.2.2.2.1
theorem k0_off107_inb : ∀ (v63 : BitVec 32) (k0_hw11 : k0_chk11 v63), ∀ a, (k0_off107 v63) a + S1x16.size a ≤ S256x128.size a := fun v63 k0_hw11 => k0_hw11.2.2.2.2.1
theorem k0_off108_inb : ∀ (v63 : BitVec 32) (k0_hw11 : k0_chk11 v63), ∀ a, (k0_off108 v63) a + S1x16.size a ≤ S256x128.size a := fun v63 k0_hw11 => k0_hw11.2.2.2.2.2.1
theorem k0_off109_inb : ∀ (v63 : BitVec 32) (k0_hw11 : k0_chk11 v63), ∀ a, (k0_off109 v63) a + S1x16.size a ≤ S256x128.size a := fun v63 k0_hw11 => k0_hw11.2.2.2.2.2.2.1
theorem k0_off110_inb : ∀ (v63 : BitVec 32) (k0_hw11 : k0_chk11 v63), ∀ a, (k0_off110 v63) a + S1x16.size a ≤ S256x128.size a := fun v63 k0_hw11 => k0_hw11.2.2.2.2.2.2.2.1
theorem k0_off111_inb : ∀ (v63 : BitVec 32) (k0_hw11 : k0_chk11 v63), ∀ a, (k0_off111 v63) a + S1x16.size a ≤ S256x16.size a := fun v63 k0_hw11 => k0_hw11.2.2.2.2.2.2.2.2

def k0_off112 (v71 : BitVec 32) : Fin 2 → Nat :=
  let v691 : Index := Scalar.indexCast v71
  let c0_166 : Index := 0#32
  ![v691.toNat, 0]

def k0_off113 (v71 : BitVec 32) : Fin 2 → Nat :=
  let v700 : Index := Scalar.indexCast v71
  let c16_168 : Index := 16#32
  ![v700.toNat, 16]
def k0_off114 (v71 : BitVec 32) : Fin 2 → Nat :=
  let v709 : Index := Scalar.indexCast v71
  let c32_170 : Index := 32#32
  ![v709.toNat, 32]
def k0_off115 (v71 : BitVec 32) : Fin 2 → Nat :=
  let v718 : Index := Scalar.indexCast v71
  let c48_172 : Index := 48#32
  ![v718.toNat, 48]
def k0_off116 (v71 : BitVec 32) : Fin 2 → Nat :=
  let v727 : Index := Scalar.indexCast v71
  let c64_174 : Index := 64#32
  ![v727.toNat, 64]
def k0_off117 (v71 : BitVec 32) : Fin 2 → Nat :=
  let v736 : Index := Scalar.indexCast v71
  let c80_176 : Index := 80#32
  ![v736.toNat, 80]
def k0_off118 (v71 : BitVec 32) : Fin 2 → Nat :=
  let v745 : Index := Scalar.indexCast v71
  let c96_178 : Index := 96#32
  ![v745.toNat, 96]
def k0_off119 (v71 : BitVec 32) : Fin 2 → Nat :=
  let v754 : Index := Scalar.indexCast v71
  let c112_180 : Index := 112#32
  ![v754.toNat, 112]
def k0_off120 (v71 : BitVec 32) : Fin 2 → Nat :=
  let v763 : Index := Scalar.indexCast v71
  let c0_182 : Index := 0#32
  ![v763.toNat, 0]

def k0_chk12 (v71 : BitVec 32) : Prop :=
  (∀ a, (k0_off112 v71) a + S1x16.size a ≤ S256x128.size a) ∧
  (∀ a, (k0_off113 v71) a + S1x16.size a ≤ S256x128.size a) ∧
  (∀ a, (k0_off114 v71) a + S1x16.size a ≤ S256x128.size a) ∧
  (∀ a, (k0_off115 v71) a + S1x16.size a ≤ S256x128.size a) ∧
  (∀ a, (k0_off116 v71) a + S1x16.size a ≤ S256x128.size a) ∧
  (∀ a, (k0_off117 v71) a + S1x16.size a ≤ S256x128.size a) ∧
  (∀ a, (k0_off118 v71) a + S1x16.size a ≤ S256x128.size a) ∧
  (∀ a, (k0_off119 v71) a + S1x16.size a ≤ S256x128.size a) ∧
  (∀ a, (k0_off120 v71) a + S1x16.size a ≤ S256x16.size a)
theorem k0_off112_inb : ∀ (v71 : BitVec 32) (k0_hw12 : k0_chk12 v71), ∀ a, (k0_off112 v71) a + S1x16.size a ≤ S256x128.size a := fun v71 k0_hw12 => k0_hw12.1
theorem k0_off113_inb : ∀ (v71 : BitVec 32) (k0_hw12 : k0_chk12 v71), ∀ a, (k0_off113 v71) a + S1x16.size a ≤ S256x128.size a := fun v71 k0_hw12 => k0_hw12.2.1
theorem k0_off114_inb : ∀ (v71 : BitVec 32) (k0_hw12 : k0_chk12 v71), ∀ a, (k0_off114 v71) a + S1x16.size a ≤ S256x128.size a := fun v71 k0_hw12 => k0_hw12.2.2.1
theorem k0_off115_inb : ∀ (v71 : BitVec 32) (k0_hw12 : k0_chk12 v71), ∀ a, (k0_off115 v71) a + S1x16.size a ≤ S256x128.size a := fun v71 k0_hw12 => k0_hw12.2.2.2.1
theorem k0_off116_inb : ∀ (v71 : BitVec 32) (k0_hw12 : k0_chk12 v71), ∀ a, (k0_off116 v71) a + S1x16.size a ≤ S256x128.size a := fun v71 k0_hw12 => k0_hw12.2.2.2.2.1
theorem k0_off117_inb : ∀ (v71 : BitVec 32) (k0_hw12 : k0_chk12 v71), ∀ a, (k0_off117 v71) a + S1x16.size a ≤ S256x128.size a := fun v71 k0_hw12 => k0_hw12.2.2.2.2.2.1
theorem k0_off118_inb : ∀ (v71 : BitVec 32) (k0_hw12 : k0_chk12 v71), ∀ a, (k0_off118 v71) a + S1x16.size a ≤ S256x128.size a := fun v71 k0_hw12 => k0_hw12.2.2.2.2.2.2.1
theorem k0_off119_inb : ∀ (v71 : BitVec 32) (k0_hw12 : k0_chk12 v71), ∀ a, (k0_off119 v71) a + S1x16.size a ≤ S256x128.size a := fun v71 k0_hw12 => k0_hw12.2.2.2.2.2.2.2.1
theorem k0_off120_inb : ∀ (v71 : BitVec 32) (k0_hw12 : k0_chk12 v71), ∀ a, (k0_off120 v71) a + S1x16.size a ≤ S256x16.size a := fun v71 k0_hw12 => k0_hw12.2.2.2.2.2.2.2.2

def k0_off121 (v79 : BitVec 32) : Fin 2 → Nat :=
  let v771 : Index := Scalar.indexCast v79
  let c0_184 : Index := 0#32
  ![v771.toNat, 0]

def k0_off122 (v79 : BitVec 32) : Fin 2 → Nat :=
  let v780 : Index := Scalar.indexCast v79
  let c16_186 : Index := 16#32
  ![v780.toNat, 16]
def k0_off123 (v79 : BitVec 32) : Fin 2 → Nat :=
  let v789 : Index := Scalar.indexCast v79
  let c32_188 : Index := 32#32
  ![v789.toNat, 32]
def k0_off124 (v79 : BitVec 32) : Fin 2 → Nat :=
  let v798 : Index := Scalar.indexCast v79
  let c48_190 : Index := 48#32
  ![v798.toNat, 48]
def k0_off125 (v79 : BitVec 32) : Fin 2 → Nat :=
  let v807 : Index := Scalar.indexCast v79
  let c64_192 : Index := 64#32
  ![v807.toNat, 64]
def k0_off126 (v79 : BitVec 32) : Fin 2 → Nat :=
  let v816 : Index := Scalar.indexCast v79
  let c80_194 : Index := 80#32
  ![v816.toNat, 80]
def k0_off127 (v79 : BitVec 32) : Fin 2 → Nat :=
  let v825 : Index := Scalar.indexCast v79
  let c96_196 : Index := 96#32
  ![v825.toNat, 96]
def k0_off128 (v79 : BitVec 32) : Fin 2 → Nat :=
  let v834 : Index := Scalar.indexCast v79
  let c112_198 : Index := 112#32
  ![v834.toNat, 112]
def k0_off129 (v79 : BitVec 32) : Fin 2 → Nat :=
  let v843 : Index := Scalar.indexCast v79
  let c0_200 : Index := 0#32
  ![v843.toNat, 0]

def k0_chk13 (v79 : BitVec 32) : Prop :=
  (∀ a, (k0_off121 v79) a + S1x16.size a ≤ S256x128.size a) ∧
  (∀ a, (k0_off122 v79) a + S1x16.size a ≤ S256x128.size a) ∧
  (∀ a, (k0_off123 v79) a + S1x16.size a ≤ S256x128.size a) ∧
  (∀ a, (k0_off124 v79) a + S1x16.size a ≤ S256x128.size a) ∧
  (∀ a, (k0_off125 v79) a + S1x16.size a ≤ S256x128.size a) ∧
  (∀ a, (k0_off126 v79) a + S1x16.size a ≤ S256x128.size a) ∧
  (∀ a, (k0_off127 v79) a + S1x16.size a ≤ S256x128.size a) ∧
  (∀ a, (k0_off128 v79) a + S1x16.size a ≤ S256x128.size a) ∧
  (∀ a, (k0_off129 v79) a + S1x16.size a ≤ S256x16.size a)
theorem k0_off121_inb : ∀ (v79 : BitVec 32) (k0_hw13 : k0_chk13 v79), ∀ a, (k0_off121 v79) a + S1x16.size a ≤ S256x128.size a := fun v79 k0_hw13 => k0_hw13.1
theorem k0_off122_inb : ∀ (v79 : BitVec 32) (k0_hw13 : k0_chk13 v79), ∀ a, (k0_off122 v79) a + S1x16.size a ≤ S256x128.size a := fun v79 k0_hw13 => k0_hw13.2.1
theorem k0_off123_inb : ∀ (v79 : BitVec 32) (k0_hw13 : k0_chk13 v79), ∀ a, (k0_off123 v79) a + S1x16.size a ≤ S256x128.size a := fun v79 k0_hw13 => k0_hw13.2.2.1
theorem k0_off124_inb : ∀ (v79 : BitVec 32) (k0_hw13 : k0_chk13 v79), ∀ a, (k0_off124 v79) a + S1x16.size a ≤ S256x128.size a := fun v79 k0_hw13 => k0_hw13.2.2.2.1
theorem k0_off125_inb : ∀ (v79 : BitVec 32) (k0_hw13 : k0_chk13 v79), ∀ a, (k0_off125 v79) a + S1x16.size a ≤ S256x128.size a := fun v79 k0_hw13 => k0_hw13.2.2.2.2.1
theorem k0_off126_inb : ∀ (v79 : BitVec 32) (k0_hw13 : k0_chk13 v79), ∀ a, (k0_off126 v79) a + S1x16.size a ≤ S256x128.size a := fun v79 k0_hw13 => k0_hw13.2.2.2.2.2.1
theorem k0_off127_inb : ∀ (v79 : BitVec 32) (k0_hw13 : k0_chk13 v79), ∀ a, (k0_off127 v79) a + S1x16.size a ≤ S256x128.size a := fun v79 k0_hw13 => k0_hw13.2.2.2.2.2.2.1
theorem k0_off128_inb : ∀ (v79 : BitVec 32) (k0_hw13 : k0_chk13 v79), ∀ a, (k0_off128 v79) a + S1x16.size a ≤ S256x128.size a := fun v79 k0_hw13 => k0_hw13.2.2.2.2.2.2.2.1
theorem k0_off129_inb : ∀ (v79 : BitVec 32) (k0_hw13 : k0_chk13 v79), ∀ a, (k0_off129 v79) a + S1x16.size a ≤ S256x16.size a := fun v79 k0_hw13 => k0_hw13.2.2.2.2.2.2.2.2

def k0_off130 (v87 : BitVec 32) : Fin 2 → Nat :=
  let v851 : Index := Scalar.indexCast v87
  let c0_202 : Index := 0#32
  ![v851.toNat, 0]

def k0_off131 (v87 : BitVec 32) : Fin 2 → Nat :=
  let v860 : Index := Scalar.indexCast v87
  let c16_204 : Index := 16#32
  ![v860.toNat, 16]
def k0_off132 (v87 : BitVec 32) : Fin 2 → Nat :=
  let v869 : Index := Scalar.indexCast v87
  let c32_206 : Index := 32#32
  ![v869.toNat, 32]
def k0_off133 (v87 : BitVec 32) : Fin 2 → Nat :=
  let v878 : Index := Scalar.indexCast v87
  let c48_208 : Index := 48#32
  ![v878.toNat, 48]
def k0_off134 (v87 : BitVec 32) : Fin 2 → Nat :=
  let v887 : Index := Scalar.indexCast v87
  let c64_210 : Index := 64#32
  ![v887.toNat, 64]
def k0_off135 (v87 : BitVec 32) : Fin 2 → Nat :=
  let v896 : Index := Scalar.indexCast v87
  let c80_212 : Index := 80#32
  ![v896.toNat, 80]
def k0_off136 (v87 : BitVec 32) : Fin 2 → Nat :=
  let v905 : Index := Scalar.indexCast v87
  let c96_214 : Index := 96#32
  ![v905.toNat, 96]
def k0_off137 (v87 : BitVec 32) : Fin 2 → Nat :=
  let v914 : Index := Scalar.indexCast v87
  let c112_216 : Index := 112#32
  ![v914.toNat, 112]
def k0_off138 (v87 : BitVec 32) : Fin 2 → Nat :=
  let v923 : Index := Scalar.indexCast v87
  let c0_218 : Index := 0#32
  ![v923.toNat, 0]

def k0_chk14 (v87 : BitVec 32) : Prop :=
  (∀ a, (k0_off130 v87) a + S1x16.size a ≤ S256x128.size a) ∧
  (∀ a, (k0_off131 v87) a + S1x16.size a ≤ S256x128.size a) ∧
  (∀ a, (k0_off132 v87) a + S1x16.size a ≤ S256x128.size a) ∧
  (∀ a, (k0_off133 v87) a + S1x16.size a ≤ S256x128.size a) ∧
  (∀ a, (k0_off134 v87) a + S1x16.size a ≤ S256x128.size a) ∧
  (∀ a, (k0_off135 v87) a + S1x16.size a ≤ S256x128.size a) ∧
  (∀ a, (k0_off136 v87) a + S1x16.size a ≤ S256x128.size a) ∧
  (∀ a, (k0_off137 v87) a + S1x16.size a ≤ S256x128.size a) ∧
  (∀ a, (k0_off138 v87) a + S1x16.size a ≤ S256x16.size a)
theorem k0_off130_inb : ∀ (v87 : BitVec 32) (k0_hw14 : k0_chk14 v87), ∀ a, (k0_off130 v87) a + S1x16.size a ≤ S256x128.size a := fun v87 k0_hw14 => k0_hw14.1
theorem k0_off131_inb : ∀ (v87 : BitVec 32) (k0_hw14 : k0_chk14 v87), ∀ a, (k0_off131 v87) a + S1x16.size a ≤ S256x128.size a := fun v87 k0_hw14 => k0_hw14.2.1
theorem k0_off132_inb : ∀ (v87 : BitVec 32) (k0_hw14 : k0_chk14 v87), ∀ a, (k0_off132 v87) a + S1x16.size a ≤ S256x128.size a := fun v87 k0_hw14 => k0_hw14.2.2.1
theorem k0_off133_inb : ∀ (v87 : BitVec 32) (k0_hw14 : k0_chk14 v87), ∀ a, (k0_off133 v87) a + S1x16.size a ≤ S256x128.size a := fun v87 k0_hw14 => k0_hw14.2.2.2.1
theorem k0_off134_inb : ∀ (v87 : BitVec 32) (k0_hw14 : k0_chk14 v87), ∀ a, (k0_off134 v87) a + S1x16.size a ≤ S256x128.size a := fun v87 k0_hw14 => k0_hw14.2.2.2.2.1
theorem k0_off135_inb : ∀ (v87 : BitVec 32) (k0_hw14 : k0_chk14 v87), ∀ a, (k0_off135 v87) a + S1x16.size a ≤ S256x128.size a := fun v87 k0_hw14 => k0_hw14.2.2.2.2.2.1
theorem k0_off136_inb : ∀ (v87 : BitVec 32) (k0_hw14 : k0_chk14 v87), ∀ a, (k0_off136 v87) a + S1x16.size a ≤ S256x128.size a := fun v87 k0_hw14 => k0_hw14.2.2.2.2.2.2.1
theorem k0_off137_inb : ∀ (v87 : BitVec 32) (k0_hw14 : k0_chk14 v87), ∀ a, (k0_off137 v87) a + S1x16.size a ≤ S256x128.size a := fun v87 k0_hw14 => k0_hw14.2.2.2.2.2.2.2.1
theorem k0_off138_inb : ∀ (v87 : BitVec 32) (k0_hw14 : k0_chk14 v87), ∀ a, (k0_off138 v87) a + S1x16.size a ≤ S256x16.size a := fun v87 k0_hw14 => k0_hw14.2.2.2.2.2.2.2.2

def k0_off139 (v95 : BitVec 32) : Fin 2 → Nat :=
  let v931 : Index := Scalar.indexCast v95
  let c0_220 : Index := 0#32
  ![v931.toNat, 0]

def k0_off140 (v95 : BitVec 32) : Fin 2 → Nat :=
  let v940 : Index := Scalar.indexCast v95
  let c16_222 : Index := 16#32
  ![v940.toNat, 16]
def k0_off141 (v95 : BitVec 32) : Fin 2 → Nat :=
  let v949 : Index := Scalar.indexCast v95
  let c32_224 : Index := 32#32
  ![v949.toNat, 32]
def k0_off142 (v95 : BitVec 32) : Fin 2 → Nat :=
  let v958 : Index := Scalar.indexCast v95
  let c48_226 : Index := 48#32
  ![v958.toNat, 48]
def k0_off143 (v95 : BitVec 32) : Fin 2 → Nat :=
  let v967 : Index := Scalar.indexCast v95
  let c64_228 : Index := 64#32
  ![v967.toNat, 64]
def k0_off144 (v95 : BitVec 32) : Fin 2 → Nat :=
  let v976 : Index := Scalar.indexCast v95
  let c80_230 : Index := 80#32
  ![v976.toNat, 80]
def k0_off145 (v95 : BitVec 32) : Fin 2 → Nat :=
  let v985 : Index := Scalar.indexCast v95
  let c96_232 : Index := 96#32
  ![v985.toNat, 96]
def k0_off146 (v95 : BitVec 32) : Fin 2 → Nat :=
  let v994 : Index := Scalar.indexCast v95
  let c112_234 : Index := 112#32
  ![v994.toNat, 112]
def k0_off147 (v95 : BitVec 32) : Fin 2 → Nat :=
  let v1003 : Index := Scalar.indexCast v95
  let c0_236 : Index := 0#32
  ![v1003.toNat, 0]

def k0_chk15 (v95 : BitVec 32) : Prop :=
  (∀ a, (k0_off139 v95) a + S1x16.size a ≤ S256x128.size a) ∧
  (∀ a, (k0_off140 v95) a + S1x16.size a ≤ S256x128.size a) ∧
  (∀ a, (k0_off141 v95) a + S1x16.size a ≤ S256x128.size a) ∧
  (∀ a, (k0_off142 v95) a + S1x16.size a ≤ S256x128.size a) ∧
  (∀ a, (k0_off143 v95) a + S1x16.size a ≤ S256x128.size a) ∧
  (∀ a, (k0_off144 v95) a + S1x16.size a ≤ S256x128.size a) ∧
  (∀ a, (k0_off145 v95) a + S1x16.size a ≤ S256x128.size a) ∧
  (∀ a, (k0_off146 v95) a + S1x16.size a ≤ S256x128.size a) ∧
  (∀ a, (k0_off147 v95) a + S1x16.size a ≤ S256x16.size a)
theorem k0_off139_inb : ∀ (v95 : BitVec 32) (k0_hw15 : k0_chk15 v95), ∀ a, (k0_off139 v95) a + S1x16.size a ≤ S256x128.size a := fun v95 k0_hw15 => k0_hw15.1
theorem k0_off140_inb : ∀ (v95 : BitVec 32) (k0_hw15 : k0_chk15 v95), ∀ a, (k0_off140 v95) a + S1x16.size a ≤ S256x128.size a := fun v95 k0_hw15 => k0_hw15.2.1
theorem k0_off141_inb : ∀ (v95 : BitVec 32) (k0_hw15 : k0_chk15 v95), ∀ a, (k0_off141 v95) a + S1x16.size a ≤ S256x128.size a := fun v95 k0_hw15 => k0_hw15.2.2.1
theorem k0_off142_inb : ∀ (v95 : BitVec 32) (k0_hw15 : k0_chk15 v95), ∀ a, (k0_off142 v95) a + S1x16.size a ≤ S256x128.size a := fun v95 k0_hw15 => k0_hw15.2.2.2.1
theorem k0_off143_inb : ∀ (v95 : BitVec 32) (k0_hw15 : k0_chk15 v95), ∀ a, (k0_off143 v95) a + S1x16.size a ≤ S256x128.size a := fun v95 k0_hw15 => k0_hw15.2.2.2.2.1
theorem k0_off144_inb : ∀ (v95 : BitVec 32) (k0_hw15 : k0_chk15 v95), ∀ a, (k0_off144 v95) a + S1x16.size a ≤ S256x128.size a := fun v95 k0_hw15 => k0_hw15.2.2.2.2.2.1
theorem k0_off145_inb : ∀ (v95 : BitVec 32) (k0_hw15 : k0_chk15 v95), ∀ a, (k0_off145 v95) a + S1x16.size a ≤ S256x128.size a := fun v95 k0_hw15 => k0_hw15.2.2.2.2.2.2.1
theorem k0_off146_inb : ∀ (v95 : BitVec 32) (k0_hw15 : k0_chk15 v95), ∀ a, (k0_off146 v95) a + S1x16.size a ≤ S256x128.size a := fun v95 k0_hw15 => k0_hw15.2.2.2.2.2.2.2.1
theorem k0_off147_inb : ∀ (v95 : BitVec 32) (k0_hw15 : k0_chk15 v95), ∀ a, (k0_off147 v95) a + S1x16.size a ≤ S256x16.size a := fun v95 k0_hw15 => k0_hw15.2.2.2.2.2.2.2.2

def k0_off148 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_24 : BitVec 32 := 256#32
  let v53 : BitVec 32 := Scalar.muli v1 c256_i32_24
  let c0_i32_26_r3 : BitVec 32 := 0#32
  ![v53.toNat, 0]
def k0_off149 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_25 : BitVec 32 := 256#32
  let v54 : BitVec 32 := Scalar.muli v1 c256_i32_25
  let c0_i32_26_r4 : BitVec 32 := 0#32
  ![v54.toNat, 0]
abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v34 : BitVec 1 := Scalar.cmpi .eq arg0 c15_i32
  let v35 : BitVec 32 := Scalar.extui v34
  let c0_i32_14 : BitVec 32 := 0#32
  let v36 : BitVec 1 := Scalar.cmpi .ne v35 c0_i32_14
  v36

def cc1_transform_0 (i : grid1.Coords) : Fin 3 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x4000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := .none

abbrev stage2_0 : Fin 1 → Memref sig .tc .vmem S32x256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x256x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S1x128 : Shape := ⟨2, ![1, 128]⟩
abbrev S1 : Shape := ⟨1, ![1]⟩
abbrev S128x1 : Shape := ⟨2, ![128, 1]⟩
abbrev S100000x1 : Shape := ⟨2, ![100000, 1]⟩
abbrev S1x1 : Shape := ⟨2, ![1, 1]⟩
abbrev S1x100000 : Shape := ⟨2, ![1, 100000]⟩
abbrev S256 : Shape := ⟨1, ![256]⟩
abbrev S256x1 : Shape := ⟨2, ![256, 1]⟩
abbrev S256x100000 : Shape := ⟨2, ![256, 100000]⟩
abbrev S_ : Shape := ⟨0, ![]⟩
abbrev S256x128 : Shape := ⟨2, ![256, 128]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1x128, .f32⟩
  | .hbm, ⟨3, _⟩ => ⟨S1, .f32⟩
  | .hbm, ⟨4, _⟩ => ⟨S128x1, .f32⟩
  | .hbm, ⟨5, _⟩ => ⟨S100000x1, .f32⟩
  | .hbm, ⟨6, _⟩ => ⟨S1x1, .f32⟩
  | .hbm, ⟨7, _⟩ => ⟨S100000x1, .f32⟩
  | .hbm, ⟨8, _⟩ => ⟨S100000x1, .f32⟩
  | .hbm, ⟨9, _⟩ => ⟨S100000, .f32⟩
  | .hbm, ⟨10, _⟩ => ⟨S1x100000, .i32⟩
  | .hbm, ⟨11, _⟩ => ⟨S256, .i32⟩
  | .hbm, ⟨12, _⟩ => ⟨S256x1, .i32⟩
  | .hbm, ⟨13, _⟩ => ⟨S256x100000, .i32⟩
  | .hbm, ⟨14, _⟩ => ⟨S256x100000, .i32⟩
  | .hbm, ⟨15, _⟩ => ⟨S256x100000, .i1⟩
  | .hbm, ⟨16, _⟩ => ⟨S1x100000, .f32⟩
  | .hbm, ⟨17, _⟩ => ⟨S_, .f32⟩
  | .hbm, ⟨18, _⟩ => ⟨S_, .f32⟩
  | .hbm, ⟨19, _⟩ => ⟨S256x100000, .f32⟩
  | .hbm, ⟨20, _⟩ => ⟨S256x100000, .f32⟩
  | .hbm, ⟨21, _⟩ => ⟨S256x100000, .f32⟩
  | .hbm, ⟨22, _⟩ => ⟨S_, .f32⟩
  | .hbm, ⟨23, _⟩ => ⟨S256, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S256, .f32⟩
  | .hbm, ⟨37, _⟩ => ⟨S100000x1, .i32⟩
  | .hbm, ⟨38, _⟩ => ⟨S256, .f32⟩
  | .hbm, ⟨39, _⟩ => ⟨S_, .i32⟩
  | .hbm, ⟨40, _⟩ => ⟨S100000, .i32⟩
  | .hbm, ⟨41, _⟩ => ⟨S100000, .i1⟩
  | .hbm, ⟨42, _⟩ => ⟨S_, .i32⟩
  | .hbm, ⟨43, _⟩ => ⟨S100000, .i32⟩
  | .hbm, ⟨44, _⟩ => ⟨S100000, .i32⟩
  | .hbm, ⟨45, _⟩ => ⟨S100000, .i32⟩
  | .hbm, ⟨46, _⟩ => ⟨S100000x1, .i32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S256x128, .f32⟩
  | .hbm, ⟨54, _⟩ => ⟨S100000x1, .i32⟩
  | .hbm, ⟨55, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Group.lean ====
module

public import proofs.«01_k».proof.Proof.Gen.KernelIdeal.Skeleton

@[expose] public section

set_option synthInstance.maxSize 4096

noncomputable section

namespace Cert.Tile

open Idealize.ShloMosaic Idealize.SL.Sem
open Cert.KernelIdeal Cert.KernelIdeal.Gen

variable {F : FTy → Type} [FloatOps F]

/-- The offset of sixteen lanes of a segment's row in the accumulator. -/
abbrev offA (v : BitVec 32) (j : Fin 8) : Fin 2 → Nat := ![(Scalar.indexCast v).toNat, 16 * j.val]

/-- The offset of a segment's row in the denominator. -/
abbrev offD (v : BitVec 32) : Fin 2 → Nat := ![(Scalar.indexCast v).toNat, 0]

/-- A segment's rows lie in the two buffers. -/
def Seg (v : BitVec 32) : Prop :=
  (∀ a, (offA v 0) a + S1x16.size a ≤ S256x128.size a) ∧
  (∀ a, (offA v 1) a + S1x16.size a ≤ S256x128.size a) ∧
  (∀ a, (offA v 2) a + S1x16.size a ≤ S256x128.size a) ∧
  (∀ a, (offA v 3) a + S1x16.size a ≤ S256x128.size a) ∧
  (∀ a, (offA v 4) a + S1x16.size a ≤ S256x128.size a) ∧
  (∀ a, (offA v 5) a + S1x16.size a ≤ S256x128.size a) ∧
  (∀ a, (offA v 6) a + S1x16.size a ≤ S256x128.size a) ∧
  (∀ a, (offA v 7) a + S1x16.size a ≤ S256x128.size a) ∧
  (∀ a, (offD v) a + S1x16.size a ≤ S256x16.size a)

instance Seg.dec (v : BitVec 32) : Decidable (Seg v) := decidable_of_iff' _ (Iff.of_eq (Seg.eq_1 v))

theorem Seg.acc {v : BitVec 32} (h : Seg v) : ∀ j : Fin 8, ∀ a, (offA v j) a + S1x16.size a ≤ S256x128.size a
  | 0 => h.1
  | 1 => h.2.1
  | 2 => h.2.2.1
  | 3 => h.2.2.2.1
  | 4 => h.2.2.2.2.1
  | 5 => h.2.2.2.2.2.1
  | 6 => h.2.2.2.2.2.2.1
  | 7 => h.2.2.2.2.2.2.2.1

theorem Seg.den {v : BitVec 32} (h : Seg v) : ∀ a, (offD v) a + S1x16.size a ≤ S256x16.size a := h.2.2.2.2.2.2.2.2

/-- Lane l of `xorK p` is lane l ^ K of p. -/
def xor8 (p : FVec F S16 .f32) : FVec F S16 .f32 :=
  concatenate S16 0 [⟨S8, extractStridedSlice S8 ![8] p slices_S16_o8_S8⟩, ⟨S8, extractStridedSlice S8 ![0] p slices_S16_o0_S8⟩] concatenates_S8_S8_S16_d0

def xor4 (p : FVec F S16 .f32) : FVec F S16 .f32 :=
  concatenate S16 0 [⟨S4, extractStridedSlice S4 ![4] p slices_S16_o4_S4⟩, ⟨S4, extractStridedSlice S4 ![0] p slices_S16_o0_S4⟩, ⟨S4, extractStridedSlice S4 ![12] p slices_S16_o12_S4⟩, ⟨S4, extractStridedSlice S4 ![8] p slices_S16_o8_S4⟩] concatenates_S4_S4_S4_S4_S16_d0

def xor2 (p : FVec F S16 .f32) : FVec F S16 .f32 :=
  concatenate S16 0 [⟨S2, extractStridedSlice S2 ![2] p slices_S16_o2_S2⟩, ⟨S2, extractStridedSlice S2 ![0] p slices_S16_o0_S2⟩, ⟨S2, extractStridedSlice S2 ![6] p slices_S16_o6_S2⟩, ⟨S2, extractStridedSlice S2 ![4] p slices_S16_o4_S2⟩, ⟨S2, extractStridedSlice S2 ![10] p slices_S16_o10_S2⟩, ⟨S2, extractStridedSlice S2 ![8] p slices_S16_o8_S2⟩, ⟨S2, extractStridedSlice S2 ![14] p slices_S16_o14_S2⟩, ⟨S2, extractStridedSlice S2 ![12] p slices_S16_o12_S2⟩] concatenates_S2_S2_S2_S2_S2_S2_S2_S2_S16_d0

def xor1 (p : FVec F S16 .f32) : FVec F S16 .f32 :=
  concatenate S16 0 [⟨S1, extractStridedSlice S1 ![1] p slices_S16_o1_S1⟩, ⟨S1, extractStridedSlice S1 ![0] p slices_S16_o0_S1⟩, ⟨S1, extractStridedSlice S1 ![3] p slices_S16_o3_S1⟩, ⟨S1, extractStridedSlice S1 ![2] p slices_S16_o2_S1⟩, ⟨S1, extractStridedSlice S1 ![5] p slices_S16_o5_S1⟩, ⟨S1, extractStridedSlice S1 ![4] p slices_S16_o4_S1⟩, ⟨S1, extractStridedSlice S1 ![7] p slices_S16_o7_S1⟩, ⟨S1, extractStridedSlice S1 ![6] p slices_S16_o6_S1⟩, ⟨S1, extractStridedSlice S1 ![9] p slices_S16_o9_S1⟩, ⟨S1, extractStridedSlice S1 ![8] p slices_S16_o8_S1⟩, ⟨S1, extractStridedSlice S1 ![11] p slices_S16_o11_S1⟩, ⟨S1, extractStridedSlice S1 ![10] p slices_S16_o10_S1⟩, ⟨S1, extractStridedSlice S1 ![13] p slices_S16_o13_S1⟩, ⟨S1, extractStridedSlice S1 ![12] p slices_S16_o12_S1⟩, ⟨S1, extractStridedSlice S1 ![15] p slices_S16_o15_S1⟩, ⟨S1, extractStridedSlice S1 ![14] p slices_S16_o14_S1⟩] concatenates_S1_S1_S1_S1_S1_S1_S1_S1_S1_S1_S1_S1_S1_S1_S1_S1_S16_d0

/-- The products of a row's lanes with the weights', summed over the eight vectors. -/
def gateSum (w x : Fin 8 → FVec F S16 .f32) : FVec F S16 .f32 :=
  addf (addf (addf (mulf (x 0) (w 0)) (mulf (x 1) (w 1))) (addf (mulf (x 2) (w 2)) (mulf (x 3) (w 3))))
    (addf (addf (mulf (x 4) (w 4)) (mulf (x 5) (w 5))) (addf (mulf (x 6) (w 6)) (mulf (x 7) (w 7))))

def step8 (p : FVec F S16 .f32) : FVec F S16 .f32 := addf p (xor8 p)
def step4 (p : FVec F S16 .f32) : FVec F S16 .f32 := addf p (xor4 p)
def step2 (p : FVec F S16 .f32) : FVec F S16 .f32 := addf p (xor2 p)
def step1 (p : FVec F S16 .f32) : FVec F S16 .f32 := addf p (xor1 p)

/-- The exponential of a row's gate, in every lane. -/
def gateExp (w : Fin 8 → FVec F S16 .f32) (b : FVec F S16 .f32) (x : Fin 8 → FVec F S16 .f32) : FVec F S16 .f32 :=
  exp (addf b (step1 (step2 (step4 (step8 (gateSum w x))))))

section

variable {cc : Fin τ.nSC} {ss : Fin τ.nSub}

/-- One segment word read, its rows in range from there on. -/
def ldSeg (bb : Memref sig .scVector .vmem S1152 .i32) (o : Fin 1 → Nat) (ho : ∀ a, o a + S16.size a ≤ S1152.size a)
    (k : (v : BitVec 32) → Seg v → Prog (TpuEff nD τ sig (Elt F) Λ₀ (.scVector cc ss)) PUnit) : Prog (TpuEff nD τ sig (Elt F) Λ₀ (.scVector cc ss)) PUnit :=
  .op (.load bb (Rect.unit (s := S1152) o S16.size ho).toLoadRect (View.loadsAt_vmem h_S16)) fun v =>
    .op (.assume (Seg (extractAt ![0] (extractStridedSlice S1 ![0] (shapeCast S16 v shapeCasts_S16_S16) slices_S16_o0_S1) inpos_S1_p0)) (Seg.dec _))
      fun h => k _ h.down

/-- Sixteen lanes of a row read. -/
def ldVec (xb : Memref sig .scVector .vmem S16000 .f32) (o : Fin 1 → Nat) (ho : ∀ a, o a + S16.size a ≤ S16000.size a)
    (k : FVec F S16 .f32 → Prog (TpuEff nD τ sig (Elt F) Λ₀ (.scVector cc ss)) PUnit) : Prog (TpuEff nD τ sig (Elt F) Λ₀ (.scVector cc ss)) PUnit :=
  .op (.load xb (Rect.unit (s := S16000) o S16.size ho).toLoadRect (View.loadsAt_vmem h_S16)) fun v => k (shapeCast S16 v shapeCasts_S16_S16)

/-- A row read, vector by vector. -/
def ldRow (xb : Memref sig .scVector .vmem S16000 .f32) (o : Fin 8 → Fin 1 → Nat) (ho : ∀ j a, o j a + S16.size a ≤ S16000.size a)
    (k : (Fin 8 → FVec F S16 .f32) → Prog (TpuEff nD τ sig (Elt F) Λ₀ (.scVector cc ss)) PUnit) : Prog (TpuEff nD τ sig (Elt F) Λ₀ (.scVector cc ss)) PUnit :=
  ldVec xb (o 0) (ho 0) fun x0 => ldVec xb (o 1) (ho 1) fun x1 => ldVec xb (o 2) (ho 2) fun x2 => ldVec xb (o 3) (ho 3) fun x3 =>
  ldVec xb (o 4) (ho 4) fun x4 => ldVec xb (o 5) (ho 5) fun x5 => ldVec xb (o 6) (ho 6) fun x6 => ldVec xb (o 7) (ho 7) fun x7 =>
    k ![x0, x1, x2, x3, x4, x5, x6, x7]

/-- One vector added to sixteen lanes of a segment's accumulator row. -/
def addAcc (acc : Memref sig .scVector .vmem S256x128 .f32) (v : BitVec 32) (j : Fin 8) (h : ∀ a, (offA v j) a + S1x16.size a ≤ S256x128.size a)
    (e x : FVec F S16 .f32) (k : Prog (TpuEff nD τ sig (Elt F) Λ₀ (.scVector cc ss)) PUnit) : Prog (TpuEff nD τ sig (Elt F) Λ₀ (.scVector cc ss)) PUnit :=
  .op (.load acc (Rect.unit (s := S256x128) (offA v j) S1x16.size h).toLoadRect (View.loadsAt_vmem h_S1x16)) fun old =>
    .op (.load acc (Rect.unit (s := S256x128) (offA v j) S1x16.size h).toLoadRect (View.loadsAt_vmem h_S1x16)) fun _ =>
      .op (.store acc (Rect.unit (s := S256x128) (offA v j) S1x16.size h)
        (shapeCast S1x16 (addf (shapeCast S16 old shapeCasts_S1x16_S16 : FVec F S16 .f32) (mulf e x)) shapeCasts_S16_S1x16)
        Finset.univ (View.stores_vmem_bits_univ h_S1x16 rfl) (.inl rfl)) fun _ => k

/-- One vector added to a segment's denominator row. -/
def addDen (den : Memref sig .scVector .vmem S256x16 .f32) (v : BitVec 32) (h : ∀ a, (offD v) a + S1x16.size a ≤ S256x16.size a)
    (e : FVec F S16 .f32) (k : Prog (TpuEff nD τ sig (Elt F) Λ₀ (.scVector cc ss)) PUnit) : Prog (TpuEff nD τ sig (Elt F) Λ₀ (.scVector cc ss)) PUnit :=
  .op (.load den (Rect.unit (s := S256x16) (offD v) S1x16.size h).toLoadRect (View.loadsAt_vmem h_S1x16)) fun old =>
    .op (.load den (Rect.unit (s := S256x16) (offD v) S1x16.size h).toLoadRect (View.loadsAt_vmem h_S1x16)) fun _ =>
      .op (.store den (Rect.unit (s := S256x16) (offD v) S1x16.size h)
        (shapeCast S1x16 (addf (shapeCast S16 old shapeCasts_S1x16_S16 : FVec F S16 .f32) e) shapeCasts_S16_S1x16)
        Finset.univ (View.stores_vmem_bits_univ h_S1x16 rfl) (.inl rfl)) fun _ => k

/-- A weighted row added to its segment's two rows. -/
def addRow (acc : Memref sig .scVector .vmem S256x128 .f32) (den : Memref sig .scVector .vmem S256x16 .f32) (v : BitVec 32) (h : Seg v)
    (e : FVec F S16 .f32) (x : Fin 8 → FVec F S16 .f32) (k : Prog (TpuEff nD τ sig (Elt F) Λ₀ (.scVector cc ss)) PUnit) :
    Prog (TpuEff nD τ sig (Elt F) Λ₀ (.scVector cc ss)) PUnit :=
  addAcc acc v 0 (h.acc 0) e (x 0) <| addAcc acc v 1 (h.acc 1) e (x 1) <| addAcc acc v 2 (h.acc 2) e (x 2) <| addAcc acc v 3 (h.acc 3) e (x 3) <|
  addAcc acc v 4 (h.acc 4) e (x 4) <| addAcc acc v 5 (h.acc 5) e (x 5) <| addAcc acc v 6 (h.acc 6) e (x 6) <| addAcc acc v 7 (h.acc 7) e (x 7) <|
  addDen den v h.den e k

/-- Five rows: their segments, their lanes, their weights, and their sums. -/
def group (xb : Memref sig .scVector .vmem S16000 .f32) (bb : Memref sig .scVector .vmem S1152 .i32)
    (acc : Memref sig .scVector .vmem S256x128 .f32) (den : Memref sig .scVector .vmem S256x16 .f32)
    (w : Fin 8 → FVec F S16 .f32) (b : FVec F S16 .f32)
    (oS : Fin 5 → Fin 1 → Nat) (hS : ∀ u a, oS u a + S16.size a ≤ S1152.size a)
    (oX : Fin 5 → Fin 8 → Fin 1 → Nat) (hX : ∀ u j a, oX u j a + S16.size a ≤ S16000.size a) :
    Prog (TpuEff nD τ sig (Elt F) Λ₀ (.scVector cc ss)) PUnit :=
  ldSeg bb (oS 0) (hS 0) fun s0 h0 => ldSeg bb (oS 1) (hS 1) fun s1 h1 => ldSeg bb (oS 2) (hS 2) fun s2 h2 =>
  ldSeg bb (oS 3) (hS 3) fun s3 h3 => ldSeg bb (oS 4) (hS 4) fun s4 h4 =>
  ldRow xb (oX 0) (hX 0) fun x0 => ldRow xb (oX 1) (hX 1) fun x1 => ldRow xb (oX 2) (hX 2) fun x2 =>
  ldRow xb (oX 3) (hX 3) fun x3 => ldRow xb (oX 4) (hX 4) fun x4 =>
  addRow acc den s0 h0 (gateExp w b x0) x0 <| addRow acc den s1 h1 (gateExp w b x1) x1 <| addRow acc den s2 h2 (gateExp w b x2) x2 <|
  addRow acc den s3 h3 (gateExp w b x3) x3 <| addRow acc den s4 h4 (gateExp w b x4) x4 <| .ret ⟨⟩

end

/-! ## The buffers -/

abbrev xH : Memref sig .scVector .hbm S12800000 .f32 := Memref.whole main_v6_scv
abbrev sH : Memref sig .scVector .hbm S100000 .i32 := Memref.whole main_arg1_scv
abbrev wH : Memref sig .scVector .hbm S128 .f32 := Memref.whole main_v1_scv
abbrev bH : Memref sig .scVector .hbm S16 .f32 := Memref.whole main_v2_scv
abbrev aH : Memref sig .scVector .hbm S8192x128 .f32 := Memref.whole main_v7_0_scv
abbrev dH : Memref sig .scVector .hbm S8192x16 .f32 := Memref.whole main_v7_1_scv
abbrev x0V : Memref sig .scVector .vmem S16000 .f32 := Memref.whole cc0_scratch0
abbrev x1V : Memref sig .scVector .vmem S16000 .f32 := Memref.whole cc0_scratch1
abbrev wV : Memref sig .scVector .vmem S128 .f32 := Memref.whole cc0_scratch2
abbrev bV : Memref sig .scVector .vmem S16 .f32 := Memref.whole cc0_scratch3
abbrev sV : Memref sig .scVector .vmem S1152 .i32 := Memref.whole cc0_scratch4
abbrev aV : Memref sig .scVector .vmem S256x128 .f32 := Memref.whole cc0_scratch5
abbrev dV : Memref sig .scVector .vmem S256x16 .f32 := Memref.whole cc0_scratch6

/-- The rows of `x` from an element on that fill one buffer. -/
abbrev xRows (o : Fin 1 → Nat) (ho : ∀ a, o a + S16000.size a ≤ S12800000.size a) : Memref sig .scVector .hbm S16000 .f32 :=
  xH.slice (Rect.unit (s := S12800000) o S16000.size ho) (fun _ => rfl)

abbrev sRows (i : grid0.Coords) : Memref sig .scVector .hbm S1152 .i32 :=
  sH.slice (Rect.unit (s := S100000) (k0_off1 i) S1152.size (k0_off1_inb i)) (fun _ => rfl)

abbrev aRows (i : grid0.Coords) : Memref sig .scVector .hbm S256x128 .f32 :=
  aH.slice (Rect.unit (s := S8192x128) (k0_off148 i) S256x128.size (k0_off148_inb i)) (fun _ => rfl)

abbrev dRows (i : grid0.Coords) : Memref sig .scVector .hbm S256x16 .f32 :=
  dH.slice (Rect.unit (s := S8192x16) (k0_off149 i) S256x16.size (k0_off149_inb i)) (fun _ => rfl)

/-- The rows that part `c` of the tile's nine sends for. -/
abbrev xFirst (i : grid0.Coords) := xRows (k0_off4 i 0#32) (k0_off4_inb i 0)
abbrev xLast (i : grid0.Coords) := xRows (k0_off4 i 1000#32) (k0_off4_inb i 1)
abbrev xEven (i : grid0.Coords) (t : Fin k0_t3_loop.trips) := xRows (k0_off6 i t) (k0_off6_inb i t)
abbrev xOdd (i : grid0.Coords) (t : Fin k0_t3_loop.trips) := xRows (k0_off5 i t 1#32) (k0_off5_inb i t 0)
abbrev xNext (i : grid0.Coords) (t : Fin k0_t3_loop.trips) := xRows (k0_off5 i t 2#32) (k0_off5_inb i t 1)

section

variable (i : grid0.Coords)

/-- A tile's program. -/
abbrev TP (F : FTy → Type) (i : grid0.Coords) (α : Type) : Type _ :=
  Prog (TpuEff nD τ sig (Elt F) Λ₀ (.scVector ((i 0).castLE hcore0) ((i 1).castLE hsub0))) α

/-- Sixteen lanes of the accumulator cleared. -/
def zeroAcc (t : Fin k0_t1_loop.trips) : TP F i PUnit :=
  .op (.load aV (Rect.unit (s := S256x128) (k0_off2 t) S1x16.size (k0_off2_inb t)).toLoadRect (View.loadsAt_vmem h_S1x16)) fun _ =>
    .op (.store aV (Rect.unit (s := S256x128) (k0_off2 t) S1x16.size (k0_off2_inb t))
      (shapeCast S1x16 (broadcast S16 (Scalar.ofBits .f32 0x00000000#32) : FVec F S16 .f32) shapeCasts_S16_S1x16)
      Finset.univ (View.stores_vmem_bits_univ h_S1x16 rfl) (.inl rfl)) fun _ => .ret ⟨⟩

/-- A row of the denominator cleared. -/
def zeroDen (t : Fin k0_t2_loop.trips) : TP F i PUnit :=
  .op (.load dV (Rect.unit (s := S256x16) (k0_off3 t) S1x16.size (k0_off3_inb t)).toLoadRect (View.loadsAt_vmem h_S1x16)) fun _ =>
    .op (.store dV (Rect.unit (s := S256x16) (k0_off3 t) S1x16.size (k0_off3_inb t))
      (shapeCast S1x16 (broadcast S16 (Scalar.ofBits .f32 0x00000000#32) : FVec F S16 .f32) shapeCasts_S16_S1x16)
      Finset.univ (View.stores_vmem_bits_univ h_S1x16 rfl) (.inl rfl)) fun _ => .ret ⟨⟩

/-- The tile's words, weights and bias fetched. -/
def fetch {α : Type} (k : TP F i α) : TP F i α :=
  .op (.enqueueDma (sRows i) (.here sV) (.dma cc0_scoped0.sem) (View.wordExact_bits rfl) (Memref.isWhole_whole _).wordExact ⟨Or.inl rfl, trivial⟩) fun _ =>
  .op (.waitDma2 cc0_scoped0.sem (sRows i) sV (View.wordExact_bits rfl) (Memref.isWhole_whole _).wordExact) fun _ =>
  .op (.enqueueDma wH (.here wV) (.dma cc0_scoped1.sem) (Memref.isWhole_whole _).wordExact (Memref.isWhole_whole _).wordExact ⟨Or.inl rfl, trivial⟩) fun _ =>
  .op (.waitDma2 cc0_scoped1.sem wH wV (Memref.isWhole_whole _).wordExact (Memref.isWhole_whole _).wordExact) fun _ =>
  .op (.enqueueDma bH (.here bV) (.dma cc0_scoped2.sem) (Memref.isWhole_whole _).wordExact (Memref.isWhole_whole _).wordExact ⟨Or.inl rfl, trivial⟩) fun _ =>
  .op (.waitDma2 cc0_scoped2.sem bH bV (Memref.isWhole_whole _).wordExact (Memref.isWhole_whole _).wordExact) fun _ => k

/-- The fetches and the clearing of the two buffers. -/
def bodyFill {α : Type} (r : α) : TP F i α :=
  fetch i (Scf.Loop.for k0_t1_loop k0_t1_ok ⟨⟩ (fun t _ => zeroAcc i t) >>= fun _ =>
    Scf.Loop.for k0_t2_loop k0_t2_ok ⟨⟩ (fun t _ => zeroDen i t) >>= fun _ => .ret r)

/-- The weights and the bias read. -/
def ldW (k : (Fin 8 → FVec F S16 .f32) → FVec F S16 .f32 → TP F i PUnit) : TP F i PUnit :=
  .op (.load wV (Rect.unit (s := S128) ![0] S16.size inb_S128_S16_0).toLoadRect (View.loadsAt_vmem h_S16)) fun w0 =>
  .op (.load wV (Rect.unit (s := S128) ![16] S16.size inb_S128_S16_16).toLoadRect (View.loadsAt_vmem h_S16)) fun w1 =>
  .op (.load wV (Rect.unit (s := S128) ![32] S16.size inb_S128_S16_32).toLoadRect (View.loadsAt_vmem h_S16)) fun w2 =>
  .op (.load wV (Rect.unit (s := S128) ![48] S16.size inb_S128_S16_48).toLoadRect (View.loadsAt_vmem h_S16)) fun w3 =>
  .op (.load wV (Rect.unit (s := S128) ![64] S16.size inb_S128_S16_64).toLoadRect (View.loadsAt_vmem h_S16)) fun w4 =>
  .op (.load wV (Rect.unit (s := S128) ![80] S16.size inb_S128_S16_80).toLoadRect (View.loadsAt_vmem h_S16)) fun w5 =>
  .op (.load wV (Rect.unit (s := S128) ![96] S16.size inb_S128_S16_96).toLoadRect (View.loadsAt_vmem h_S16)) fun w6 =>
  .op (.load wV (Rect.unit (s := S128) ![112] S16.size inb_S128_S16_112).toLoadRect (View.loadsAt_vmem h_S16)) fun w7 =>
  .op (.load bV (Rect.unit (s := S16) ![0] S16.size inb_S16_S16_0).toLoadRect (View.loadsAt_vmem h_S16)) fun b =>
    k ![shapeCast S16 w0 shapeCasts_S16_S16, shapeCast S16 w1 shapeCasts_S16_S16, shapeCast S16 w2 shapeCasts_S16_S16, shapeCast S16 w3 shapeCasts_S16_S16, shapeCast S16 w4 shapeCasts_S16_S16, shapeCast S16 w5 shapeCasts_S16_S16, shapeCast S16 w6 shapeCasts_S16_S16, shapeCast S16 w7 shapeCasts_S16_S16] (shapeCast S16 b shapeCasts_S16_S16)

/-- Rows sent for, into the first and into the second buffer. -/
def send0 (xr : Memref sig .scVector .hbm S16000 .f32) (hx : xr.view.WordExact) (k : TP F i PUnit) : TP F i PUnit :=
  .op (.enqueueDma xr (.here x0V) (.dma cc0_scratch7.sem) hx (Memref.isWhole_whole _).wordExact ⟨Or.inl rfl, trivial⟩) fun _ => k
def send1 (xr : Memref sig .scVector .hbm S16000 .f32) (hx : xr.view.WordExact) (k : TP F i PUnit) : TP F i PUnit :=
  .op (.enqueueDma xr (.here x1V) (.dma cc0_scratch8.sem) hx (Memref.isWhole_whole _).wordExact ⟨Or.inl rfl, trivial⟩) fun _ => k
def recv0 (xr : Memref sig .scVector .hbm S16000 .f32) (hx : xr.view.WordExact) (k : TP F i PUnit) : TP F i PUnit :=
  .op (.waitDma2 cc0_scratch7.sem xr x0V hx (Memref.isWhole_whole _).wordExact) fun _ => k
def recv1 (xr : Memref sig .scVector .hbm S16000 .f32) (hx : xr.view.WordExact) (k : TP F i PUnit) : TP F i PUnit :=
  .op (.waitDma2 cc0_scratch8.sem xr x1V hx (Memref.isWhole_whole _).wordExact) fun _ => k

/-- Five rows of an even part, of an odd part, of the last. -/
def grp4 (w : Fin 8 → FVec F S16 .f32) (b : FVec F S16 .f32) (t : Fin k0_t3_loop.trips) (g : Fin k0_t4_loop.trips) : TP F i PUnit :=
  group x0V sV aV dV w b (fun u => k0_off7 i t g (BitVec.ofNat 32 u.val)) (k0_off7_inb i t g)
    (fun u j => k0_off8 g (BitVec.ofNat 32 u.val) (BitVec.ofNat 32 (16 * j.val))) (k0_off8_inb g)
def grp5 (w : Fin 8 → FVec F S16 .f32) (b : FVec F S16 .f32) (t : Fin k0_t3_loop.trips) (g : Fin k0_t5_loop.trips) : TP F i PUnit :=
  group x1V sV aV dV w b (fun u => k0_off54 i t g (BitVec.ofNat 32 u.val)) (k0_off54_inb i t g)
    (fun u j => k0_off55 g (BitVec.ofNat 32 u.val) (BitVec.ofNat 32 (16 * j.val))) (k0_off55_inb g)
def grp6 (w : Fin 8 → FVec F S16 .f32) (b : FVec F S16 .f32) (g : Fin k0_t6_loop.trips) : TP F i PUnit :=
  group x0V sV aV dV w b (fun u => k0_off101 i g (BitVec.ofNat 32 u.val)) (k0_off101_inb i g)
    (fun u j => k0_off102 g (BitVec.ofNat 32 u.val) (BitVec.ofNat 32 (16 * j.val))) (k0_off102_inb g)

/-- Two parts: the odd one sent for, the even one received and summed, the next even one sent for, the odd one summed. -/
def pair (w : Fin 8 → FVec F S16 .f32) (b : FVec F S16 .f32) (t : Fin k0_t3_loop.trips) : TP F i PUnit :=
  send1 i (xOdd i t) (View.wordExact_bits rfl) <| recv0 i (xEven i t) (View.wordExact_bits rfl) <|
    Scf.Loop.for k0_t4_loop k0_t4_ok ⟨⟩ (fun g _ => grp4 i w b t g) >>= fun _ =>
      send0 i (xNext i t) (View.wordExact_bits rfl) <| recv1 i (xOdd i t) (View.wordExact_bits rfl) <|
        Scf.Loop.for k0_t5_loop k0_t5_ok ⟨⟩ (fun g _ => grp5 i w b t g) >>= fun _ => .ret ⟨⟩

/-- All nine parts summed. -/
def bodySum : TP F i PUnit :=
  ldW i fun w b => send0 i (xFirst i) (View.wordExact_bits rfl) <|
    Scf.Loop.for k0_t3_loop k0_t3_ok ⟨⟩ (fun t _ => pair i w b t) >>= fun _ =>
      recv0 i (xLast i) (View.wordExact_bits rfl) <| Scf.Loop.for k0_t6_loop k0_t6_ok ⟨⟩ (fun g _ => grp6 i w b g) >>= fun _ => .ret ⟨⟩

/-- The two buffers written out. -/
def bodyOut : TP F i PUnit :=
  .op (.enqueueDma aV (.here (aRows i)) (.dma cc0_scoped3.sem) (Memref.isWhole_whole _).wordExact (View.wordExact_bits rfl) ⟨Or.inl rfl, trivial⟩) fun _ =>
  .op (.waitDma2 cc0_scoped3.sem aV (aRows i) (Memref.isWhole_whole _).wordExact (View.wordExact_bits rfl)) fun _ =>
  .op (.enqueueDma dV (.here (dRows i)) (.dma cc0_scoped4.sem) (Memref.isWhole_whole _).wordExact (View.wordExact_bits rfl) ⟨Or.inl rfl, trivial⟩) fun _ =>
  .op (.waitDma2 cc0_scoped4.sem dV (dRows i) (Memref.isWhole_whole _).wordExact (View.wordExact_bits rfl)) fun _ => .ret ⟨⟩

end

end Cert.Tile
-- ==== Proof.Body.lean ====
module

public import proofs.«01_k».proof.Proof.Group

@[expose] public section

set_option synthInstance.maxSize 4096

noncomputable section

namespace Cert.Tile

open Idealize.ShloMosaic Idealize.SL.Sem
open Cert.KernelIdeal Cert.KernelIdeal.Gen

variable {F : FTy → Type} [FloatOps F]

set_option cleanup.letToHave false in
set_option maxHeartbeats 4000000 in
set_option maxRecDepth 100000 in
theorem part61_eq (i : grid0.Coords) :
    ∃ r, k0_part61 (F := F) i xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4 = bodyFill i r := ⟨_, rfl⟩

set_option cleanup.letToHave false in
set_option maxHeartbeats 4000000 in
set_option maxRecDepth 100000 in
theorem part62_eq (i : grid0.Coords) (v1 v2 v21 : BitVec 32) :
    k0_part62 (F := F) i xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4 v1 v2 v21 = bodySum i := rfl

set_option cleanup.letToHave false in
set_option maxHeartbeats 4000000 in
set_option maxRecDepth 100000 in
/-- The printed body: the buffers filled, the nine parts summed, the sums written out. -/
theorem body_eq (i : grid0.Coords) :
    ∃ (α : Type) (r : α), cc0__sc_body (F := F) i xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4 = (bodyFill i r >>= fun _ => bodySum i >>= fun _ => bodyOut i) := by
  obtain ⟨r, hr⟩ := part61_eq (F := F) i
  refine ⟨_, r, ?_⟩
  unfold cc0__sc_body
  rw [hr]
  refine congrArg (fun k => bodyFill i r >>= k) (funext fun v => ?_)
  obtain ⟨v1, v2, v21⟩ := v
  have h := part62_eq (F := F) i v1 v2 v21
  show (k0_part62 (F := F) i xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4 v1 v2 v21 >>= _) = _
  rw [h]
  rfl

end Cert.Tile
-- ==== Proof.Base.lean ====
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ValueLayout
public import Idealize.ShloMosaic.Lib.ValueIdxCore
public import Idealize.ShloMosaic.Lib.Tactic

@[expose] public section

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

/-- The machine's resources. -/
abbrev MM (F : FTy → Type) : Type := MT nD τ sig (HIx 1) (Elt F) ℕ UU ℕ

abbrev EH : Emb UH (MM F) := embL
abbrev EP : Emb UP (MM F) := (Emb.inl : Emb UP (UP × Counters)).trans embR

instance : (EP (F := F)).LandsIn (upEmb : UEmb _ (MM F)) := by
  unfold EP; infer_instance
instance : (countersEmb : UEmb Counters (MM F)).LandsIn (upEmb : UEmb _ (MM F)) := inferInstance

/-- A program's weakest precondition on a thread, before the two loops' and the launch's definitions are added. -/
abbrev WP [FloatOps F] (thr : Thread nD τ) {α : Type} (p : Prog (TpuEff nD τ sig (Elt F) Λ₀ thr.2) α) (Q : α → sProp (MM F)) : sProp (MM F) :=
  wp frame (wpE (defs₀ (F := F)) 𝒱₀ thr none) Set.univ p Q

/-- A buffer held, its view's elements named. -/
def holds (thr : Thread nD τ) {sp : Space} {s : Shape} {e : EltTy} (m : Memref sig thr.2.kind sp s e) (X : s.Idx → Elt F e) : sProp (MM F) :=
  iprop(∃ f, ⌜m.view.read (Elt F) f = X⌝ ∗ (m.view.loc thr ↦[m.view.set]{fullShare} f))

end Cert.Tile
-- ==== Proof.Rows.lean ====
module

public import proofs.«01_k».proof.Proof.Base

@[expose] public section

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

section Steps

variable {thr : Thread nD τ} {α : Type} {Q : α → sProp (MM F)}

/-- A load from a buffer held reads its elements at the coordinates named. -/
theorem wp_ld {sp : CoreSpace} {s : Shape} {e : EltTy} {m : Memref sig thr.2.kind sp s e} {r : LoadRect s} {hl : m.view.LoadsAt r}
    {k : (r.shape.Idx → Elt F e) → Prog (TpuEff nD τ sig (Elt F) Λ₀ thr.2) α} (X : s.Idx → Elt F e) :
    holds thr m X ⊢ iprop((holds thr m X -∗ WP thr (k fun y => X (r.idx y)) Q) -∗ WP thr (.op (.load m r hl) k) Q) := by
  unfold holds
  iintro ⟨%f, %hf, H⟩ Hk
  iapply (wp_load 𝒱₀ thr none Set.univ (View.setOn_subset_set _ _)) $$ H
  iintro H
  subst hf
  iapply Hk
  iexists f
  isplitr; · ipureintro; rfl
  iexact H

/-- A store into a buffer held, its new elements described at the rectangle and off it. -/
theorem wp_st {sp : CoreSpace} {s : Shape} {e : EltTy} {m : Memref sig thr.2.kind sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ thr.2) α} (X X' : s.Idx → Elt F e)
    (hin : ∀ x, X' (r.emb x) = w x) (hout : ∀ y, y ∉ r.set → X' y = X y) :
    holds thr m X ⊢ iprop((holds thr m X' -∗ WP thr (k ⟨⟩) Q) -∗ WP thr (.op (.store m r w Finset.univ hx hm) k) Q) := by
  unfold holds
  iintro ⟨%f, %hf, H⟩ Hk
  iapply (wp_store 𝒱₀ thr none Set.univ (m := m) (r := r) (w := w) (Mk := Finset.univ) (hx := hx) (hm := hm) (k := k) (f := f)
    (S := m.view.set) (View.set_slice_subset _ r)) $$ H
  iintro H
  subst hf
  iapply Hk
  iexists _
  isplitr
  swap; · iexact H
  ipureintro
  funext y
  by_cases hy : y ∈ r.set
  · obtain ⟨x, hx'⟩ := r.exists_idx_of_mem hy
    have hx'' : r.emb x = y := hx'
    rw [← hx'', hin]
    exact View.read_slice_write_emb r f w (Finset.mem_univ x)
  · rw [hout y hy]
    exact View.read_slice_write_of_not_mem r f w Finset.univ (by rwa [Rect.map_emb_univ])

theorem wp_done {a : α} : Q a ⊢ WP thr (.ret a) Q := by
  rw [WP, wp_ret]; exact fupd_intro

end Steps

/-! ## What a group of rows does to the two sums -/

/-- A vector of sixteen lanes of a buffer. -/
def vecAt (X : S16000.Idx → F .f32) (o : Fin 1 → Nat) (ho : ∀ a, o a + S16.size a ≤ S16000.size a) : FVec F S16 .f32 :=
  fun y => X ((Rect.unit (s := S16000) o S16.size ho).idx y)

/-- A lane, from its number. -/
abbrev lane (n : ℕ) : S16.Idx := ix1 ⟨n % 16, Nat.mod_lt _ (by decide)⟩

/-- One vector added to sixteen lanes of row `s`. -/
def addVec (s : ℕ) (j : ℕ) (e x : FVec F S16 .f32) (A : S256x128.Idx → F .f32) : S256x128.Idx → F .f32 :=
  fun y => if (y 0).val = s ∧ (y 1).val / 16 = j then FloatOps.addf (A y) (FloatOps.mulf (e (lane (y 1).val)) (x (lane (y 1).val))) else A y

/-- A weighted row added to row `s`. -/
def accStep (s : ℕ) (e : FVec F S16 .f32) (x : Fin 8 → FVec F S16 .f32) (A : S256x128.Idx → F .f32) : S256x128.Idx → F .f32 :=
  fun y => if (y 0).val = s then FloatOps.addf (A y) (FloatOps.mulf (e (lane (y 1).val)) (x ⟨(y 1).val / 16 % 8, Nat.mod_lt _ (by decide)⟩ (lane (y 1).val))) else A y

/-- A weight added to row `s`. -/
def denStep (s : ℕ) (e : FVec F S16 .f32) (A : S256x16.Idx → F .f32) : S256x16.Idx → F .f32 :=
  fun y => if (y 0).val = s then FloatOps.addf (A y) (e (lane (y 1).val)) else A y

theorem accStep_eq (s : ℕ) (e : FVec F S16 .f32) (x : Fin 8 → FVec F S16 .f32) (A : S256x128.Idx → F .f32) :
    addVec s 7 e (x 7) (addVec s 6 e (x 6) (addVec s 5 e (x 5) (addVec s 4 e (x 4) (addVec s 3 e (x 3) (addVec s 2 e (x 2)
      (addVec s 1 e (x 1) (addVec s 0 e (x 0) A))))))) = accStep s e x A := by
  funext y
  have hy : (y 1).val < 128 := (y 1).isLt
  unfold accStep addVec
  by_cases h : (y 0).val = s
  · simp only [h, true_and, if_true]
    obtain ⟨q, hq⟩ : ∃ q : Fin 8, (y 1).val / 16 = q.val := ⟨⟨(y 1).val / 16, by omega⟩, rfl⟩
    simp only [hq]
    fin_cases q <;> simp <;> rfl
  · simp [h]

/-- The two sums. -/
abbrev Sums (F : FTy → Type) : Type := (S256x128.Idx → F .f32) × (S256x16.Idx → F .f32)

/-- A row added to the two sums. -/
def rowStep (w : Fin 8 → FVec F S16 .f32) (b : FVec F S16 .f32) (s : ℕ) (x : Fin 8 → FVec F S16 .f32) (P : Sums F) : Sums F :=
  (accStep s (gateExp w b x) x P.1, denStep s (gateExp w b x) P.2)

section Group

variable {d : Dev nD} {cc : Fin τ.nSC} {ss : Fin τ.nSub} {Q : PUnit → sProp (MM F)}

/-- The word at an offset of the words' buffer. -/
def wordAt (B : S1152.Idx → BitVec 32) (o : Fin 1 → Nat) (ho : ∀ a, o a + S16.size a ≤ S1152.size a) : BitVec 32 :=
  B ((Rect.unit (s := S1152) o S16.size ho).idx (ix1 (0 : Fin 16)))

theorem wp_ldSeg {bb : Memref sig .scVector .vmem S1152 .i32} {o : Fin 1 → Nat} {ho : ∀ a, o a + S16.size a ≤ S1152.size a}
    {k : (v : BitVec 32) → Seg v → Prog (TpuEff nD τ sig (Elt F) Λ₀ (.scVector cc ss)) PUnit} (B : S1152.Idx → BitVec 32)
    (h : Seg (wordAt B o ho)) :
    holds (F := F) (V d cc ss) bb B ⊢ iprop((holds (F := F) (V d cc ss) bb B -∗ WP (V d cc ss) (k _ h) Q) -∗ WP (V d cc ss) (ldSeg bb o ho k) Q) := by
  unfold ldSeg
  iintro H Hk
  iapply (wp_ld (thr := V d cc ss) (e := .i32) B) $$ H
  iintro H
  have e : extractAt ![0] (extractStridedSlice S1 ![0] (shapeCast S16 (fun y => B ((Rect.unit (s := S1152) o S16.size ho).idx y)) shapeCasts_S16_S16) slices_S16_o0_S1) inpos_S1_p0 = wordAt B o ho := by
    erw [shapeCast_self]
    unfold wordAt extractAt extractStridedSlice
    refine congrArg (fun y => B ((Rect.unit (s := S1152) o S16.size ho).idx y)) (funext fun a => Fin.ext ?_)
    match a with
    | 0 => rfl
  iapply (wp_assume 𝒱₀ (V d cc ss) none Set.univ (show Seg (extractAt ![0] (extractStridedSlice S1 ![0] (shapeCast S16 (fun y => B ((Rect.unit (s := S1152) o S16.size ho).idx y)) shapeCasts_S16_S16) slices_S16_o0_S1) inpos_S1_p0) from e ▸ h))
  have ek : ∀ (v : BitVec 32) (hv : Seg v), v = wordAt B o ho → k v hv = k _ h := by
    intro v hv e; subst e; rfl
  rw [ek _ _ e]
  iapply Hk
  iexact H

theorem wp_ldVec {xb : Memref sig .scVector .vmem S16000 .f32} {o : Fin 1 → Nat} {ho : ∀ a, o a + S16.size a ≤ S16000.size a}
    {k : FVec F S16 .f32 → Prog (TpuEff nD τ sig (Elt F) Λ₀ (.scVector cc ss)) PUnit} (X : S16000.Idx → F .f32) :
    holds (F := F) (e := .f32) (V d cc ss) xb X ⊢ iprop((holds (F := F) (e := .f32) (V d cc ss) xb X -∗ WP (V d cc ss) (k (vecAt X o ho)) Q) -∗ WP (V d cc ss) (ldVec xb o ho k) Q) := by
  unfold ldVec
  iintro H Hk
  iapply (wp_ld (thr := V d cc ss) (e := .f32) X) $$ H
  iintro H
  rw [shapeCast_self]
  iapply Hk
  iexact H

theorem wp_ldRow {xb : Memref sig .scVector .vmem S16000 .f32} {o : Fin 8 → Fin 1 → Nat} {ho : ∀ j a, o j a + S16.size a ≤ S16000.size a}
    {k : (Fin 8 → FVec F S16 .f32) → Prog (TpuEff nD τ sig (Elt F) Λ₀ (.scVector cc ss)) PUnit} (X : S16000.Idx → F .f32)
    (R : Fin 8 → FVec F S16 .f32) (hR : ∀ j, vecAt X (o j) (ho j) = R j) :
    holds (F := F) (e := .f32) (V d cc ss) xb X ⊢ iprop((holds (F := F) (e := .f32) (V d cc ss) xb X -∗ WP (V d cc ss) (k R) Q) -∗ WP (V d cc ss) (ldRow xb o ho k) Q) := by
  obtain rfl : ![vecAt X (o 0) (ho 0), vecAt X (o 1) (ho 1), vecAt X (o 2) (ho 2), vecAt X (o 3) (ho 3), vecAt X (o 4) (ho 4),
      vecAt X (o 5) (ho 5), vecAt X (o 6) (ho 6), vecAt X (o 7) (ho 7)] = R := by
    funext j
    fin_cases j <;> exact hR _
  unfold ldRow
  iintro H Hk
  iapply (wp_ldVec X) $$ H; iintro H
  iapply (wp_ldVec X) $$ H; iintro H
  iapply (wp_ldVec X) $$ H; iintro H
  iapply (wp_ldVec X) $$ H; iintro H
  iapply (wp_ldVec X) $$ H; iintro H
  iapply (wp_ldVec X) $$ H; iintro H
  iapply (wp_ldVec X) $$ H; iintro H
  iapply (wp_ldVec X) $$ H; iintro H
  iapply Hk
  iexact H

theorem wp_addAcc {acc : Memref sig .scVector .vmem S256x128 .f32} {v : BitVec 32} {j : Fin 8} {h : ∀ a, (offA v j) a + S1x16.size a ≤ S256x128.size a}
    {e x : FVec F S16 .f32} {k : Prog (TpuEff nD τ sig (Elt F) Λ₀ (.scVector cc ss)) PUnit} (A : S256x128.Idx → F .f32) :
    holds (F := F) (e := .f32) (V d cc ss) acc A
      ⊢ iprop((holds (F := F) (e := .f32) (V d cc ss) acc (addVec (Scalar.indexCast v).toNat j.val e x A) -∗ WP (V d cc ss) k Q) -∗ WP (V d cc ss) (addAcc acc v j h e x k) Q) := by
  unfold addAcc
  iintro H Hk
  iapply (wp_ld (thr := V d cc ss) (e := .f32) A) $$ H; iintro H
  iapply (wp_ld (thr := V d cc ss) (e := .f32) A) $$ H; iintro H
  iapply (wp_st (thr := V d cc ss) (e := .f32) A (addVec (Scalar.indexCast v).toNat j.val e x A) ?_ ?_) $$ H
  · intro y
    obtain ⟨y0, y1, rfl⟩ : ∃ (y0 : Fin 1) (y1 : Fin 16), y = ix2 y0 y1 := ⟨y 0, y 1, eq_ix2 y⟩
    rw [shapeCast_a_1a_apply]
    have hs : (shapeCast S16 (fun y => A ((Rect.unit (s := S256x128) (offA v j) S1x16.size h).idx y)) shapeCasts_S1x16_S16) (ix1 y1)
        = A ((Rect.unit (s := S256x128) (offA v j) S1x16.size h).idx (ix2 0 y1)) := shapeCast_1a_a_apply _ _ _
    have hy0 : y0 = 0 := Subsingleton.elim _ _
    subst hy0
    have h0 : ((Rect.unit (s := S256x128) (offA v j) S1x16.size h).emb (ix2 (0 : Fin 1) y1) 0).val = (Scalar.indexCast v).toNat := by
      show (Scalar.indexCast v).toNat + 1 * 0 = _; omega
    have h1 : ((Rect.unit (s := S256x128) (offA v j) S1x16.size h).emb (ix2 (0 : Fin 1) y1) 1).val = 16 * j.val + y1.val := by
      show 16 * j.val + 1 * y1.val = _; omega
    have hl : lane (16 * j.val + y1.val) = ix1 y1 := by
      unfold lane; refine congrArg ix1 (Fin.ext ?_); show _ % 16 = y1.val; have := y1.isLt; omega
    unfold addVec
    have hj : ((Rect.unit (s := S256x128) (offA v j) S1x16.size h).emb (ix2 (0 : Fin 1) y1) 1).val / 16 = j.val := by
      rw [h1]; have := y1.isLt; omega
    rw [if_pos ⟨h0, hj⟩, h1, hl]
    show _ = FloatOps.addf ((shapeCast S16 (fun y => A ((Rect.unit (s := S256x128) (offA v j) S1x16.size h).idx y)) shapeCasts_S1x16_S16) (ix1 y1)) (FloatOps.mulf (e (ix1 y1)) (x (ix1 y1)))
    rw [hs]
    rfl
  · intro y hy
    unfold addVec
    rw [if_neg]
    rintro ⟨h0, h1⟩
    refine hy (Rect.mem_set_unit.mpr fun a => ?_)
    match a with
    | 0 => simp; omega
    | 1 => simp; omega
  iintro H
  iapply Hk
  iexact H

theorem wp_addDen {den : Memref sig .scVector .vmem S256x16 .f32} {v : BitVec 32} {h : ∀ a, (offD v) a + S1x16.size a ≤ S256x16.size a}
    {e : FVec F S16 .f32} {k : Prog (TpuEff nD τ sig (Elt F) Λ₀ (.scVector cc ss)) PUnit} (A : S256x16.Idx → F .f32) :
    holds (F := F) (e := .f32) (V d cc ss) den A
      ⊢ iprop((holds (F := F) (e := .f32) (V d cc ss) den (denStep (Scalar.indexCast v).toNat e A) -∗ WP (V d cc ss) k Q) -∗ WP (V d cc ss) (addDen den v h e k) Q) := by
  unfold addDen
  iintro H Hk
  iapply (wp_ld (thr := V d cc ss) (e := .f32) A) $$ H; iintro H
  iapply (wp_ld (thr := V d cc ss) (e := .f32) A) $$ H; iintro H
  iapply (wp_st (thr := V d cc ss) (e := .f32) A (denStep (Scalar.indexCast v).toNat e A) ?_ ?_) $$ H
  · intro y
    obtain ⟨y0, y1, rfl⟩ : ∃ (y0 : Fin 1) (y1 : Fin 16), y = ix2 y0 y1 := ⟨y 0, y 1, eq_ix2 y⟩
    rw [shapeCast_a_1a_apply]
    have hs : (shapeCast S16 (fun y => A ((Rect.unit (s := S256x16) (offD v) S1x16.size h).idx y)) shapeCasts_S1x16_S16) (ix1 y1)
        = A ((Rect.unit (s := S256x16) (offD v) S1x16.size h).idx (ix2 0 y1)) := shapeCast_1a_a_apply _ _ _
    have hy0 : y0 = 0 := Subsingleton.elim _ _
    subst hy0
    have h0 : ((Rect.unit (s := S256x16) (offD v) S1x16.size h).emb (ix2 (0 : Fin 1) y1) 0).val = (Scalar.indexCast v).toNat := by
      show (Scalar.indexCast v).toNat + 1 * 0 = _; omega
    have h1 : ((Rect.unit (s := S256x16) (offD v) S1x16.size h).emb (ix2 (0 : Fin 1) y1) 1).val = y1.val := by
      show 0 + 1 * y1.val = _; omega
    have hl : lane y1.val = ix1 y1 := by
      unfold lane; refine congrArg ix1 (Fin.ext ?_); show _ % 16 = y1.val; have := y1.isLt; omega
    unfold denStep
    rw [if_pos h0, h1, hl]
    show _ = FloatOps.addf ((shapeCast S16 (fun y => A ((Rect.unit (s := S256x16) (offD v) S1x16.size h).idx y)) shapeCasts_S1x16_S16) (ix1 y1)) (e (ix1 y1))
    rw [hs]
    rfl
  · intro y hy
    unfold denStep
    rw [if_neg]
    intro h0
    refine hy (Rect.mem_set_unit.mpr fun a => ?_)
    have := (y 1).isLt
    match a with
    | 0 => simp; omega
    | 1 => simp; exact this
  iintro H
  iapply Hk
  iexact H

/-- The two sums held. -/
def sums (thr : Thread nD τ) (acc : Memref sig thr.2.kind .vmem S256x128 .f32) (den : Memref sig thr.2.kind .vmem S256x16 .f32) (P : Sums F) : sProp (MM F) :=
  iprop(holds (e := .f32) thr acc P.1 ∗ holds (e := .f32) thr den P.2)

theorem wp_addRow {acc : Memref sig .scVector .vmem S256x128 .f32} {den : Memref sig .scVector .vmem S256x16 .f32} {v : BitVec 32} {h : Seg v}
    {w : Fin 8 → FVec F S16 .f32} {b : FVec F S16 .f32} {x : Fin 8 → FVec F S16 .f32} {k : Prog (TpuEff nD τ sig (Elt F) Λ₀ (.scVector cc ss)) PUnit} (P : Sums F) :
    sums (V d cc ss) acc den P
      ⊢ iprop((sums (V d cc ss) acc den (rowStep w b (Scalar.indexCast v).toNat x P) -∗ WP (V d cc ss) k Q)
        -∗ WP (V d cc ss) (addRow acc den v h (gateExp w b x) x k) Q) := by
  unfold addRow sums rowStep
  rw [← accStep_eq]
  iintro ⟨HA, HD⟩ Hk
  iapply (wp_addAcc (j := 0) P.1) $$ HA; iintro HA
  iapply (wp_addAcc (j := 1)) $$ HA; iintro HA
  iapply (wp_addAcc (j := 2)) $$ HA; iintro HA
  iapply (wp_addAcc (j := 3)) $$ HA; iintro HA
  iapply (wp_addAcc (j := 4)) $$ HA; iintro HA
  iapply (wp_addAcc (j := 5)) $$ HA; iintro HA
  iapply (wp_addAcc (j := 6)) $$ HA; iintro HA
  iapply (wp_addAcc (j := 7)) $$ HA; iintro HA
  iapply (wp_addDen P.2) $$ HD; iintro HD
  iapply Hk
  isplitl [HA]
  · iexact HA
  · iexact HD

/-- Five rows added to the two sums. -/
theorem wp_group {xb : Memref sig .scVector .vmem S16000 .f32} {bb : Memref sig .scVector .vmem S1152 .i32}
    {acc : Memref sig .scVector .vmem S256x128 .f32} {den : Memref sig .scVector .vmem S256x16 .f32}
    {w : Fin 8 → FVec F S16 .f32} {b : FVec F S16 .f32}
    {oS : Fin 5 → Fin 1 → Nat} {hS : ∀ u a, oS u a + S16.size a ≤ S1152.size a}
    {oX : Fin 5 → Fin 8 → Fin 1 → Nat} {hX : ∀ u j a, oX u j a + S16.size a ≤ S16000.size a}
    (X : S16000.Idx → F .f32) (B : S1152.Idx → BitVec 32) (P : Sums F) (R : Fin 5 → Fin 8 → FVec F S16 .f32) (s : Fin 5 → ℕ)
    (hR : ∀ u j, vecAt X (oX u j) (hX u j) = R u j) (hs : ∀ u, Seg (wordAt B (oS u) (hS u)))
    (hv : ∀ u, (Scalar.indexCast (wordAt B (oS u) (hS u))).toNat = s u) :
    iprop(holds (F := F) (e := .f32) (V d cc ss) xb X ∗ holds (F := F) (e := .i32) (V d cc ss) bb B ∗ sums (V d cc ss) acc den P)
      ⊢ WP (V d cc ss) (group xb bb acc den w b oS hS oX hX) fun _ =>
        iprop(holds (F := F) (e := .f32) (V d cc ss) xb X ∗ holds (F := F) (e := .i32) (V d cc ss) bb B
          ∗ sums (V d cc ss) acc den (rowStep w b (s 4) (R 4) <| rowStep w b (s 3) (R 3) <| rowStep w b (s 2) (R 2) <|
              rowStep w b (s 1) (R 1) <| rowStep w b (s 0) (R 0) P)) := by
  unfold group
  iintro ⟨HX, HB, HP⟩
  iapply (wp_ldSeg B (hs 0)) $$ HB; iintro HB
  iapply (wp_ldSeg B (hs 1)) $$ HB; iintro HB
  iapply (wp_ldSeg B (hs 2)) $$ HB; iintro HB
  iapply (wp_ldSeg B (hs 3)) $$ HB; iintro HB
  iapply (wp_ldSeg B (hs 4)) $$ HB; iintro HB
  iapply (wp_ldRow X (R 0) (hR 0)) $$ HX; iintro HX
  iapply (wp_ldRow X (R 1) (hR 1)) $$ HX; iintro HX
  iapply (wp_ldRow X (R 2) (hR 2)) $$ HX; iintro HX
  iapply (wp_ldRow X (R 3) (hR 3)) $$ HX; iintro HX
  iapply (wp_ldRow X (R 4) (hR 4)) $$ HX; iintro HX
  iapply (wp_addRow P) $$ HP; iintro HP
  iapply (wp_addRow) $$ HP; iintro HP
  iapply (wp_addRow) $$ HP; iintro HP
  iapply (wp_addRow) $$ HP; iintro HP
  iapply (wp_addRow) $$ HP; iintro HP
  iapply (wp_done (thr := V d cc ss) (a := PUnit.unit))
  simp only [hv]
  isplitl [HX]; · iexact HX
  isplitl [HB]; · iexact HB
  iexact HP

end Group

end Cert.Tile
-- ==== Proof.Offsets.lean ====
module

public import proofs.«01_k».proof.Proof.Base

@[expose] public section

namespace Cert.Tile

open Cert.KernelIdeal Cert.KernelIdeal.Gen
open Idealize.ShloMosaic

/-- The tile's number: two SparseCores, sixteen tiles each. -/
abbrev wid (i : grid0.Coords) : ℕ := 2 * (i 1).val + (i 0).val
/-- The tile's first row. -/
abbrev row0 (i : grid0.Coords) : ℕ := 1125 * wid i

theorem wid_lt (i : grid0.Coords) : wid i < 32 := by
  have h0 : (i 0).val < 2 := (i 0).isLt
  have h1 : (i 1).val < 16 := (i 1).isLt
  unfold wid; omega

theorem trips1 : k0_t1_loop.trips = 2048 := by decide +kernel
theorem trips2 : k0_t2_loop.trips = 256 := by decide +kernel
theorem trips3 : k0_t3_loop.trips = 4 := by decide +kernel
theorem trips4 : k0_t4_loop.trips = 25 := by decide +kernel
theorem trips5 : k0_t5_loop.trips = 25 := by decide +kernel
theorem trips6 : k0_t6_loop.trips = 25 := by decide +kernel

theorem off1_eq : ∀ i : grid0.Coords, k0_off1 i 0 = 8 * (1125 * (2 * (i 1).val + (i 0).val) / 8) := by decide +kernel
theorem off2_eq : ∀ t : Fin k0_t1_loop.trips, k0_off2 t 0 = t.val / 8 ∧ k0_off2 t 1 = 16 * (t.val % 8) := by decide +kernel
theorem off7_eq : ∀ (i : grid0.Coords) (t : Fin k0_t3_loop.trips) (g : Fin k0_t4_loop.trips) (u : Fin 5),
    k0_off7 i t g (BitVec.ofNat 32 u.val) 0 = 1125 * (2 * (i 1).val + (i 0).val) % 8 + 250 * t.val + 5 * g.val + u.val := by decide +kernel
theorem off54_eq : ∀ (i : grid0.Coords) (t : Fin k0_t3_loop.trips) (g : Fin k0_t5_loop.trips) (u : Fin 5),
    k0_off54 i t g (BitVec.ofNat 32 u.val) 0 = 1125 * (2 * (i 1).val + (i 0).val) % 8 + 250 * t.val + 125 + 5 * g.val + u.val := by decide +kernel
theorem off101_eq : ∀ (i : grid0.Coords) (g : Fin k0_t6_loop.trips) (u : Fin 5),
    k0_off101 i g (BitVec.ofNat 32 u.val) 0 = 1125 * (2 * (i 1).val + (i 0).val) % 8 + 1000 + 5 * g.val + u.val := by decide +kernel

end Cert.Tile
-- ==== Proof.Tile.lean ====
module

public import proofs.«01_k».proof.Proof.Rows
public import proofs.«01_k».proof.Proof.Offsets

@[expose] public section

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-! ## Copies and waits -/

section Copies

variable {thr : Thread nD τ} {α : Type} {Q : α → sProp (MM F)}

/-- What the thread owes, with waits recorded only at the index of its own cells. -/
def owesN (thr : Thread nD τ) (O : CellTallies nD τ sig (HIx 1)) (W : Waits sig (HIx 1)) : sProp (MM F) :=
  iprop(∃ W', ⌜∀ p ∈ W', p ∈ W ∨ p.2 = none⌝ ∗ owes thr O W')

/-- A copy in the air: at its wait the target holds `Y`, and the source comes back. -/
def arriving (thr : Thread nD τ) {sp : Space} {s : Shape} {e : EltTy} (sem : DmaSem sig) (dst : Memref sig thr.2.kind sp s e) (Y : s.Idx → Elt F e)
    (R : sProp (MM F)) : sProp (MM F) :=
  iprop(∃ D, Transfers.Flight countersEmb thr (.dma sem) (default : HIx 1) dst.view.dmaCredit D ∗ (D -∗ (holds thr dst Y ∗ R)))

theorem wp_copy {sp sp' : Space} {s : Shape} {e : EltTy} {src : Memref sig thr.2.kind sp s e} {dst : Memref sig thr.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ₀ thr.2) α} {q : PosShare TreeShare} (fs : Buf (Elt F) (src.view.loc thr))
    (hN0 : 0 < dst.view.dmaCredit) :
    iprop((src.view.loc thr ↦[src.view.set]{q} fs) ∗ (∃ Z, holds thr dst Z) ∗ semVal (thr, .dma sem) 0)
      ⊢ iprop((arriving thr sem dst (src.view.read (Elt F) fs) iprop(src.view.loc thr ↦[src.view.set]{q} fs) -∗ WP thr (k ⟨⟩) Q)
        -∗ WP thr (.op (.enqueueDma src (.here dst) (.dma sem) hsrc hdst hsem) k) Q) := by
  unfold holds arriving
  iintro ⟨Hs, ⟨%Z, %fd, %hfd, Hd⟩, Hv⟩ Hk
  iapply (Transfers.wp_dmaLocal countersEmb 𝒱₀ thr none (src := src) (dst := dst) (via := ReadAs.same) (sm := .dma sem) (q := q) (fs := fs) (Sd := dst.view.set) (fd := fd)
    (default : HIx 1) dst.view.dmaCredit rfl hN0 (Finset.Subset.refl _)) $$ [Hs Hd Hv]
  · isplitl [Hs]; · iexact Hs
    isplitl [Hd]; · iexact Hd
    iexact Hv
  iintro Hf
  iapply Hk
  iexists _
  isplitl [Hf]; · iexact Hf
  iintro ⟨Hd, Hs⟩
  isplitl [Hd]
  · unfold holds
    iexists _
    isplitr
    swap; · iexact Hd
    ipureintro
    exact View.read_write_univ _ _
  · iexact Hs

theorem wp_await {sp sp' : Space} {s s' : Shape} {e e' : EltTy} {src : Memref sig thr.2.kind sp' s' e'} {dst : Memref sig thr.2.kind sp s e} {sem : DmaSem sig}
    {hsrc : src.view.WordExact} {hdst : dst.view.WordExact}
    {k : PUnit → Prog (TpuEff nD τ sig (Elt F) Λ₀ thr.2) α} {Y : s.Idx → Elt F e} {R : sProp (MM F)} {O : CellTallies nD τ sig (HIx 1)} {W : Waits sig (HIx 1)} :
    iprop(arriving thr sem dst Y R ∗ owesN thr O W ∗ Transfers.MayWaits thr (default : HIx 1) O)
      ⊢ iprop((iprop(holds thr dst Y ∗ R ∗ semVal (thr, .dma sem) 0 ∗ owesN thr O W) -∗ WP thr (k ⟨⟩) Q)
        -∗ WP thr (.op (.waitDma2 sem src dst hsrc hdst) k) Q) := by
  unfold arriving owesN
  iintro ⟨⟨%D, Hf, HD⟩, ⟨%W', %hW', HO⟩, Hmw⟩ Hk
  iapply (Transfers.wp_waitLocalO countersEmb 𝒱₀ thr none (default : HIx 1) (rfl : dst.view.dmaCredit = _)) $$ [Hf HO Hmw]
  · isplitl [Hf]; · iexact Hf
    isplitl [HO]; · iexact HO
    iapply (Transfers.MayWaits.elim (SemLoc.dma sem)) $$ Hmw
  iintro ⟨HD', Hv, HO⟩
  iapply Hk
  ihave H := HD $$ HD'
  icases H with ⟨Hd, HR⟩
  isplitl [Hd]; · iexact Hd
  isplitl [HR]; · iexact HR
  isplitl [Hv]; · iexact Hv
  iexists _
  isplitr
  swap; · iexact HO
  ipureintro
  intro p hp
  rcases Finset.mem_insert.mp hp with hp | hp
  · exact .inr (hp ▸ rfl)
  · exact hW' p hp

end Copies

/-! ## The rows of a tile -/

/-- Sixteen lanes of row `n`. -/
def xrow (fx : S12800000.Idx → F .f32) (n : ℕ) (j : Fin 8) : FVec F S16 .f32 :=
  fun y => fx (ix1 ⟨(128 * n + 16 * j.val + (y 0).val) % 12800000, Nat.mod_lt _ (by decide)⟩)

/-- The segment of row `n`. -/
def segOf (fs : S100000.Idx → BitVec 32) (n : ℕ) : ℕ := (fs (ix1 ⟨n % 100000, Nat.mod_lt _ (by decide)⟩)).toNat

/-- A hundred and twenty-five rows from row `n` on. -/
def chunk (fx : S12800000.Idx → F .f32) (n : ℕ) : S16000.Idx → F .f32 :=
  fun y => fx (ix1 ⟨(128 * n + (y 0).val) % 12800000, Nat.mod_lt _ (by decide)⟩)

/-- The weights, vector by vector. -/
def wvec (fw : S128.Idx → F .f32) (j : Fin 8) : FVec F S16 .f32 :=
  fun y => fw (ix1 ⟨(16 * j.val + (y 0).val) % 128, Nat.mod_lt _ (by decide)⟩)

/-- The zero the buffers are cleared to. -/
abbrev z32 : F .f32 := Scalar.ofBits .f32 0x00000000#32

/-- The two sums after `k` rows from row `n` on. -/
def runFrom (fx : S12800000.Idx → F .f32) (fs : S100000.Idx → BitVec 32) (w : Fin 8 → FVec F S16 .f32) (b : FVec F S16 .f32) (n : ℕ) : ℕ → Sums F
  | 0 => (fun _ => z32, fun _ => z32)
  | k + 1 => rowStep w b (segOf fs (n + k)) (xrow fx (n + k)) (runFrom fx fs w b n k)

theorem vecAt_chunk (fx : S12800000.Idx → F .f32) (n r : ℕ) (j : Fin 8) (o : Fin 1 → Nat) (ho : ∀ a, o a + S16.size a ≤ S16000.size a)
    (h : o 0 = 128 * r + 16 * j.val) : vecAt (chunk fx n) o ho = xrow fx (n + r) j := by
  funext y
  unfold vecAt chunk xrow
  refine congrArg fx (congrArg ix1 (Fin.ext ?_))
  show (128 * n + (o 0 + 1 * (y 0).val)) % 12800000 = (128 * (n + r) + 16 * j.val + (y 0).val) % 12800000
  congr 1
  omega

theorem read_xRows (fx : S12800000.Idx → F .f32) (n : ℕ) (o : Fin 1 → Nat) (ho : ∀ a, o a + S16000.size a ≤ S12800000.size a)
    (h : o 0 = 128 * n) : (xRows o ho).view.read (Elt F) fx = chunk fx n := by
  funext y
  unfold chunk
  show fx ((Rect.unit (s := S12800000) o S16000.size ho).emb y) = _
  refine congrArg fx (funext fun a => Fin.ext ?_)
  match a with
  | 0 =>
    show o 0 + 1 * (y 0).val = (128 * n + (y 0).val) % 12800000
    have h1 := ho 0
    have h2 : (y 0).val < 16000 := (y 0).isLt
    have h3 : o 0 + 16000 ≤ 12800000 := h1
    rw [h, Nat.mod_eq_of_lt (by omega)]; omega

/-- The words a tile fetches. -/
def wordsOf (fs : S100000.Idx → BitVec 32) (i : grid0.Coords) : S1152.Idx → BitVec 32 :=
  (sRows i).view.read (Elt F) fs

theorem wordAt_words (fs : S100000.Idx → BitVec 32) (i : grid0.Coords) (r : ℕ) (o : Fin 1 → Nat) (ho : ∀ a, o a + S16.size a ≤ S1152.size a)
    (h : o 0 = 1125 * (2 * (i 1).val + (i 0).val) % 8 + r) :
    wordAt (wordsOf (F := F) fs i) o ho = fs (ix1 ⟨(row0 i + r) % 100000, Nat.mod_lt _ (by decide)⟩) := by
  unfold wordAt wordsOf
  show fs ((Rect.unit (s := S100000) (k0_off1 i) S1152.size (k0_off1_inb i)).emb _) = _
  refine congrArg fs (funext fun a => Fin.ext ?_)
  match a with
  | 0 =>
    show k0_off1 i 0 + 1 * (o 0 + 1 * 0) = (row0 i + r) % 100000
    have h1 : o 0 + 16 ≤ 1152 := ho 0
    have h2 : k0_off1 i 0 + 1152 ≤ 100000 := k0_off1_inb i 0
    rw [off1_eq] at h2 ⊢
    unfold row0 wid
    rw [Nat.mod_eq_of_lt (by omega)]; omega

theorem seg_of_lt (v : BitVec 32) (h : v.toNat < 256) : Seg v := by
  have hv : (Scalar.indexCast v).toNat = v.toNat := rfl
  refine ⟨?_, ?_, ?_, ?_, ?_, ?_, ?_, ?_, ?_⟩ <;>
  · intro a
    match a with
    | 0 => show (Scalar.indexCast v).toNat + 1 ≤ 256; omega
    | 1 => exact Nat.le_of_ble_eq_true rfl

/-! ## Five rows at a time -/

section Tile

variable (d : Dev nD) (i : grid0.Coords)

/-- The tile's thread. -/
abbrev th : Thread nD τ := V d ((i 0).castLE hcore0) ((i 1).castLE hsub0)

variable (fx : S12800000.Idx → F .f32) (fs : S100000.Idx → BitVec 32) (w : Fin 8 → FVec F S16 .f32) (b : FVec F S16 .f32)

/-- The words below the number of segments. -/
def InRange (fs : S100000.Idx → BitVec 32) : Prop := ∀ y, (fs y).toNat < 256

/-- The buffer of rows, the words and the two sums after `k` rows. -/
abbrev mid (xb : Memref sig .scVector .vmem S16000 .f32) (n k : ℕ) : sProp (MM F) :=
  iprop(holds (F := F) (e := .f32) (th d i) xb (chunk fx n) ∗ holds (F := F) (e := .i32) (th d i) sV (wordsOf (F := F) fs i)
    ∗ sums (th d i) aV dV (runFrom fx fs w b (row0 i) k))

theorem wp_five (hfs : InRange fs) {xb : Memref sig .scVector .vmem S16000 .f32}
    {oS : Fin 5 → Fin 1 → Nat} {hS : ∀ u a, oS u a + S16.size a ≤ S1152.size a}
    {oX : Fin 5 → Fin 8 → Fin 1 → Nat} {hX : ∀ u j a, oX u j a + S16.size a ≤ S16000.size a} (n k r : ℕ)
    (hk : row0 i + k = n + r)
    (h1 : ∀ u, oS u 0 = 1125 * (2 * (i 1).val + (i 0).val) % 8 + k + u.val)
    (h2 : ∀ u j, oX u j 0 = 128 * r + 128 * u.val + 16 * j.val) :
    mid d i fx fs w b xb n k
      ⊢ WP (th d i) (group xb sV aV dV w b oS hS oX hX) fun _ => mid d i fx fs w b xb n (k + 5) := by
  have hv : ∀ u, wordAt (wordsOf (F := F) fs i) (oS u) (hS u) = fs (ix1 ⟨(row0 i + (k + u.val)) % 100000, Nat.mod_lt _ (by decide)⟩) :=
    fun u => wordAt_words fs i (k + u.val) (oS u) (hS u) (by rw [h1]; omega)
  refine (wp_group (d := d) (chunk fx n) (wordsOf (F := F) fs i) (runFrom fx fs w b (row0 i) k)
    (fun u => xrow fx (row0 i + (k + u.val))) (fun u => segOf fs (row0 i + (k + u.val))) ?_ ?_ ?_).trans (wp_mono frame _ _ fun _ => ?_)
  · intro u j
    have := vecAt_chunk fx n (r + u.val) j (oX u j) (hX u j) (by rw [h2]; omega)
    rw [this]; congr 1; omega
  · intro u; rw [hv]; exact seg_of_lt _ (hfs _)
  · intro u; rw [hv]; rfl
  · exact Entails.of_eq rfl

/-- A part's twenty-five groups. -/
theorem wp_part (hfs : InRange fs) (xb : Memref sig .scVector .vmem S16000 .f32) (n k : ℕ) (l : Scf.Loop 32) (hl : l.OK) (htr : l.trips = 25)
    (body : Fin l.trips → TP F i PUnit) (hbody : ∀ g, mid d i fx fs w b xb n (k + 5 * g.val) ⊢ WP (th d i) (body g) fun _ => mid d i fx fs w b xb n (k + 5 * g.val + 5))
    {kk : PUnit → TP F i PUnit} {Q : PUnit → sProp (MM F)} :
    mid d i fx fs w b xb n k
      ⊢ iprop((mid d i fx fs w b xb n (k + 125) -∗ WP (th d i) (kk ⟨⟩) Q) -∗ WP (th d i) (Scf.Loop.for l hl ⟨⟩ (fun g _ => body g) >>= kk) Q) := by
  have h := Scf.wp_for_bind frame (wpE (defs₀ (F := F)) 𝒱₀ (th d i) none) Set.univ l.lb l.ub l.st hl (PUnit.unit) (fun g _ => body g)
    (fun g _ => mid d i fx fs w b xb n (k + 5 * g)) (fun g _ => hbody g) (kk := kk) (Q := Q)
  have e : l.trips = 25 := htr
  iintro H Hk
  iapply h $$ H
  iintro %acc H
  rw [show Scf.trips l.lb l.ub l.st = 25 from e]
  iapply Hk
  iexact H

theorem wp_part4 (hfs : InRange fs) (t : Fin k0_t3_loop.trips) {kk : PUnit → TP F i PUnit} {Q : PUnit → sProp (MM F)} :
    mid d i fx fs w b x0V (row0 i + 250 * t.val) (250 * t.val)
      ⊢ iprop((mid d i fx fs w b x0V (row0 i + 250 * t.val) (250 * t.val + 125) -∗ WP (th d i) (kk ⟨⟩) Q)
        -∗ WP (th d i) (Scf.Loop.for k0_t4_loop k0_t4_ok ⟨⟩ (fun g _ => grp4 i w b t g) >>= kk) Q) :=
  wp_part d i fx fs w b hfs x0V _ _ _ _ trips4 (fun g => grp4 i w b t g) fun g =>
    wp_five d i fx fs w b hfs (hS := k0_off7_inb i t g) (hX := k0_off8_inb g) _ _ (5 * g.val) (by omega)
      (fun u => by rw [off7_eq]; omega) (fun u j => by rw [k0_off8_eq]; show 640 * g.val + 128 * u.val + 16 * j.val = _; omega)

theorem wp_part5 (hfs : InRange fs) (t : Fin k0_t3_loop.trips) {kk : PUnit → TP F i PUnit} {Q : PUnit → sProp (MM F)} :
    mid d i fx fs w b x1V (row0 i + (250 * t.val + 125)) (250 * t.val + 125)
      ⊢ iprop((mid d i fx fs w b x1V (row0 i + (250 * t.val + 125)) (250 * t.val + 125 + 125) -∗ WP (th d i) (kk ⟨⟩) Q)
        -∗ WP (th d i) (Scf.Loop.for k0_t5_loop k0_t5_ok ⟨⟩ (fun g _ => grp5 i w b t g) >>= kk) Q) :=
  wp_part d i fx fs w b hfs x1V _ _ _ _ trips5 (fun g => grp5 i w b t g) fun g =>
    wp_five d i fx fs w b hfs (hS := k0_off54_inb i t g) (hX := k0_off55_inb g) _ _ (5 * g.val) (by omega)
      (fun u => by rw [off54_eq]; omega) (fun u j => by rw [k0_off55_eq]; show 640 * g.val + 128 * u.val + 16 * j.val = _; omega)

theorem wp_part6 (hfs : InRange fs) {kk : PUnit → TP F i PUnit} {Q : PUnit → sProp (MM F)} :
    mid d i fx fs w b x0V (row0 i + 1000) 1000
      ⊢ iprop((mid d i fx fs w b x0V (row0 i + 1000) (1000 + 125) -∗ WP (th d i) (kk ⟨⟩) Q)
        -∗ WP (th d i) (Scf.Loop.for k0_t6_loop k0_t6_ok ⟨⟩ (fun g _ => grp6 i w b g) >>= kk) Q) :=
  wp_part d i fx fs w b hfs x0V _ _ _ _ trips6 (fun g => grp6 i w b g) fun g =>
    wp_five d i fx fs w b hfs (hS := k0_off101_inb i g) (hX := k0_off102_inb g) _ _ (5 * g.val) (by omega)
      (fun u => by rw [off101_eq]; omega) (fun u j => by rw [k0_off102_eq]; show 640 * g.val + 128 * u.val + 16 * j.val = _; omega)

end Tile

end Cert.Tile
-- ==== Proof.TileBody.lean ====
module

public import proofs.«01_k».proof.Proof.Tile

@[expose] public section

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

section Body

variable (d : Dev nD) (i : grid0.Coords)
variable (fx : S12800000.Idx → F .f32) (fs : S100000.Idx → BitVec 32) (fw : S128.Idx → F .f32) (fb : S16.Idx → F .f32)
variable (w : Fin 8 → FVec F S16 .f32) (b : FVec F S16 .f32)

/-! ## Clearing -/

theorem wp_zeroAcc' {α : Type} {kk : PUnit → TP F i α} {Q : α → sProp (MM F)} :
    iprop(∃ A, holds (F := F) (e := .f32) (th d i) aV A)
      ⊢ iprop((holds (F := F) (e := .f32) (th d i) aV (fun _ => z32) -∗ WP (th d i) (kk ⟨⟩) Q)
        -∗ WP (th d i) (Scf.Loop.for k0_t1_loop k0_t1_ok ⟨⟩ (fun t _ => zeroAcc i t) >>= kk) Q) := by
  have h := Scf.wp_for_bind frame (wpE (defs₀ (F := F)) 𝒱₀ (th d i) none) Set.univ k0_t1_loop.lb k0_t1_loop.ub k0_t1_loop.st k0_t1_ok (PUnit.unit)
    (fun t _ => zeroAcc (F := F) i t)
    (fun t _ => iprop(∃ A : S256x128.Idx → F .f32, ⌜∀ y, 8 * (y 0).val + (y 1).val / 16 < t → A y = z32⌝ ∗ holds (F := F) (e := .f32) (th d i) aV A))
    (fun t _ => ?_) (kk := kk) (Q := Q)
  · iintro ⟨%A, H⟩ Hk
    iapply h $$ [H]
    · iexists A
      isplitr; · ipureintro; intro y hy; exact absurd hy (Nat.not_lt_zero _)
      iexact H
    iintro %acc ⟨%A', %hA', H⟩
    rw [show A' = fun _ => z32 from funext fun y => hA' y (by
      have h0 : (y 0).val < 256 := (y 0).isLt
      have h1 : (y 1).val < 128 := (y 1).isLt
      show _ < k0_t1_loop.trips
      rw [trips1]; omega)]
    iapply Hk
    iexact H
  · iintro ⟨%A, %hA, H⟩
    unfold zeroAcc
    iapply (wp_ld (thr := th d i) (e := .f32) A) $$ H; iintro H
    iapply (wp_st (thr := th d i) (e := .f32) A (fun y => if 8 * (y 0).val + (y 1).val / 16 < t.val + 1 ∧ ¬ 8 * (y 0).val + (y 1).val / 16 < t.val then z32 else A y) ?_ ?_) $$ H
    · intro y
      obtain ⟨y0, y1, rfl⟩ : ∃ (y0 : Fin 1) (y1 : Fin 16), y = ix2 y0 y1 := ⟨y 0, y 1, eq_ix2 y⟩
      have ho := off2_eq t
      have h0 : ((Rect.unit (s := S256x128) (k0_off2 t) S1x16.size (k0_off2_inb t)).emb (ix2 y0 y1) 0).val = t.val / 8 := by
        show k0_off2 t 0 + 1 * y0.val = _
        have := y0.isLt; omega
      have h1 : ((Rect.unit (s := S256x128) (k0_off2 t) S1x16.size (k0_off2_inb t)).emb (ix2 y0 y1) 1).val = 16 * (t.val % 8) + y1.val := by
        show k0_off2 t 1 + 1 * y1.val = _
        omega
      have h2 := y1.isLt
      have hc : 8 * (t.val / 8) + (16 * (t.val % 8) + y1.val) / 16 = t.val := by omega
      simp only [h0, h1, hc]
      rw [if_pos ⟨by omega, by omega⟩, shapeCast_a_1a_apply]
      rfl
    · intro y hy
      show (if _ then _ else _) = _
      rw [if_neg]
      rintro ⟨h0, h1⟩
      have ho := off2_eq t
      refine hy (Rect.mem_set_unit.mpr fun a => ?_)
      have h2 : (y 1).val < 128 := (y 1).isLt
      match a with
      | 0 => show k0_off2 t 0 ≤ (y 0).val ∧ (y 0).val < k0_off2 t 0 + 1; omega
      | 1 => show k0_off2 t 1 ≤ (y 1).val ∧ (y 1).val < k0_off2 t 1 + 16; omega
    iintro H
    iapply (wp_done (thr := th d i) (a := PUnit.unit))
    iexists _
    isplitr
    swap; · iexact H
    ipureintro
    intro y hy
    by_cases h0 : 8 * (y 0).val + (y 1).val / 16 < t.val
    · show (if _ then _ else _) = _
      rw [if_neg (fun h => h.2 h0)]; exact hA y h0
    · show (if _ then _ else _) = _
      rw [if_pos ⟨hy, h0⟩]

theorem wp_zeroDen' {α : Type} {kk : PUnit → TP F i α} {Q : α → sProp (MM F)} :
    iprop(∃ A, holds (F := F) (e := .f32) (th d i) dV A)
      ⊢ iprop((holds (F := F) (e := .f32) (th d i) dV (fun _ => z32) -∗ WP (th d i) (kk ⟨⟩) Q)
        -∗ WP (th d i) (Scf.Loop.for k0_t2_loop k0_t2_ok ⟨⟩ (fun t _ => zeroDen i t) >>= kk) Q) := by
  have h := Scf.wp_for_bind frame (wpE (defs₀ (F := F)) 𝒱₀ (th d i) none) Set.univ k0_t2_loop.lb k0_t2_loop.ub k0_t2_loop.st k0_t2_ok (PUnit.unit)
    (fun t _ => zeroDen (F := F) i t)
    (fun t _ => iprop(∃ A : S256x16.Idx → F .f32, ⌜∀ y, (y 0).val < t → A y = z32⌝ ∗ holds (F := F) (e := .f32) (th d i) dV A))
    (fun t _ => ?_) (kk := kk) (Q := Q)
  · iintro ⟨%A, H⟩ Hk
    iapply h $$ [H]
    · iexists A
      isplitr; · ipureintro; intro y hy; exact absurd hy (Nat.not_lt_zero _)
      iexact H
    iintro %acc ⟨%A', %hA', H⟩
    rw [show A' = fun _ => z32 from funext fun y => hA' y (by
      have h0 : (y 0).val < 256 := (y 0).isLt
      show _ < k0_t2_loop.trips
      rw [trips2]; omega)]
    iapply Hk
    iexact H
  · iintro ⟨%A, %hA, H⟩
    unfold zeroDen
    iapply (wp_ld (thr := th d i) (e := .f32) A) $$ H; iintro H
    iapply (wp_st (thr := th d i) (e := .f32) A (fun y => if (y 0).val = t.val then z32 else A y) ?_ ?_) $$ H
    · intro y
      obtain ⟨y0, y1, rfl⟩ : ∃ (y0 : Fin 1) (y1 : Fin 16), y = ix2 y0 y1 := ⟨y 0, y 1, eq_ix2 y⟩
      have h0 : ((Rect.unit (s := S256x16) (k0_off3 t) S1x16.size (k0_off3_inb t)).emb (ix2 y0 y1) 0).val = t.val := by
        show k0_off3 t 0 + 1 * y0.val = _
        rw [k0_off3_eq]
        show t.val + 1 * y0.val = _
        have := y0.isLt; omega
      rw [if_pos h0, shapeCast_a_1a_apply]
      rfl
    · intro y hy
      show (if _ then _ else _) = _
      rw [if_neg]
      intro h0
      refine hy (Rect.mem_set_unit.mpr fun a => ?_)
      have h2 : (y 1).val < 16 := (y 1).isLt
      rw [k0_off3_eq]
      match a with
      | 0 => show t.val ≤ (y 0).val ∧ (y 0).val < t.val + 1; omega
      | 1 => show 0 ≤ (y 1).val ∧ (y 1).val < 0 + 16; omega
    iintro H
    iapply (wp_done (thr := th d i) (a := PUnit.unit))
    iexists _
    isplitr
    swap; · iexact H
    ipureintro
    intro y hy
    by_cases h0 : (y 0).val = t.val
    · show (if _ then _ else _) = _
      rw [if_pos h0]
    · show (if _ then _ else _) = _
      rw [if_neg h0]; exact hA y (by omega)

/-! ## The nine parts -/

/-- All of the rows' array, at a share. -/
abbrev xAll (q : PosShare TreeShare) : sProp (MM F) := iprop(xH.view.loc (th d i) ↦{q} fx)

/-- Rows in the air to a buffer: at the wait the buffer holds them, and the rows' array is back at its share. -/
abbrev inAir (sem : DmaSem sig) (xb : Memref sig .scVector .vmem S16000 .f32) (q : PosShare TreeShare) (n : ℕ) : sProp (MM F) :=
  arriving (F := F) (e := .f32) (th d i) sem xb (chunk fx n) (xAll d i fx q)

theorem arriving_mono {thr : Thread nD τ} {sp : Space} {s : Shape} {e : EltTy} {sem : DmaSem sig} {dst : Memref sig thr.2.kind sp s e} {Y : s.Idx → Elt F e}
    {R R' : sProp (MM F)} : iprop(arriving thr sem dst Y R ∗ (R -∗ R')) ⊢ arriving thr sem dst Y R' := by
  unfold arriving
  iintro ⟨⟨%D, Hf, HD⟩, HR⟩
  iexists D
  isplitl [Hf]; · iexact Hf
  iintro H
  ihave H := HD $$ H
  icases H with ⟨Hd, H⟩
  isplitl [Hd]; · iexact Hd
  iapply HR; iexact H

/-- Rows sent for. -/
theorem wp_send {xb : Memref sig .scVector .vmem S16000 .f32} {sem : DmaSem sig} {n : ℕ} {o : Fin 1 → Nat} {ho : ∀ a, o a + S16000.size a ≤ S12800000.size a}
    {hsrc : (xRows o ho).view.WordExact} {hdst : xb.view.WordExact} {hsem : DmaTarget.Typed (nD := nD) .hbm (.dma sem) (DmaTarget.here (p := (th d i).2) xb)}
    {k : PUnit → TP F i PUnit} {q : PosShare TreeShare} {Q : PUnit → sProp (MM F)} (hN0 : 0 < xb.view.dmaCredit) (h : o 0 = 128 * n) :
    iprop(xAll d i fx q ∗ (∃ Z, holds (F := F) (e := .f32) (th d i) xb Z) ∗ semVal (th d i, .dma sem) 0)
      ⊢ iprop((inAir d i fx sem xb q n -∗ WP (th d i) (k ⟨⟩) Q)
        -∗ WP (th d i) (.op (.enqueueDma (xRows o ho) (.here xb) (.dma sem) hsrc hdst hsem) k) Q) := by
  have hsub := pointsTo_split_subset (nD := nD) (Ix := HIx 1) (Val := Elt F) (Name := ℕ) (U := UU) (Lvl := ℕ) (ℓ := xH.view.loc (th d i)) (q := q) (f := fx) (S := Finset.univ) (Finset.subset_univ (xRows o ho).view.set)
  iintro ⟨Hx, Hd, Hv⟩ Hk
  ihave Hx := hsub.1 $$ Hx
  icases Hx with ⟨Hx, Hr⟩
  iapply (wp_copy (thr := th d i) (e := .f32) (src := xRows o ho) (dst := xb) (sem := sem) (q := q) fx hN0) $$ [Hx Hd Hv]
  · isplitl [Hx]; · iexact Hx
    isplitl [Hd]; · iexact Hd
    iexact Hv
  iintro Ha
  iapply Hk
  rw [read_xRows fx n o ho h]
  iapply arriving_mono
  isplitl [Ha]; · iexact Ha
  iintro Hx
  iapply hsub.2
  isplitl [Hx]
  · iexact Hx
  · iexact Hr

variable (O : CellTallies nD τ sig (HIx 1)) (W : Waits sig (HIx 1)) (qa qb : PosShare TreeShare)

/-- Between two pairs of parts: the first buffer's rows in the air, the second buffer free. -/
abbrev between (n k : ℕ) : sProp (MM F) :=
  iprop(inAir d i fx cc0_scratch7.sem x0V qa n ∗ (∃ Z, holds (F := F) (e := .f32) (th d i) x1V Z) ∗ xAll d i fx qb
    ∗ semVal (th d i, .dma cc0_scratch8.sem) 0 ∗ holds (F := F) (e := .i32) (th d i) sV (wordsOf (F := F) fs i)
    ∗ sums (th d i) aV dV (runFrom fx fs w b (row0 i) k) ∗ owesN (th d i) O W)

theorem wp_pair (hfs : InRange fs) (t : Fin k0_t3_loop.trips) :
    iprop(between d i fx fs w b O W qa qb (row0 i + 250 * t.val) (250 * t.val) ∗ Transfers.MayWaits (th d i) (default : HIx 1) O)
      ⊢ WP (th d i) (pair i w b t) fun _ => between d i fx fs w b O W qa qb (row0 i + 250 * (t.val + 1)) (250 * (t.val + 1)) := by
  unfold pair between send0 send1 recv0 recv1
  iintro ⟨⟨Ha, H1, Hxb, Hv1, Hs, HS, HO⟩, #Hmw⟩
  iapply (wp_send d i fx (n := row0 i + (250 * t.val + 125)) (by decide) (by
    rw [show (1#32 : BitVec 32) = BitVec.ofNat 32 (1 + (0 : Fin 2).val) from rfl, k0_off5_eq]
    show 288000 * (i 1).val + 144000 * (i 0).val + 32000 * t.val + 16000 * 0 + 16000 = _
    unfold row0 wid; omega)) $$ [Hxb H1 Hv1]
  · isplitl [Hxb]; · iexact Hxb
    isplitl [H1]; · iexact H1
    iexact Hv1
  iintro Hb
  iapply (wp_await (thr := th d i)) $$ [Ha HO]
  · isplitl [Ha]; · iexact Ha
    isplitl [HO]; · iexact HO
    iexact Hmw
  iintro ⟨H0, Hxa, Hv0, HO⟩
  iapply (wp_part4 d i fx fs w b hfs t) $$ [H0 Hs HS]
  · isplitl [H0]; · iexact H0
    isplitl [Hs]; · iexact Hs
    iexact HS
  iintro ⟨H0, Hs, HS⟩
  iapply (wp_send d i fx (n := row0 i + 250 * (t.val + 1)) (by decide) (by
    rw [show (2#32 : BitVec 32) = BitVec.ofNat 32 (1 + (1 : Fin 2).val) from rfl, k0_off5_eq]
    show 288000 * (i 1).val + 144000 * (i 0).val + 32000 * t.val + 16000 * 1 + 16000 = _
    unfold row0 wid; omega)) $$ [Hxa H0 Hv0]
  · isplitl [Hxa]; · iexact Hxa
    isplitl [H0]; · iexists _; iexact H0
    iexact Hv0
  iintro Ha
  iapply (wp_await (thr := th d i)) $$ [Hb HO]
  · isplitl [Hb]; · iexact Hb
    isplitl [HO]; · iexact HO
    iexact Hmw
  iintro ⟨H1, Hxb, Hv1, HO⟩
  iapply (wp_part5 d i fx fs w b hfs t) $$ [H1 Hs HS]
  · isplitl [H1]; · iexact H1
    isplitl [Hs]; · iexact Hs
    iexact HS
  iintro ⟨H1, Hs, HS⟩
  iapply (wp_done (thr := th d i) (a := PUnit.unit))
  rw [show 250 * t.val + 125 + 125 = 250 * (t.val + 1) by omega]
  isplitl [Ha]; · iexact Ha
  isplitl [H1]; · iexists _; iexact H1
  isplitl [Hxb]; · iexact Hxb
  isplitl [Hv1]; · iexact Hv1
  isplitl [Hs]; · iexact Hs
  isplitl [HS]; · iexact HS
  iexact HO

end Body

end Cert.Tile
-- ==== Proof.TileRun.lean ====
module

public import proofs.«01_k».proof.Proof.TileBody

@[expose] public section

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-- A copy out of an array held whole at a share. -/
theorem wp_copyAll {thr : Thread nD τ} {α : Type} {Q : α → sProp (MM F)} {sp sp' : Space} {s : Shape} {e : EltTy} {src : Memref sig thr.2.kind sp s e} {dst : Memref sig thr.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ₀ thr.2) α} {q : PosShare TreeShare} (fs : Buf (Elt F) (src.view.loc thr))
    (hN0 : 0 < dst.view.dmaCredit) :
    iprop((src.view.loc thr ↦{q} fs) ∗ (∃ Z, holds thr dst Z) ∗ semVal (thr, .dma sem) 0)
      ⊢ iprop((arriving thr sem dst (src.view.read (Elt F) fs) iprop(src.view.loc thr ↦{q} fs) -∗ WP thr (k ⟨⟩) Q)
        -∗ WP thr (.op (.enqueueDma src (.here dst) (.dma sem) hsrc hdst hsem) k) Q) := by
  have hsub := pointsTo_split_subset (nD := nD) (Ix := HIx 1) (Val := Elt F) (Name := ℕ) (U := UU) (Lvl := ℕ) (ℓ := src.view.loc thr) (q := q) (f := fs) (S := Finset.univ) (Finset.subset_univ src.view.set)
  iintro ⟨Hx, Hd, Hv⟩ Hk
  ihave Hx := hsub.1 $$ Hx
  icases Hx with ⟨Hx, Hr⟩
  iapply (wp_copy (thr := thr) (src := src) (dst := dst) (sem := sem) (q := q) fs hN0) $$ [Hx Hd Hv]
  · isplitl [Hx]; · iexact Hx
    isplitl [Hd]; · iexact Hd
    iexact Hv
  iintro Ha
  iapply Hk
  iapply arriving_mono
  isplitl [Ha]; · iexact Ha
  iintro Hx
  iapply hsub.2
  isplitl [Hx]
  · iexact Hx
  · iexact Hr

theorem cr_s : 0 < (cc0_scratch4 : Ref sig .scVector).dmaCredit S1152 .i32 := by decide
theorem cr_w : 0 < (cc0_scratch2 : Ref sig .scVector).dmaCredit S128 .f32 := by decide
theorem cr_b : 0 < (cc0_scratch3 : Ref sig .scVector).dmaCredit S16 .f32 := by decide
theorem cr_a : 0 < (main_v7_0_scv : Ref sig .scVector).dmaCredit S256x128 .f32 := by decide
theorem cr_d : 0 < (main_v7_1_scv : Ref sig .scVector).dmaCredit S256x16 .f32 := by decide

section Run

variable (d : Dev nD) (i : grid0.Coords)
variable (fx : S12800000.Idx → F .f32) (fs : S100000.Idx → BitVec 32) (fw : S128.Idx → F .f32) (fb : S16.Idx → F .f32)
variable (O : CellTallies nD τ sig (HIx 1)) (W : Waits sig (HIx 1)) (q : PosShare TreeShare)

/-- The four arrays a tile reads, at its share. -/
abbrev shares : sProp (MM F) :=
  iprop(xAll d i fx q ∗ (sH.view.loc (th d i) ↦{q} fs) ∗ (wH.view.loc (th d i) ↦{q} fw) ∗ (bH.view.loc (th d i) ↦{q} fb))

/-- The tile's semaphores at zero. -/
abbrev sems0 : sProp (MM F) :=
  iprop(semVal (th d i, .dma cc0_scratch7.sem) 0 ∗ semVal (th d i, .dma cc0_scratch8.sem) 0 ∗ semVal (th d i, .dma cc0_scoped0.sem) 0
    ∗ semVal (th d i, .dma cc0_scoped1.sem) 0 ∗ semVal (th d i, .dma cc0_scoped2.sem) 0 ∗ semVal (th d i, .dma cc0_scoped3.sem) 0
    ∗ semVal (th d i, .dma cc0_scoped4.sem) 0)

/-- The two buffers of rows, at anything. -/
abbrev rows2 : sProp (MM F) :=
  iprop((∃ Z, holds (F := F) (e := .f32) (th d i) x0V Z) ∗ (∃ Z, holds (F := F) (e := .f32) (th d i) x1V Z))

/-- The tile's rows of the two results, at anything. -/
abbrev outs : sProp (MM F) :=
  iprop((∃ Z, holds (F := F) (e := .f32) (th d i) (aRows i) Z) ∗ (∃ Z, holds (F := F) (e := .f32) (th d i) (dRows i) Z))

/-- The two sums of a tile. -/
abbrev tileSums (n : ℕ) : Sums F := runFrom fx fs (wvec fw) fb (row0 i) n

/-- At the start. -/
def stage0 : sProp (MM F) :=
  iprop(shares d i fx fs fw fb q ∗ outs d i ∗ rows2 d i ∗ (∃ Z, holds (F := F) (e := .f32) (th d i) wV Z) ∗ (∃ Z, holds (F := F) (e := .f32) (th d i) bV Z)
    ∗ (∃ Z, holds (F := F) (e := .i32) (th d i) sV Z) ∗ (∃ Z, holds (F := F) (e := .f32) (th d i) aV Z) ∗ (∃ Z, holds (F := F) (e := .f32) (th d i) dV Z)
    ∗ sems0 d i ∗ owesN (th d i) O W)

/-- With the words, the weights and the bias fetched and `n` rows summed. -/
def stage1 (n : ℕ) : sProp (MM F) :=
  iprop(shares d i fx fs fw fb q ∗ outs d i ∗ rows2 d i ∗ holds (F := F) (e := .f32) (th d i) wV fw ∗ holds (F := F) (e := .f32) (th d i) bV fb
    ∗ holds (F := F) (e := .i32) (th d i) sV (wordsOf (F := F) fs i) ∗ sums (th d i) aV dV (tileSums i fx fs fw fb n)
    ∗ sems0 d i ∗ owesN (th d i) O W)

/-- At the end. -/
def stage2 : sProp (MM F) :=
  iprop(shares d i fx fs fw fb q ∗ (holds (F := F) (e := .f32) (th d i) (aRows i) (tileSums i fx fs fw fb 1125).1 ∗ holds (F := F) (e := .f32) (th d i) (dRows i) (tileSums i fx fs fw fb 1125).2)
    ∗ rows2 d i ∗ holds (F := F) (e := .f32) (th d i) wV fw ∗ holds (F := F) (e := .f32) (th d i) bV fb
    ∗ holds (F := F) (e := .i32) (th d i) sV (wordsOf (F := F) fs i) ∗ sums (th d i) aV dV (tileSums i fx fs fw fb 1125)
    ∗ sems0 d i ∗ owesN (th d i) O W)

theorem wp_fill {α : Type} (r : α) :
    iprop(stage0 d i fx fs fw fb O W q ∗ Transfers.MayWaits (th d i) (default : HIx 1) O)
      ⊢ WP (th d i) (bodyFill i r) fun _ => stage1 d i fx fs fw fb O W q 0 := by
  unfold stage0 stage1 bodyFill fetch
  iintro ⟨⟨⟨Hx, Hs, Hw, Hb⟩, Houts, Hrows, HwV, HbV, HsV, HaV, HdV, ⟨Hv7, Hv8, Hc0, Hc1, Hc2, Hc3, Hc4⟩, HO⟩, #Hmw⟩
  iapply (wp_copyAll (thr := th d i) (e := .i32) (src := sRows i) (dst := sV) (sem := cc0_scoped0.sem) (q := q) fs cr_s) $$ [Hs HsV Hc0]
  · isplitl [Hs]; · iexact Hs
    isplitl [HsV]; · iexact HsV
    iexact Hc0
  iintro Ha
  iapply (wp_await (thr := th d i)) $$ [Ha HO]
  · isplitl [Ha]; · iexact Ha
    isplitl [HO]; · iexact HO
    iexact Hmw
  iintro ⟨HsV, Hs, Hc0, HO⟩
  iapply (wp_copyAll (thr := th d i) (e := .f32) (src := wH) (dst := wV) (sem := cc0_scoped1.sem) (q := q) fw cr_w) $$ [Hw HwV Hc1]
  · isplitl [Hw]; · iexact Hw
    isplitl [HwV]; · iexact HwV
    iexact Hc1
  iintro Ha
  iapply (wp_await (thr := th d i)) $$ [Ha HO]
  · isplitl [Ha]; · iexact Ha
    isplitl [HO]; · iexact HO
    iexact Hmw
  iintro ⟨HwV, Hw, Hc1, HO⟩
  iapply (wp_copyAll (thr := th d i) (e := .f32) (src := bH) (dst := bV) (sem := cc0_scoped2.sem) (q := q) fb cr_b) $$ [Hb HbV Hc2]
  · isplitl [Hb]; · iexact Hb
    isplitl [HbV]; · iexact HbV
    iexact Hc2
  iintro Ha
  iapply (wp_await (thr := th d i)) $$ [Ha HO]
  · isplitl [Ha]; · iexact Ha
    isplitl [HO]; · iexact HO
    iexact Hmw
  iintro ⟨HbV, Hb, Hc2, HO⟩
  iapply (wp_zeroAcc' (F := F) d i) $$ HaV
  iintro HaV
  iapply (wp_zeroDen' (F := F) d i) $$ HdV
  iintro HdV
  iapply (wp_done (thr := th d i) (a := r))
  isplitl [Hx Hs Hw Hb]
  · isplitl [Hx]; · iexact Hx
    isplitl [Hs]; · iexact Hs
    isplitl [Hw]; · iexact Hw
    iexact Hb
  isplitl [Houts]; · iexact Houts
  isplitl [Hrows]; · iexact Hrows
  isplitl [HwV]; · iexact HwV
  isplitl [HbV]; · iexact HbV
  isplitl [HsV]; · iexact HsV
  isplitl [HaV HdV]
  · unfold sums
    isplitl [HaV]
    · iexact HaV
    · iexact HdV
  isplitl [Hv7 Hv8 Hc0 Hc1 Hc2 Hc3 Hc4]
  · isplitl [Hv7]; · iexact Hv7
    isplitl [Hv8]; · iexact Hv8
    isplitl [Hc0]; · iexact Hc0
    isplitl [Hc1]; · iexact Hc1
    isplitl [Hc2]; · iexact Hc2
    isplitl [Hc3]; · iexact Hc3
    iexact Hc4
  iexact HO

theorem wp_ldW {k : (Fin 8 → FVec F S16 .f32) → FVec F S16 .f32 → TP F i PUnit} {Q : PUnit → sProp (MM F)} :
    iprop(holds (F := F) (e := .f32) (th d i) wV fw ∗ holds (F := F) (e := .f32) (th d i) bV fb)
      ⊢ iprop((iprop(holds (F := F) (e := .f32) (th d i) wV fw ∗ holds (F := F) (e := .f32) (th d i) bV fb) -∗ WP (th d i) (k (wvec fw) fb) Q)
        -∗ WP (th d i) (ldW i k) Q) := by
  have hw : ∀ (j : Fin 8) (o : ℕ) (ho : ∀ a, (![o] : Fin 1 → ℕ) a + S16.size a ≤ S128.size a), o = 16 * j.val →
      shapeCast S16 (fun y => fw ((Rect.unit (s := S128) ![o] S16.size ho).idx y)) shapeCasts_S16_S16 = wvec fw j := by
    intro j o ho h
    erw [shapeCast_self]
    funext y
    unfold wvec
    refine congrArg fw (funext fun a => Fin.ext ?_)
    match a with
    | 0 =>
      show o + 1 * (y 0).val = (16 * j.val + (y 0).val) % 128
      have h1 : (y 0).val < 16 := (y 0).isLt
      have := j.isLt
      omega
  have hb : shapeCast S16 (fun y => fb ((Rect.unit (s := S16) ![0] S16.size inb_S16_S16_0).idx y)) shapeCasts_S16_S16 = fb := by
    erw [shapeCast_self]
    funext y
    refine congrArg fb (funext fun a => Fin.ext ?_)
    match a with
    | 0 => show 0 + 1 * (y 0).val = (y 0).val; omega
  unfold ldW
  iintro ⟨Hw, Hb⟩ Hk
  iapply (wp_ld (thr := th d i) (e := .f32) fw) $$ Hw; iintro Hw
  iapply (wp_ld (thr := th d i) (e := .f32) fw) $$ Hw; iintro Hw
  iapply (wp_ld (thr := th d i) (e := .f32) fw) $$ Hw; iintro Hw
  iapply (wp_ld (thr := th d i) (e := .f32) fw) $$ Hw; iintro Hw
  iapply (wp_ld (thr := th d i) (e := .f32) fw) $$ Hw; iintro Hw
  iapply (wp_ld (thr := th d i) (e := .f32) fw) $$ Hw; iintro Hw
  iapply (wp_ld (thr := th d i) (e := .f32) fw) $$ Hw; iintro Hw
  iapply (wp_ld (thr := th d i) (e := .f32) fw) $$ Hw; iintro Hw
  iapply (wp_ld (thr := th d i) (e := .f32) fb) $$ Hb; iintro Hb
  have hv : ![shapeCast S16 (fun y => fw ((Rect.unit (s := S128) ![0] S16.size inb_S128_S16_0).idx y)) shapeCasts_S16_S16,
      shapeCast S16 (fun y => fw ((Rect.unit (s := S128) ![16] S16.size inb_S128_S16_16).idx y)) shapeCasts_S16_S16,
      shapeCast S16 (fun y => fw ((Rect.unit (s := S128) ![32] S16.size inb_S128_S16_32).idx y)) shapeCasts_S16_S16,
      shapeCast S16 (fun y => fw ((Rect.unit (s := S128) ![48] S16.size inb_S128_S16_48).idx y)) shapeCasts_S16_S16,
      shapeCast S16 (fun y => fw ((Rect.unit (s := S128) ![64] S16.size inb_S128_S16_64).idx y)) shapeCasts_S16_S16,
      shapeCast S16 (fun y => fw ((Rect.unit (s := S128) ![80] S16.size inb_S128_S16_80).idx y)) shapeCasts_S16_S16,
      shapeCast S16 (fun y => fw ((Rect.unit (s := S128) ![96] S16.size inb_S128_S16_96).idx y)) shapeCasts_S16_S16,
      shapeCast S16 (fun y => fw ((Rect.unit (s := S128) ![112] S16.size inb_S128_S16_112).idx y)) shapeCasts_S16_S16] = wvec fw := by
    funext j
    fin_cases j
    · exact hw 0 _ _ rfl
    · exact hw 1 _ _ rfl
    · exact hw 2 _ _ rfl
    · exact hw 3 _ _ rfl
    · exact hw 4 _ _ rfl
    · exact hw 5 _ _ rfl
    · exact hw 6 _ _ rfl
    · exact hw 7 _ _ rfl
  have hk := congrArg₂ (fun u v => WP (th d i) (k u v) Q) hv hb
  iapply (Entails.of_eq hk.symm)
  iapply Hk
  isplitl [Hw]
  · iexact Hw
  · iexact Hb

theorem wp_sum (hfs : InRange fs) :
    iprop(stage1 d i fx fs fw fb O W q 0 ∗ Transfers.MayWaits (th d i) (default : HIx 1) O)
      ⊢ WP (th d i) (bodySum i) fun _ => stage1 d i fx fs fw fb O W q 1125 := by
  have hsh := pointsTo_share (nD := nD) (Ix := HIx 1) (Val := Elt F) (Name := ℕ) (U := UU) (Lvl := ℕ) (ℓ := xH.view.loc (th d i)) (I := Finset.univ) (f := fx) (PosShare.mem_left_op_right q)
  unfold stage1 bodySum
  iintro ⟨⟨⟨Hx, Hs, Hw, Hb⟩, Houts, ⟨H0, H1⟩, HwV, HbV, HsV, HS, ⟨Hv7, Hv8, Hc⟩, HO⟩, #Hmw⟩
  ihave Hx := hsh.1 $$ Hx
  icases Hx with ⟨Hxa, Hxb⟩
  iapply (wp_ldW d i fw fb) $$ [HwV HbV]
  · isplitl [HwV]
    · iexact HwV
    · iexact HbV
  iintro ⟨HwV, HbV⟩
  unfold send0 recv0
  iapply (wp_send d i fx (n := row0 i + 250 * 0) (by decide) (by
    rw [show (0#32 : BitVec 32) = BitVec.ofNat 32 (1000 * (0 : Fin 2).val) from rfl, k0_off4_eq]
    show 288000 * (i 1).val + 144000 * (i 0).val + 128000 * 0 = _
    unfold row0 wid; omega)) $$ [Hxa H0 Hv7]
  · isplitl [Hxa]; · iexact Hxa
    isplitl [H0]; · iexact H0
    iexact Hv7
  iintro Ha
  have hloop := fun (kk : PUnit → TP F i PUnit) Q => Scf.wp_for_bind frame (wpE (defs₀ (F := F)) 𝒱₀ (th d i) none) Set.univ k0_t3_loop.lb k0_t3_loop.ub k0_t3_loop.st k0_t3_ok (PUnit.unit)
    (fun t _ => pair (F := F) i (wvec fw) fb t)
    (fun t _ => iprop(between d i fx fs (wvec fw) fb O W q.left q.right (row0 i + 250 * t) (250 * t) ∗ Transfers.MayWaits (th d i) (default : HIx 1) O))
    (fun t _ => by
      iintro ⟨H, #Hmw⟩
      iapply (wp_wand_r frame (wpE (defs₀ (F := F)) 𝒱₀ (th d i) none) Set.univ)
      isplitl [H]
      · iapply (wp_pair d i fx fs (wvec fw) fb O W q.left q.right hfs t)
        isplitl [H]; · iexact H
        iexact Hmw
      · iintro %_ H
        isplitl [H]; · iexact H
        iexact Hmw) (kk := kk) (Q := Q)
  iapply (hloop _ _) $$ [Ha H1 Hxb Hv8 HsV HS HO]
  · isplitl
    · isplitl [Ha]; · iexact Ha
      isplitl [H1]; · iexact H1
      isplitl [Hxb]; · iexact Hxb
      isplitl [Hv8]; · iexact Hv8
      isplitl [HsV]; · iexact HsV
      isplitl [HS]; · iexact HS
      iexact HO
    · iexact Hmw
  iintro %acc ⟨⟨Ha, H1, Hxb, Hv8, HsV, HS, HO⟩, -⟩
  rw [show Scf.trips k0_t3_loop.lb k0_t3_loop.ub k0_t3_loop.st = 4 from trips3]
  iapply (wp_await (thr := th d i)) $$ [Ha HO]
  · isplitl [Ha]; · iexact Ha
    isplitl [HO]; · iexact HO
    iexact Hmw
  iintro ⟨H0, Hxa, Hv7, HO⟩
  iapply (wp_part6 d i fx fs (wvec fw) fb hfs) $$ [H0 HsV HS]
  · isplitl [H0]; · iexact H0
    isplitl [HsV]; · iexact HsV
    iexact HS
  iintro ⟨H0, HsV, HS⟩
  iapply (wp_done (thr := th d i) (a := PUnit.unit))
  isplitl [Hxa Hxb Hs Hw Hb]
  · isplitl [Hxa Hxb]
    · iapply hsh.2
      isplitl [Hxa]
      · iexact Hxa
      · iexact Hxb
    isplitl [Hs]; · iexact Hs
    isplitl [Hw]; · iexact Hw
    iexact Hb
  isplitl [Houts]; · iexact Houts
  isplitl [H0 H1]
  · isplitl [H0]
    · iexists _; iexact H0
    · iexact H1
  isplitl [HwV]; · iexact HwV
  isplitl [HbV]; · iexact HbV
  isplitl [HsV]; · iexact HsV
  isplitl [HS]; · iexact HS
  isplitl [Hv7 Hv8 Hc]
  · isplitl [Hv7]; · iexact Hv7
    isplitl [Hv8]; · iexact Hv8
    iexact Hc
  iexact HO

theorem wp_out :
    iprop(stage1 d i fx fs fw fb O W q 1125 ∗ Transfers.MayWaits (th d i) (default : HIx 1) O)
      ⊢ WP (th d i) (bodyOut i) fun _ => stage2 d i fx fs fw fb O W q := by
  unfold stage1 stage2 bodyOut sums
  iintro ⟨⟨Hsh, ⟨Hao, Hdo⟩, Hrows, HwV, HbV, HsV, ⟨HaV, HdV⟩, ⟨Hv7, Hv8, Hc0, Hc1, Hc2, Hc3, Hc4⟩, HO⟩, #Hmw⟩
  unfold holds
  icases HaV with ⟨%fa, %hfa, HaV⟩
  icases HdV with ⟨%fd, %hfd, HdV⟩
  iapply (wp_copy (thr := th d i) (e := .f32) (src := aV) (dst := aRows i) (sem := cc0_scoped3.sem) fa cr_a) $$ [HaV Hao Hc3]
  · isplitl [HaV]; · iexact HaV
    isplitl [Hao]; · unfold holds; iexact Hao
    iexact Hc3
  iintro Ha
  iapply (wp_await (thr := th d i)) $$ [Ha HO]
  · isplitl [Ha]; · iexact Ha
    isplitl [HO]; · iexact HO
    iexact Hmw
  iintro ⟨Hao, HaV, Hc3, HO⟩
  iapply (wp_copy (thr := th d i) (e := .f32) (src := dV) (dst := dRows i) (sem := cc0_scoped4.sem) fd cr_d) $$ [HdV Hdo Hc4]
  · isplitl [HdV]; · iexact HdV
    isplitl [Hdo]; · unfold holds; iexact Hdo
    iexact Hc4
  iintro Ha
  iapply (wp_await (thr := th d i)) $$ [Ha HO]
  · isplitl [Ha]; · iexact Ha
    isplitl [HO]; · iexact HO
    iexact Hmw
  iintro ⟨Hdo, HdV, Hc4, HO⟩
  iapply (wp_done (thr := th d i) (a := PUnit.unit))
  rw [hfa, hfd]
  unfold holds
  isplitl [Hsh]; · iexact Hsh
  isplitl [Hao Hdo]
  · isplitl [Hao]
    · iexact Hao
    · iexact Hdo
  isplitl [Hrows]; · iexact Hrows
  isplitl [HwV]; · iexact HwV
  isplitl [HbV]; · iexact HbV
  isplitl [HsV]; · iexact HsV
  isplitl [HaV HdV]
  · isplitl [HaV]
    · iexists fa; isplitr; · ipureintro; exact hfa
      iexact HaV
    · iexists fd; isplitr; · ipureintro; exact hfd
      iexact HdV
  isplitl [Hv7 Hv8 Hc0 Hc1 Hc2 Hc3 Hc4]
  · isplitl [Hv7]; · iexact Hv7
    isplitl [Hv8]; · iexact Hv8
    isplitl [Hc0]; · iexact Hc0
    isplitl [Hc1]; · iexact Hc1
    isplitl [Hc2]; · iexact Hc2
    isplitl [Hc3]; · iexact Hc3
    iexact Hc4
  iexact HO

/-- A tile's whole run. -/
theorem wp_tile (hfs : InRange fs) :
    iprop(stage0 d i fx fs fw fb O W q ∗ Transfers.MayWaits (th d i) (default : HIx 1) O)
      ⊢ WP (th d i) (cc0__sc_body (F := F) i xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4)
        fun _ => stage2 d i fx fs fw fb O W q := by
  obtain ⟨α, r, h⟩ := body_eq (F := F) i
  rw [h]
  iintro ⟨H, #Hmw⟩
  iapply (Entails.of_eq (wp_bind frame (wpE (defs₀ (F := F)) 𝒱₀ (th d i) none) Set.univ (bodyFill i r) (fun _ => bodySum i >>= fun _ => bodyOut i) _).symm)
  iapply (wp_wand_r frame (wpE (defs₀ (F := F)) 𝒱₀ (th d i) none) Set.univ)
  isplitl [H]
  · iapply (wp_fill d i fx fs fw fb O W q r)
    isplitl [H]; · iexact H
    iexact Hmw
  iintro %_ H
  iapply (Entails.of_eq (wp_bind frame (wpE (defs₀ (F := F)) 𝒱₀ (th d i) none) Set.univ (bodySum i) (fun _ => bodyOut i) _).symm)
  iapply (wp_wand_r frame (wpE (defs₀ (F := F)) 𝒱₀ (th d i) none) Set.univ)
  isplitl [H]
  · iapply (wp_sum d i fx fs fw fb O W q hfs)
    isplitl [H]; · iexact H
    iexact Hmw
  iintro %_ H
  iapply (wp_out d i fx fs fw fb O W q)
  isplitl [H]; · iexact H
  iexact Hmw

end Run

end Cert.Tile
-- ==== Proof.Launch.lean ====
module

public import proofs.«01_k».proof.Proof.TileRun

@[expose] public section

noncomputable section

namespace Cert.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-! ## Shares: a share halved `n` times -/

/-- Piece `j` of a share halved `n` times. -/
def piece : (n : ℕ) → PosShare TreeShare → Fin (2 ^ n) → PosShare TreeShare
  | 0, q, _ => q
  | n + 1, q, j => if j.val % 2 = 0 then piece n q.left ⟨j.val / 2, by have := j.isLt; omega⟩ else piece n q.right ⟨j.val / 2, by have := j.isLt; omega⟩

/-- Twice as many numbers are the even ones and the odd ones. -/
def evenOdd (n : ℕ) : Fin (2 ^ n) ⊕ Fin (2 ^ n) ≃ Fin (2 ^ (n + 1)) where
  toFun := Sum.elim (fun j => ⟨2 * j.val, by have := j.isLt; omega⟩) (fun j => ⟨2 * j.val + 1, by have := j.isLt; omega⟩)
  invFun j := if j.val % 2 = 0 then .inl ⟨j.val / 2, by have := j.isLt; omega⟩ else .inr ⟨j.val / 2, by have := j.isLt; omega⟩
  left_inv
    | .inl j => by
      have h : (2 * j.val) % 2 = 0 := by omega
      simp only [Sum.elim_inl, h, ↓reduceIte]
      exact congrArg Sum.inl (Fin.ext (by show 2 * j.val / 2 = j.val; omega))
    | .inr j => by
      have h : ¬(2 * j.val + 1) % 2 = 0 := by omega
      simp only [Sum.elim_inr, h, ↓reduceIte]
      exact congrArg Sum.inr (Fin.ext (by show (2 * j.val + 1) / 2 = j.val; omega))
  right_inv j := by
    by_cases h : j.val % 2 = 0
    · simp only [h, ↓reduceIte, Sum.elim_inl]
      exact Fin.ext (by show 2 * (j.val / 2) = j.val; omega)
    · simp only [h, ↓reduceIte, Sum.elim_inr]
      exact Fin.ext (by show 2 * (j.val / 2) + 1 = j.val; omega)

omit [FloatOps F] in
/-- An array at a share is that array at each of the pieces. -/
theorem pieces {ℓ : Loc nD τ sig} (I : Finset (Idx ℓ)) (f : Buf (Elt F) ℓ) :
    ∀ (n : ℕ) (q : PosShare TreeShare), (ℓ ↦[I]{q} f : sProp (MM F)) = bigSep Finset.univ fun j : Fin (2 ^ n) => ℓ ↦[I]{piece n q j} f
  | 0, q => (bigSep_univ_of_subsingleton (0 : Fin 1) (Φ := fun j : Fin (2 ^ 0) => (ℓ ↦[I]{piece 0 q j} f : sProp (MM F)))).symm
  | n + 1, q => by
    have hs := pointsTo_share (nD := nD) (Ix := HIx 1) (Val := Elt F) (Name := ℕ) (U := UU) (Lvl := ℕ) (ℓ := ℓ) (I := I) (f := f) (PosShare.mem_left_op_right q)
    rw [BI.Entails.antisymm hs.1 hs.2, pieces I f n q.left, pieces I f n q.right,
      bigSep_univ_equiv (evenOdd n) (fun j : Fin (2 ^ (n + 1)) => (ℓ ↦[I]{piece (n + 1) q j} f : sProp (MM F))), bigSep_univ_sum]
    congr 1 <;> refine bigSep_congr fun j _ => ?_
    · have h : (2 * j.val) % 2 = 0 := by omega
      have e : piece (n + 1) q (evenOdd n (.inl j)) = piece n q.left j := by
        show (if (2 * j.val) % 2 = 0 then _ else _) = _
        rw [if_pos h]
        exact congrArg (piece n q.left) (Fin.ext (by show 2 * j.val / 2 = j.val; omega))
      rw [e]
    · have h : ¬(2 * j.val + 1) % 2 = 0 := by omega
      have e : piece (n + 1) q (evenOdd n (.inr j)) = piece n q.right j := by
        show (if (2 * j.val + 1) % 2 = 0 then _ else _) = _
        rw [if_neg h]
        exact congrArg (piece n q.right) (Fin.ext (by show (2 * j.val + 1) / 2 = j.val; omega))
      rw [e]

/-! ## The grid's coordinates -/

/-- Tile `s` of SparseCore `c`. -/
def at2 (c : Fin (grid0.bound 0)) (s : Fin (grid0.bound 1)) : grid0.Coords :=
  fun | 0 => c | 1 => s | ⟨_ + 2, h⟩ => absurd h (Nat.not_lt.2 (Nat.le_add_left _ _))

abbrev Core : Type := Fin ((K (F := F)).nCore 0)
abbrev Sub : Type := Fin ((K (F := F)).nSub 0)

theorem nCore_zero : (K (F := F)).nCore 0 = 2 := rfl

/-- Tile `s` of SparseCore `c`, by the call's numbers. -/
abbrev crd (c : Fin 2) (s : Fin 16) : grid0.Coords := at2 ⟨c.val, c.isLt⟩ ⟨s.val, s.isLt⟩

/-- The tile's share of what all the tiles read. -/
abbrev shq (c : Fin 2) (s : Fin 16) : PosShare TreeShare := piece 4 (piece 1 fullShare c) s

/-! ## The two results -/

variable (fx : S12800000.Idx → F .f32) (fs : S100000.Idx → BitVec 32) (fw : S128.Idx → F .f32) (fb : S16.Idx → F .f32)

/-- The sums of tile number `n`. -/
def tileSum (n : ℕ) : Sums F := runFrom fx fs (wvec fw) fb (1125 * n) 1125

/-- The tiles' weighted sums of rows, one under the other. -/
def accAll : S8192x128.Idx → F .f32 := fun y => (tileSum fx fs fw fb ((y 0).val / 256)).1 (ix2 ⟨(y 0).val % 256, Nat.mod_lt _ (by decide)⟩ ⟨(y 1).val, (y 1).isLt⟩)
/-- The tiles' sums of weights, one under the other. -/
def denAll : S8192x16.Idx → F .f32 := fun y => (tileSum fx fs fw fb ((y 0).val / 256)).2 (ix2 ⟨(y 0).val % 256, Nat.mod_lt _ (by decide)⟩ ⟨(y 1).val, (y 1).isLt⟩)

section Rows
omit [FloatOps F]

theorem mem_aRows (i : grid0.Coords) (y : S8192x128.Idx) : y ∈ (aRows i).view.set ↔ 256 * wid i ≤ (y 0).val ∧ (y 0).val < 256 * wid i + 256 := by
  have h : (aRows i).view.set = (Rect.unit (s := S8192x128) (k0_off148 i) S256x128.size (k0_off148_inb i)).set := by
    show ((View.whole (main_v7_0_scv : Ref sig .scVector)).slice _).set = _
    rw [View.set_slice]; exact Finset.map_refl
  rw [h, Rect.mem_set_unit, Fin.forall_fin_two]
  have e0 : k0_off148 i 0 = 256 * wid i := by rw [k0_off148_eq]; show 512 * (i 1).val + 256 * (i 0).val = _; unfold wid; omega
  have e1 : k0_off148 i 1 = 0 := by rw [k0_off148_eq]; rfl
  rw [e0, e1]
  have : (y 1).val < 128 := (y 1).isLt
  show (256 * wid i ≤ (y 0).val ∧ (y 0).val < 256 * wid i + 256) ∧ (0 ≤ (y 1).val ∧ (y 1).val < 0 + 128) ↔ _
  constructor
  · exact fun h => h.1
  · exact fun h => ⟨h, by omega⟩

theorem mem_dRows (i : grid0.Coords) (y : S8192x16.Idx) : y ∈ (dRows i).view.set ↔ 256 * wid i ≤ (y 0).val ∧ (y 0).val < 256 * wid i + 256 := by
  have h : (dRows i).view.set = (Rect.unit (s := S8192x16) (k0_off149 i) S256x16.size (k0_off149_inb i)).set := by
    show ((View.whole (main_v7_1_scv : Ref sig .scVector)).slice _).set = _
    rw [View.set_slice]; exact Finset.map_refl
  rw [h, Rect.mem_set_unit, Fin.forall_fin_two]
  have e0 : k0_off149 i 0 = 256 * wid i := by rw [k0_off149_eq]; show 512 * (i 1).val + 256 * (i 0).val = _; unfold wid; omega
  have e1 : k0_off149 i 1 = 0 := by rw [k0_off149_eq]; rfl
  rw [e0, e1]
  have : (y 1).val < 16 := (y 1).isLt
  show (256 * wid i ≤ (y 0).val ∧ (y 0).val < 256 * wid i + 256) ∧ (0 ≤ (y 1).val ∧ (y 1).val < 0 + 16) ↔ _
  constructor
  · exact fun h => h.1
  · exact fun h => ⟨h, by omega⟩

theorem wid_crd (c : Fin 2) (s : Fin 16) : wid (crd c s) = 2 * s.val + c.val := rfl

/-- The rows of one tile, for a pair of numbers. -/
abbrev aSet (p : Fin 2 × Fin 16) : Finset S8192x128.Idx := (aRows (crd p.1 p.2)).view.set
abbrev dSet (p : Fin 2 × Fin 16) : Finset S8192x16.Idx := (dRows (crd p.1 p.2)).view.set

theorem wid_ne {p p' : Fin 2 × Fin 16} (h : p ≠ p') : wid (crd p.1 p.2) ≠ wid (crd p'.1 p'.2) := fun e => h (by
  rw [wid_crd, wid_crd] at e
  have := p.1.isLt; have := p'.1.isLt
  exact Prod.ext (Fin.ext (by omega)) (Fin.ext (by omega)))

theorem aSet_disjoint : ∀ p ∈ (Finset.univ : Finset (Fin 2 × Fin 16)), ∀ p' ∈ (Finset.univ : Finset (Fin 2 × Fin 16)), p ≠ p' → Disjoint (aSet p) (aSet p') :=
  fun p _ p' _ h => Finset.disjoint_left.mpr fun y hy hy' => by
    have h1 := (mem_aRows _ y).mp hy; have h2 := (mem_aRows _ y).mp hy'; have := wid_ne h; omega
theorem dSet_disjoint : ∀ p ∈ (Finset.univ : Finset (Fin 2 × Fin 16)), ∀ p' ∈ (Finset.univ : Finset (Fin 2 × Fin 16)), p ≠ p' → Disjoint (dSet p) (dSet p') :=
  fun p _ p' _ h => Finset.disjoint_left.mpr fun y hy hy' => by
    have h1 := (mem_dRows _ y).mp hy; have h2 := (mem_dRows _ y).mp hy'; have := wid_ne h; omega

theorem aSet_cover : (Finset.univ : Finset (Fin 2 × Fin 16)).biUnion aSet = Finset.univ := by
  ext y
  simp only [Finset.mem_biUnion, Finset.mem_univ, true_and, iff_true]
  have h : (y 0).val < 8192 := (y 0).isLt
  refine ⟨(⟨(y 0).val / 256 % 2, by omega⟩, ⟨(y 0).val / 512, by omega⟩), (mem_aRows _ y).mpr ?_⟩
  rw [wid_crd]; show 256 * (2 * ((y 0).val / 512) + (y 0).val / 256 % 2) ≤ (y 0).val ∧ (y 0).val < 256 * (2 * ((y 0).val / 512) + (y 0).val / 256 % 2) + 256
  omega
theorem dSet_cover : (Finset.univ : Finset (Fin 2 × Fin 16)).biUnion dSet = Finset.univ := by
  ext y
  simp only [Finset.mem_biUnion, Finset.mem_univ, true_and, iff_true]
  have h : (y 0).val < 8192 := (y 0).isLt
  refine ⟨(⟨(y 0).val / 256 % 2, by omega⟩, ⟨(y 0).val / 512, by omega⟩), (mem_dRows _ y).mpr ?_⟩
  rw [wid_crd]; show 256 * (2 * ((y 0).val / 512) + (y 0).val / 256 % 2) ≤ (y 0).val ∧ (y 0).val < 256 * (2 * ((y 0).val / 512) + (y 0).val / 256 % 2) + 256
  omega

abbrev aLoc (d : Dev nD) : Loc nD τ sig := (SparseCore.T d).loc main_v7_0
abbrev dLoc (d : Dev nD) : Loc nD τ sig := (SparseCore.T d).loc main_v7_1
abbrev xLoc (d : Dev nD) : Loc nD τ sig := (SparseCore.T d).loc main_v6
abbrev sLoc (d : Dev nD) : Loc nD τ sig := (SparseCore.T d).loc main_arg1
abbrev wLoc (d : Dev nD) : Loc nD τ sig := (SparseCore.T d).loc main_v1
abbrev bLoc (d : Dev nD) : Loc nD τ sig := (SparseCore.T d).loc main_v2

/-- An array held whole is every tile's piece of it, SparseCore by SparseCore. -/
theorem by_tile {ℓ : Loc nD τ sig} (f : Buf (Elt F) ℓ) :
    (ℓ ↦{fullShare} f : sProp (MM F)) = bigSep Finset.univ fun c : Fin 2 => bigSep Finset.univ fun s : Fin 16 => ℓ ↦{shq c s} f := by
  rw [pieces Finset.univ f 1 fullShare]
  exact bigSep_congr fun c _ => pieces Finset.univ f 4 _

theorem a_by_tile (d : Dev nD) (f : S8192x128.Idx → F .f32) :
    (aLoc d ↦{fullShare} f : sProp (MM F)) = bigSep Finset.univ fun c : Fin 2 => bigSep Finset.univ fun s : Fin 16 => aLoc d ↦[aSet (c, s)]{fullShare} f := by
  rw [← bigSep_univ_prod (fun p : Fin 2 × Fin 16 => (aLoc d ↦[aSet p]{fullShare} f : sProp (MM F))), ← pointsTo_biUnion Finset.univ (ℓ := aLoc d) aSet aSet_disjoint, aSet_cover]
theorem d_by_tile (d : Dev nD) (f : S8192x16.Idx → F .f32) :
    (dLoc d ↦{fullShare} f : sProp (MM F)) = bigSep Finset.univ fun c : Fin 2 => bigSep Finset.univ fun s : Fin 16 => dLoc d ↦[dSet (c, s)]{fullShare} f := by
  rw [← bigSep_univ_prod (fun p : Fin 2 × Fin 16 => (dLoc d ↦[dSet p]{fullShare} f : sProp (MM F))), ← pointsTo_biUnion Finset.univ (ℓ := dLoc d) dSet dSet_disjoint, dSet_cover]

end Rows

/-- Held by its rows' values, a tile's rows are the array of all the tiles' sums on them. -/
theorem a_done (d : Dev nD) (i : grid0.Coords) :
    holds (F := F) (e := .f32) (th d i) (aRows i) (tileSums i fx fs fw fb 1125).1 ⊢ (aLoc d ↦[(aRows i).view.set]{fullShare} accAll fx fs fw fb : sProp (MM F)) := by
  unfold holds
  iintro ⟨%f, %hf, H⟩
  have hc : ∀ y ∈ (aRows i).view.set, f y = accAll fx fs fw fb y := by
    intro y hy
    have hm := (mem_aRows i y).mp hy
    have hv := congrFun hf (ix2 ⟨(y 0).val % 256, Nat.mod_lt _ (by decide)⟩ ⟨(y 1).val, (y 1).isLt⟩)
    have he : (aRows i).view.emb (ix2 ⟨(y 0).val % 256, Nat.mod_lt _ (by decide)⟩ ⟨(y 1).val, (y 1).isLt⟩) = y := by
      funext a
      refine Fin.ext ?_
      have e0 : k0_off148 i 0 = 256 * wid i := by rw [k0_off148_eq]; show 512 * (i 1).val + 256 * (i 0).val = _; unfold wid; omega
      have e1 : k0_off148 i 1 = 0 := by rw [k0_off148_eq]; rfl
      match a with
      | 0 => show k0_off148 i 0 + 1 * ((y 0).val % 256) = (y 0).val; rw [e0]; omega
      | 1 => show k0_off148 i 1 + 1 * (y 1).val = (y 1).val; rw [e1]; omega
    rw [View.read_apply, he] at hv
    refine ((cast_eq _ _).symm.trans hv).trans ?_
    unfold accAll tileSum
    rw [show (y 0).val / 256 = wid i by omega]
  rw [pointsTo_congr (nD := nD) (Ix := HIx 1) (Val := Elt F) (Name := ℕ) (U := UU) (Lvl := ℕ) (ℓ := aLoc d) (q := fullShare) (f := accAll fx fs fw fb) (g := f) (fun y hy => (hc y hy).symm)]
  iexact H

theorem d_done (d : Dev nD) (i : grid0.Coords) :
    holds (F := F) (e := .f32) (th d i) (dRows i) (tileSums i fx fs fw fb 1125).2 ⊢ (dLoc d ↦[(dRows i).view.set]{fullShare} denAll fx fs fw fb : sProp (MM F)) := by
  unfold holds
  iintro ⟨%f, %hf, H⟩
  have hc : ∀ y ∈ (dRows i).view.set, f y = denAll fx fs fw fb y := by
    intro y hy
    have hm := (mem_dRows i y).mp hy
    have hv := congrFun hf (ix2 ⟨(y 0).val % 256, Nat.mod_lt _ (by decide)⟩ ⟨(y 1).val, (y 1).isLt⟩)
    have he : (dRows i).view.emb (ix2 ⟨(y 0).val % 256, Nat.mod_lt _ (by decide)⟩ ⟨(y 1).val, (y 1).isLt⟩) = y := by
      funext a
      refine Fin.ext ?_
      have e0 : k0_off149 i 0 = 256 * wid i := by rw [k0_off149_eq]; show 512 * (i 1).val + 256 * (i 0).val = _; unfold wid; omega
      have e1 : k0_off149 i 1 = 0 := by rw [k0_off149_eq]; rfl
      match a with
      | 0 => show k0_off149 i 0 + 1 * ((y 0).val % 256) = (y 0).val; rw [e0]; omega
      | 1 => show k0_off149 i 1 + 1 * (y 1).val = (y 1).val; rw [e1]; omega
    rw [View.read_apply, he] at hv
    refine ((cast_eq _ _).symm.trans hv).trans ?_
    unfold denAll tileSum
    rw [show (y 0).val / 256 = wid i by omega]
  rw [pointsTo_congr (nD := nD) (Ix := HIx 1) (Val := Elt F) (Name := ℕ) (U := UU) (Lvl := ℕ) (ℓ := dLoc d) (q := fullShare) (f := denAll fx fs fw fb) (g := f) (fun y hy => (hc y hy).symm)]
  iexact H

end Cert.Tile
-- ==== Proof.Handshake.lean ====
module

public import proofs.«01_k».proof.Proof.Launch

@[expose] public section

noncomputable section

namespace Cert.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-! ## What the call carries -/

section Payload

/-- The contents, per device, of the four arrays that the tiles read. -/
structure Ins (F : FTy → Type) where
  fx : S12800000.Idx → F .f32
  fs : S100000.Idx → BitVec 32
  fw : S128.Idx → F .f32
  fb : S16.Idx → F .f32

variable (G : Dev nD → Ins F)

/-- What a tile is handed: its share of what is read, and its rows of the two results. -/
abbrev given (d : Dev nD) (c : Fin 2) (s : Fin 16) : sProp (MM F) :=
  iprop(shares d (crd c s) (G d).fx (G d).fs (G d).fw (G d).fb (shq c s) ∗ outs d (crd c s))

/-- What it brings back: the shares, and its rows of the two results at all the tiles' sums. -/
abbrev brought (d : Dev nD) (c : Fin 2) (s : Fin 16) : sProp (MM F) :=
  iprop(shares d (crd c s) (G d).fx (G d).fs (G d).fw (G d).fb (shq c s)
    ∗ (aLoc d ↦[aSet (c, s)]{fullShare} accAll (G d).fx (G d).fs (G d).fw (G d).fb) ∗ (dLoc d ↦[dSet (c, s)]{fullShare} denAll (G d).fx (G d).fs (G d).fw (G d).fb))

/-- The call's operands go out tile by tile, and come back so. -/
def P : (K (F := F)).Pay (nD := nD) (Val := Elt F) (Name := ℕ) (U := UU) where
  st := fun q d c => match q with | 0 => bigSep Finset.univ fun s : Fin 16 => given G d (Fin.cast nCore_zero c) s
  dn := fun q d c => match q with | 0 => bigSep Finset.univ fun s : Fin 16 => brought G d (Fin.cast nCore_zero c) s
  go := fun q d c s => match q with | 0 => given G d (Fin.cast nCore_zero c) (Fin.cast nSub_zero s)
  td := fun q d c s => match q with | 0 => brought G d (Fin.cast nCore_zero c) (Fin.cast nSub_zero s)
  x := fun _ _ => iprop(emp)

instance holds_storable {thr : Thread nD τ} {sp : Space} {s : Shape} {e : EltTy} {m : Memref sig thr.2.kind sp s e} {X : s.Idx → Elt F e} :
    BI.Storable (upEmb : UEmb _ (MM F)) (holds thr m X) := by
  unfold holds; infer_instance

instance P_storable : (P (F := F) G).IsStorable where
  st q d c := match q with
    | 0 => (inferInstance : BI.Storable (upEmb : UEmb _ (MM F)) (bigSep Finset.univ fun s : Fin 16 => given G d (Fin.cast nCore_zero c) s))
  dn q d c := match q with
    | 0 => (inferInstance : BI.Storable (upEmb : UEmb _ (MM F)) (bigSep Finset.univ fun s : Fin 16 => brought G d (Fin.cast nCore_zero c) s))
  go q d c s := match q with
    | 0 => (inferInstance : BI.Storable (upEmb : UEmb _ (MM F)) (given G d (Fin.cast nCore_zero c) (Fin.cast nSub_zero s)))
  td q d c s := match q with
    | 0 => (inferInstance : BI.Storable (upEmb : UEmb _ (MM F)) (brought G d (Fin.cast nCore_zero c) (Fin.cast nSub_zero s)))

theorem vecSplit : (K (F := F)).VecSplit' (P G) 0 := by
  intro d c
  show (bigSep Finset.univ fun s : Fin 16 => given G d (Fin.cast nCore_zero c) s) ⊢ |={Set.univ}=> iprop(
      (bigSep Finset.univ fun s : Fin ((K (F := F)).nSub 0) => given G d (Fin.cast nCore_zero c) (Fin.cast nSub_zero s))
      ∗ ((bigSep Finset.univ fun s : Fin ((K (F := F)).nSub 0) => brought G d (Fin.cast nCore_zero c) (Fin.cast nSub_zero s))
          -∗ bigSep Finset.univ fun s : Fin 16 => brought G d (Fin.cast nCore_zero c) s))
  iintro H; imodintro
  isplitl [H]; · iexact H
  iintro H; iexact H

end Payload

/-! ## A tile's own buffers and semaphores -/

section Own
omit [FloatOps F]
variable (d : Dev nD) (i : grid0.Coords)

abbrev cell (x : DmaSem sig) : GSem nD τ sig := (th d i, .dma x)

theorem cell_mem (x : DmaSem sig) (h : (SemLoc.dma x : SemLoc sig).isScoped .scVector = true) : cell d i x ∈ ownCells (th d i) :=
  mem_ownCells.mpr ⟨rfl, h⟩

theorem cell_ne {x y : DmaSem sig} (h : x ≠ y) : cell d i x ≠ cell d i y := fun e => h (by
  have := congrArg Prod.snd e
  exact SemLoc.dma.inj this)

/-- The tile's semaphores that are not the body's. -/
def otherCells : Finset (GSem nD τ sig) :=
  (((((((ownCells (th d i)).erase (cell d i cc0_scratch7.sem)).erase (cell d i cc0_scratch8.sem)).erase (cell d i cc0_scoped0.sem)).erase (cell d i cc0_scoped1.sem)).erase
    (cell d i cc0_scoped2.sem)).erase (cell d i cc0_scoped3.sem)).erase (cell d i cc0_scoped4.sem)

theorem ownSems0_eq : (ownSems0 (th d i) : sProp (MM F)) = iprop(semVal (cell d i cc0_scratch7.sem) 0 ∗ semVal (cell d i cc0_scratch8.sem) 0 ∗ semVal (cell d i cc0_scoped0.sem) 0
    ∗ semVal (cell d i cc0_scoped1.sem) 0 ∗ semVal (cell d i cc0_scoped2.sem) 0 ∗ semVal (cell d i cc0_scoped3.sem) 0
    ∗ semVal (cell d i cc0_scoped4.sem) 0 ∗ bigSep (otherCells d i) fun g => semVal g 0) := by
  unfold SparseCore.Cfg.ownSems0 otherCells
  have n (x y : DmaSem sig) (h : x ≠ y) := cell_ne d i h
  have mm (x : DmaSem sig) (h : (SemLoc.dma x : SemLoc sig).isScoped .scVector = true) := cell_mem d i x h
  rw [SparseCore.bigSep_erase' (mm cc0_scratch7.sem (by decide)),
    SparseCore.bigSep_erase' (Finset.mem_erase.mpr ⟨n cc0_scratch8.sem cc0_scratch7.sem (by decide), mm cc0_scratch8.sem (by decide)⟩),
    SparseCore.bigSep_erase' (Finset.mem_erase.mpr ⟨n cc0_scoped0.sem cc0_scratch8.sem (by decide), Finset.mem_erase.mpr ⟨n cc0_scoped0.sem cc0_scratch7.sem (by decide), mm cc0_scoped0.sem (by decide)⟩⟩),
    SparseCore.bigSep_erase' (Finset.mem_erase.mpr ⟨n cc0_scoped1.sem cc0_scoped0.sem (by decide), Finset.mem_erase.mpr ⟨n cc0_scoped1.sem cc0_scratch8.sem (by decide),
      Finset.mem_erase.mpr ⟨n cc0_scoped1.sem cc0_scratch7.sem (by decide), mm cc0_scoped1.sem (by decide)⟩⟩⟩),
    SparseCore.bigSep_erase' (Finset.mem_erase.mpr ⟨n cc0_scoped2.sem cc0_scoped1.sem (by decide), Finset.mem_erase.mpr ⟨n cc0_scoped2.sem cc0_scoped0.sem (by decide),
      Finset.mem_erase.mpr ⟨n cc0_scoped2.sem cc0_scratch8.sem (by decide), Finset.mem_erase.mpr ⟨n cc0_scoped2.sem cc0_scratch7.sem (by decide), mm cc0_scoped2.sem (by decide)⟩⟩⟩⟩),
    SparseCore.bigSep_erase' (Finset.mem_erase.mpr ⟨n cc0_scoped3.sem cc0_scoped2.sem (by decide), Finset.mem_erase.mpr ⟨n cc0_scoped3.sem cc0_scoped1.sem (by decide),
      Finset.mem_erase.mpr ⟨n cc0_scoped3.sem cc0_scoped0.sem (by decide), Finset.mem_erase.mpr ⟨n cc0_scoped3.sem cc0_scratch8.sem (by decide),
      Finset.mem_erase.mpr ⟨n cc0_scoped3.sem cc0_scratch7.sem (by decide), mm cc0_scoped3.sem (by decide)⟩⟩⟩⟩⟩),
    SparseCore.bigSep_erase' (Finset.mem_erase.mpr ⟨n cc0_scoped4.sem cc0_scoped3.sem (by decide), Finset.mem_erase.mpr ⟨n cc0_scoped4.sem cc0_scoped2.sem (by decide),
      Finset.mem_erase.mpr ⟨n cc0_scoped4.sem cc0_scoped1.sem (by decide), Finset.mem_erase.mpr ⟨n cc0_scoped4.sem cc0_scoped0.sem (by decide),
      Finset.mem_erase.mpr ⟨n cc0_scoped4.sem cc0_scratch8.sem (by decide), Finset.mem_erase.mpr ⟨n cc0_scoped4.sem cc0_scratch7.sem (by decide), mm cc0_scoped4.sem (by decide)⟩⟩⟩⟩⟩⟩)]

abbrev bref (b : Ref sig .scVector) : DevRef τ sig := (th d i).2.devRef b

theorem bref_ne {b b' : Ref sig .scVector} (h : b ≠ b') : bref d i b ≠ bref d i b' := fun e => h (Proc.devRef_injective _ e)

/-- The tile's buffers that are not the body's. -/
def otherRefs : Finset (DevRef τ sig) :=
  (((((((ownRefs (τ := τ) (th d i).2).erase (bref d i cc0_scratch0)).erase (bref d i cc0_scratch1)).erase (bref d i cc0_scratch2)).erase (bref d i cc0_scratch3)).erase
    (bref d i cc0_scratch4)).erase (bref d i cc0_scratch5)).erase (bref d i cc0_scratch6)

/-- A buffer at something. -/
abbrev some' (b : Ref sig .scVector) : sProp (MM F) := iprop(∃ f, (th d i).loc b ↦{fullShare} f)

theorem ownBufs_eq : (ownBufs (th d i) : sProp (MM F)) = iprop(some' d i cc0_scratch0 ∗ some' d i cc0_scratch1 ∗ some' d i cc0_scratch2 ∗ some' d i cc0_scratch3
    ∗ some' d i cc0_scratch4 ∗ some' d i cc0_scratch5 ∗ some' d i cc0_scratch6 ∗ bigSep (otherRefs d i) fun b => iprop(∃ f, ((d, b) : Loc nD τ sig) ↦{fullShare} f)) := by
  unfold SparseCore.Cfg.ownBufs otherRefs
  have n (b b' : Ref sig .scVector) (h : b ≠ b') := bref_ne d i h
  have mm (b : Ref sig .scVector) (h : (bref d i b).owner = .proc (th d i).2) : bref d i b ∈ ownRefs (τ := τ) (th d i).2 := SparseCore.Cfg.mem_ownRefs_of_owner h
  refine (SparseCore.bigSep_erase' (mm cc0_scratch0 rfl)).trans (congrArg (fun R : sProp (MM F) => iprop(some' d i cc0_scratch0 ∗ R)) ?_)
  refine (SparseCore.bigSep_erase' (Finset.mem_erase.mpr ⟨n cc0_scratch1 cc0_scratch0 (by decide), mm cc0_scratch1 rfl⟩)).trans (congrArg (fun R : sProp (MM F) => iprop(some' d i cc0_scratch1 ∗ R)) ?_)
  refine (SparseCore.bigSep_erase' (Finset.mem_erase.mpr ⟨n cc0_scratch2 cc0_scratch1 (by decide), Finset.mem_erase.mpr ⟨n cc0_scratch2 cc0_scratch0 (by decide), mm cc0_scratch2 rfl⟩⟩)).trans (congrArg (fun R : sProp (MM F) => iprop(some' d i cc0_scratch2 ∗ R)) ?_)
  refine (SparseCore.bigSep_erase' (Finset.mem_erase.mpr ⟨n cc0_scratch3 cc0_scratch2 (by decide), Finset.mem_erase.mpr ⟨n cc0_scratch3 cc0_scratch1 (by decide), Finset.mem_erase.mpr ⟨n cc0_scratch3 cc0_scratch0 (by decide), mm cc0_scratch3 rfl⟩⟩⟩)).trans (congrArg (fun R : sProp (MM F) => iprop(some' d i cc0_scratch3 ∗ R)) ?_)
  refine (SparseCore.bigSep_erase' (Finset.mem_erase.mpr ⟨n cc0_scratch4 cc0_scratch3 (by decide), Finset.mem_erase.mpr ⟨n cc0_scratch4 cc0_scratch2 (by decide), Finset.mem_erase.mpr ⟨n cc0_scratch4 cc0_scratch1 (by decide), Finset.mem_erase.mpr ⟨n cc0_scratch4 cc0_scratch0 (by decide), mm cc0_scratch4 rfl⟩⟩⟩⟩)).trans (congrArg (fun R : sProp (MM F) => iprop(some' d i cc0_scratch4 ∗ R)) ?_)
  refine (SparseCore.bigSep_erase' (Finset.mem_erase.mpr ⟨n cc0_scratch5 cc0_scratch4 (by decide), Finset.mem_erase.mpr ⟨n cc0_scratch5 cc0_scratch3 (by decide), Finset.mem_erase.mpr ⟨n cc0_scratch5 cc0_scratch2 (by decide), Finset.mem_erase.mpr ⟨n cc0_scratch5 cc0_scratch1 (by decide), Finset.mem_erase.mpr ⟨n cc0_scratch5 cc0_scratch0 (by decide), mm cc0_scratch5 rfl⟩⟩⟩⟩⟩)).trans (congrArg (fun R : sProp (MM F) => iprop(some' d i cc0_scratch5 ∗ R)) ?_)
  refine (SparseCore.bigSep_erase' (Finset.mem_erase.mpr ⟨n cc0_scratch6 cc0_scratch5 (by decide), Finset.mem_erase.mpr ⟨n cc0_scratch6 cc0_scratch4 (by decide), Finset.mem_erase.mpr ⟨n cc0_scratch6 cc0_scratch3 (by decide), Finset.mem_erase.mpr ⟨n cc0_scratch6 cc0_scratch2 (by decide), Finset.mem_erase.mpr ⟨n cc0_scratch6 cc0_scratch1 (by decide), Finset.mem_erase.mpr ⟨n cc0_scratch6 cc0_scratch0 (by decide), mm cc0_scratch6 rfl⟩⟩⟩⟩⟩⟩)).trans (congrArg (fun R : sProp (MM F) => iprop(some' d i cc0_scratch6 ∗ R)) ?_)
  rfl

end Own

/-! ## The tile's task -/

section Task
variable (G : Dev nD → Ins F) (d : Dev nD)

omit [FloatOps F] in
theorem holds_of_buf (i : grid0.Coords) {e : EltTy} (b : Ref sig .scVector) (he : b.ty.elt = e := by rfl) :
    some' (F := F) d i b ⊢ (∃ Z, holds (F := F) (th d i) (Memref.whole b) Z : sProp (MM F)) := by
  unfold holds
  iintro ⟨%f, H⟩
  iexists (Memref.whole b).view.read (Elt F) f
  iexists f
  isplitr; · ipureintro; rfl
  rw [View.set_whole]
  iexact H

omit [FloatOps F] in
theorem buf_of_holds (i : grid0.Coords) (b : Ref sig .scVector) (Z : b.ty.shape.Idx → Elt F b.ty.elt) :
    holds (F := F) (th d i) (Memref.whole b) Z ⊢ (some' (F := F) d i b : sProp (MM F)) := by
  unfold holds
  iintro ⟨%f, -, H⟩
  iexists f
  rw [View.set_whole]
  iexact H

set_option maxHeartbeats 1000000 in
theorem task (hF : (K (F := F)).Facts) (hfs : ∀ d, InRange (G d).fs) (c : Fin 2) (s : Fin 16) (O : CellTallies nD τ sig (HIx 1)) (W : Waits sig (HIx 1)) (hO : ∀ g, O g none = 0) :
    iprop(levAts (K (F := F)).L (K (F := F)).lev ∗ emp ∗ given G d c s
        ∗ scopedBufs (th d (crd c s)) ∗ scopedSems0 (th d (crd c s)) ∗ owes (th d (crd c s)) O W)
      ⊢ WP (th d (crd c s)) (cc0__sc_body (F := F) (crd c s) xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4)
          fun _ => iprop(brought G d c s ∗ scopedBufs (th d (crd c s)) ∗ scopedSems0 (th d (crd c s)) ∗ owesN (th d (crd c s)) O W) := by
  rw [(K (F := F)).scopedBufs_V hF d _ _, SparseCore.Cfg.scopedSems0_V (Val := Elt F) d _ _]
  rw [show (ownSems0 (th d (crd c s)) : sProp (MM F)) = _ from ownSems0_eq d (crd c s), show (ownBufs (th d (crd c s)) : sProp (MM F)) = _ from ownBufs_eq d (crd c s)]
  iintro ⟨#Hlv, -, ⟨Hsh, Hout⟩, ⟨B0, B1, B2, B3, B4, B5, B6, Bs⟩, ⟨S0, S1, S2, S3, S4, S5, S6, Ss⟩, HO⟩
  ihave Hmw := (show levAts (K (F := F)).L (K (F := F)).lev ⊢ Transfers.MayWaits (th d (crd c s)) (default : HIx 1) O from
    (K (F := F)).mayWaits_none (thr := th d (crd c s)) hO) $$ Hlv
  iapply (wp_wand_r frame (wpE (defs₀ (F := F)) 𝒱₀ (th d (crd c s)) none) Set.univ)
  isplitl [Hsh Hout B0 B1 B2 B3 B4 B5 B6 S0 S1 S2 S3 S4 S5 S6 HO Hmw]
  · iapply (wp_tile d (crd c s) (G d).fx (G d).fs (G d).fw (G d).fb O W (shq c s) (hfs d))
    isplitr [Hmw]
    · unfold stage0
      isplitl [Hsh]; · iexact Hsh
      isplitl [Hout]; · iexact Hout
      isplitl [B0 B1]
      · isplitl [B0]
        · iapply (holds_of_buf d (crd c s) cc0_scratch0); iexact B0
        · iapply (holds_of_buf d (crd c s) cc0_scratch1); iexact B1
      isplitl [B2]; · iapply (holds_of_buf d (crd c s) cc0_scratch2); iexact B2
      isplitl [B3]; · iapply (holds_of_buf d (crd c s) cc0_scratch3); iexact B3
      isplitl [B4]; · iapply (holds_of_buf d (crd c s) cc0_scratch4); iexact B4
      isplitl [B5]; · iapply (holds_of_buf d (crd c s) cc0_scratch5); iexact B5
      isplitl [B6]; · iapply (holds_of_buf d (crd c s) cc0_scratch6); iexact B6
      isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      unfold owesN
      iexists W
      isplitr; · ipureintro; exact fun p hp => .inl hp
      iexact HO
    · iexact Hmw
  iintro %_ H
  unfold stage2 sums
  icases H with ⟨Hsh, ⟨Ha, Hd⟩, ⟨⟨%Z0, B0⟩, ⟨%Z1, B1⟩⟩, B2, B3, B4, ⟨B5, B6⟩, ⟨S0, S1, S2, S3, S4, S5, S6⟩, HO⟩
  isplitl [Hsh Ha Hd]
  · isplitl [Hsh]; · iexact Hsh
    isplitl [Ha]
    · iapply (a_done (G d).fx (G d).fs (G d).fw (G d).fb d (crd c s)); iexact Ha
    · iapply (d_done (G d).fx (G d).fs (G d).fw (G d).fb d (crd c s)); iexact Hd
  isplitl [B0 B1 B2 B3 B4 B5 B6 Bs]
  · isplitl [B0]; · iapply (buf_of_holds d (crd c s) cc0_scratch0 _); iexact B0
    isplitl [B1]; · iapply (buf_of_holds d (crd c s) cc0_scratch1 _); iexact B1
    isplitl [B2]; · iapply (buf_of_holds d (crd c s) cc0_scratch2 _); iexact B2
    isplitl [B3]; · iapply (buf_of_holds d (crd c s) cc0_scratch3 _); iexact B3
    isplitl [B4]; · iapply (buf_of_holds d (crd c s) cc0_scratch4 _); iexact B4
    isplitl [B5]; · iapply (buf_of_holds d (crd c s) cc0_scratch5 _); iexact B5
    isplitl [B6]; · iapply (buf_of_holds d (crd c s) cc0_scratch6 _); iexact B6
    iexact Bs
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Ss
  iexact HO

theorem defs₀_tile (c : Fin τ.nSC) (s : Fin τ.nSub) :
    defs₀ (F := F) (.scVector c s) 0 ()
      = SparseCore.onTile hcore0 hsub0 (fun c s => cc0__sc_body (F := F) (at2 c s) xH (Memref.isWhole_whole _) sH (Memref.isWhole_whole _) wH (Memref.isWhole_whole _) bH (Memref.isWhole_whole _) aH (Memref.isWhole_whole _) dH (Memref.isWhole_whole _) x0V (Memref.isWhole_whole _) x1V (Memref.isWhole_whole _) wV (Memref.isWhole_whole _) bV (Memref.isWhole_whole _) sV (Memref.isWhole_whole _) aV (Memref.isWhole_whole _) dV (Memref.isWhole_whole _) cc0_scratch7 cc0_scratch8 cc0_scoped0 cc0_scoped1 cc0_scoped2 cc0_scoped3 cc0_scoped4) ⟨⟩ c s := rfl

omit [FloatOps F] in
theorem task_post {thr : Thread nD τ} {A B C : sProp (MM F)} {O : CellTallies nD τ sig (HIx 1)} {W : Waits sig (HIx 1)} {q : Fin 1} :
    iprop(A ∗ B ∗ C ∗ owesN thr O W)
      ⊢ iprop(A ∗ B ∗ C ∗ ∃ W', ⌜∀ p ∈ W', p ∈ W ∨ p.2 = none ∨ p.2 = some q⌝ ∗ owes thr O W') := by
  unfold owesN
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfs : ∀ d, InRange (G d).fs) : (K (F := F)).TileObl (D (F := F)) 𝒱 (P G) v₀ 0 := by
  intro d c i O W hO _ _
  simp only [show (P G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (task G d hF hfs (Fin.cast nCore_zero c) (Fin.cast nSub_zero i) O W hO).trans (wp_mono frame _ _ fun _ => task_post)

end Task

end Cert.Tile
-- ==== Proof.TcBody.lean ====
module

public import proofs.«01_k».proof.Proof.Rows
public import proofs.«01_k».proof.Proof.Gen.KernelIdeal.Skeleton
public import proofs.«01_k».proof.Proof.Gen.KernelIdeal.Points

@[expose] public section

noncomputable section

namespace Cert.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-! ## Whole rectangles -/

theorem emb_zero {s : Shape} {o : Fin s.rank → ℕ} {h : ∀ a, o a + s.size a ≤ s.size a} (ho : ∀ a, o a = 0)
    (x : (Rect.unit (s := s) o s.size h).shape.Idx) : (Rect.unit (s := s) o s.size h).emb x = x := by
  funext a
  apply Fin.ext
  show o a + 1 * (x a).val = (x a).val
  rw [ho a]; omega

/-- Reading a whole rectangle reads the buffer. -/
theorem idx_whole {α : Type} {s : Shape} {o : Fin s.rank → ℕ} {h : ∀ a, o a + s.size a ≤ s.size a} (ho : ∀ a, o a = 0)
    (X : s.Idx → α) : (fun y => X ((Rect.unit (s := s) o s.size h).toLoadRect.idx y)) = X := by
  funext y
  exact congrArg X (emb_zero ho y)

theorem zero2 : ∀ a : Fin 2, (![0, 0] : Fin 2 → ℕ) a = 0 := by decide
theorem zero3 : ∀ a : Fin 3, (![0, 0, 0] : Fin 3 → ℕ) a = 0 := by decide

section Steps

variable {thr : Thread nD τ} {α : Type} {Q : α → sProp (MM F)}

/-- A load of a whole buffer. -/
theorem wp_ldWhole {sp : CoreSpace} {s : Shape} {e : EltTy} {m : Memref sig thr.2.kind sp s e} {o : Fin s.rank → ℕ} {h : ∀ a, o a + s.size a ≤ s.size a}
    {hl : m.view.LoadsAt (Rect.unit (s := s) o s.size h).toLoadRect} (ho : ∀ a, o a = 0)
    {k : (s.Idx → Elt F e) → Prog (TpuEff nD τ sig (Elt F) Λ₀ thr.2) α} (X : s.Idx → Elt F e) :
    holds thr m X ⊢ iprop((holds thr m X -∗ WP thr (k X) Q) -∗ WP thr (.op (.load m (Rect.unit (s := s) o s.size h).toLoadRect hl) k) Q) := by
  have h := wp_ld (F := F) (Q := Q) (m := m) (hl := hl) (k := k) X
  rw [idx_whole ho X] at h
  exact h

/-- A store of a whole buffer. -/
theorem wp_stWhole {sp : CoreSpace} {s : Shape} {e : EltTy} {m : Memref sig thr.2.kind sp s e} {o : Fin s.rank → ℕ} {h : ∀ a, o a + s.size a ≤ s.size a}
    {w : s.Idx → Elt F e} {hx : (m.access (Rect.unit (s := s) o s.size h)).Stores Finset.univ} {hm : Finset.univ = Finset.univ ∨ ∀ a, (Rect.unit (s := s) o s.size h).stride a = 1}
    (ho : ∀ a, o a = 0)
    {k : PUnit → Prog (TpuEff nD τ sig (Elt F) Λ₀ thr.2) α} (X : s.Idx → Elt F e) :
    holds thr m X ⊢ iprop((holds thr m w -∗ WP thr (k ⟨⟩) Q) -∗ WP thr (.op (.store m (Rect.unit (s := s) o s.size h) w Finset.univ hx hm) k) Q) :=
  wp_st X w (fun x => congrArg w (emb_zero ho x)) fun y hy =>
    absurd (by have h' := (Rect.unit (s := s) o s.size h).toLoadRect.idx_mem y; rw [show (Rect.unit (s := s) o s.size h).toLoadRect.idx y = y from emb_zero ho y] at h'; exact h') hy

end Steps

/-! ## A step of the TensorCore's call -/

/-- The running sums after a block, from the ones before it. -/
def tcStep (B : S1x1x4000.Idx → BitVec 32) (X : S4000x128.Idx → F .f32) (W : S128x8.Idx → F .f32) (b : S1x1.Idx → F .f32)
    (A : S256x136.Idx → F .f32) : S256x136.Idx → F .f32 := k1_pay2 X W b B A

/-- The weighted sums' columns. -/
def leftCols (A : S256x136.Idx → F .f32) : S256x128.Idx → F .f32 :=
  fun y => A ((Rect.unit (s := S256x136) ![0, 0] S256x128.size inb_S256x136_S256x128_0_0).toLoadRect.idx y)

/-- The weights' columns. -/
def rightCols (A : S256x136.Idx → F .f32) : S256x8.Idx → F .f32 :=
  fun y => A ((Rect.unit (s := S256x136) ![0, 128] S256x8.size inb_S256x136_S256x8_0_128).toLoadRect.idx y)

/-- The test for the first step. -/
abbrev firstStep (i : grid1.Coords) : BitVec 1 := Scalar.cmpi .ne (Scalar.extui (Scalar.cmpi .eq (BitVec.ofNat 32 (i 0).val) 0#32) : BitVec 32) 0#32

theorem wp_tcBody (c : Dev nD) (i : grid1.Coords)
    (m1 : Memref sig .tc .vmem S1x1x4000 .i32) (h1 : m1.IsWhole) (m2 : Memref sig .tc .vmem S4000x128 .f32) (h2 : m2.IsWhole)
    (m3 : Memref sig .tc .vmem S128x8 .f32) (h3 : m3.IsWhole) (m4 : Memref sig .tc .vmem S1x1 .f32) (h4 : m4.IsWhole)
    (m5 : Memref sig .tc .vmem S256x128 .f32) (h5 : m5.IsWhole) (m6 : Memref sig .tc .vmem S256x8 .f32) (h6 : m6.IsWhole)
    (m7 : Memref sig .tc .vmem S256x136 .f32) (h7 : m7.IsWhole)
    (B : S1x1x4000.Idx → BitVec 32) (X : S4000x128.Idx → F .f32) (W : S128x8.Idx → F .f32) (b : S1x1.Idx → F .f32)
    (Y5 : S256x128.Idx → F .f32) (Y6 : S256x8.Idx → F .f32) (A A' : S256x136.Idx → F .f32) (Q : PUnit → sProp (MM F))
    (hA : A' = tcStep B X W b (if firstStep i = 1#1 then k1_pay1 else A)) :
    iprop(holds (T c) m1 B ∗ holds (T c) m2 X ∗ holds (T c) m3 W ∗ holds (T c) m4 b ∗ holds (T c) m5 Y5 ∗ holds (T c) m6 Y6 ∗ holds (T c) m7 A
      ∗ ((holds (T c) m1 B ∗ holds (T c) m2 X ∗ holds (T c) m3 W ∗ holds (T c) m4 b
          ∗ holds (T c) m5 (if k1_cond2 i = 1#1 then leftCols A' else Y5) ∗ holds (T c) m6 (if k1_cond2 i = 1#1 then rightCols A' else Y6)
          ∗ holds (T c) m7 A') -∗ Q ⟨⟩))
      ⊢ WP (T c) (cc1__tc_body i m1 h1 m2 h2 m3 h3 m4 h4 m5 h5 m6 h6 m7 h7) Q := by
  rw [cc1__tc_body_eq_skeleton]
  unfold cc1__tc_body_skel
  rw [k1_part1_eq_skeleton]
  unfold k1_part1_skel
  by_cases hf : firstStep i = 1#1 <;> by_cases hl : k1_cond2 i = 1#1
  · simp only [hf, hl, dif_pos, dif_neg, not_false_eq_true, if_true, if_false, Prog.lift, Prog.bind_op, Prog.bind_ret, Prog.bind_assoc, pure_bind] at hA ⊢
    subst hA
    iintro ⟨H1, H2, H3, H4, H5, H6, H7, Hk⟩
    iapply (wp_ldWhole (thr := T c) (m := m7) zero2 A) $$ H7
    iintro H7
    iapply (wp_stWhole (thr := T c) (m := m7) zero2 A) $$ H7
    iintro H7
    iapply (wp_ldWhole (thr := T c) (m := m2) zero2 X) $$ H2
    iintro H2
    iapply (wp_ldWhole (thr := T c) (m := m3) zero2 W) $$ H3
    iintro H3
    iapply (wp_ldWhole (thr := T c) (m := m4) zero2 b) $$ H4
    iintro H4
    iapply (wp_ldWhole (thr := T c) (m := m1) zero3 B) $$ H1
    iintro H1
    iapply (wp_ldWhole (thr := T c) (m := m7) zero2 k1_pay1) $$ H7
    iintro H7
    iapply (wp_ldWhole (thr := T c) (m := m7) zero2 k1_pay1) $$ H7
    iintro H7
    iapply (wp_stWhole (thr := T c) (m := m7) zero2 k1_pay1) $$ H7
    iintro H7
    iapply (wp_ld (thr := T c) (m := m7) (k1_pay2 X W b B k1_pay1)) $$ H7
    iintro H7
    iapply (wp_ldWhole (thr := T c) (m := m5) zero2 Y5) $$ H5
    iintro H5
    iapply (wp_stWhole (thr := T c) (m := m5) zero2 Y5) $$ H5
    iintro H5
    iapply (wp_ld (thr := T c) (m := m7) (k1_pay2 X W b B k1_pay1)) $$ H7
    iintro H7
    iapply (wp_ldWhole (thr := T c) (m := m6) zero2 Y6) $$ H6
    iintro H6
    iapply (wp_stWhole (thr := T c) (m := m6) zero2 Y6) $$ H6
    iintro H6
    iapply wp_done
    iapply Hk
    isplitl [H1]; · iexact H1
    isplitl [H2]; · iexact H2
    isplitl [H3]; · iexact H3
    isplitl [H4]; · iexact H4
    isplitl [H5]; · iexact H5
    isplitl [H6]; · iexact H6
    iexact H7
  · simp only [hf, hl, dif_pos, dif_neg, not_false_eq_true, if_true, if_false, Prog.lift, Prog.bind_op, Prog.bind_ret, Prog.bind_assoc, pure_bind] at hA ⊢
    subst hA
    iintro ⟨H1, H2, H3, H4, H5, H6, H7, Hk⟩
    iapply (wp_ldWhole (thr := T c) (m := m7) zero2 A) $$ H7
    iintro H7
    iapply (wp_stWhole (thr := T c) (m := m7) zero2 A) $$ H7
    iintro H7
    iapply (wp_ldWhole (thr := T c) (m := m2) zero2 X) $$ H2
    iintro H2
    iapply (wp_ldWhole (thr := T c) (m := m3) zero2 W) $$ H3
    iintro H3
    iapply (wp_ldWhole (thr := T c) (m := m4) zero2 b) $$ H4
    iintro H4
    iapply (wp_ldWhole (thr := T c) (m := m1) zero3 B) $$ H1
    iintro H1
    iapply (wp_ldWhole (thr := T c) (m := m7) zero2 k1_pay1) $$ H7
    iintro H7
    iapply (wp_ldWhole (thr := T c) (m := m7) zero2 k1_pay1) $$ H7
    iintro H7
    iapply (wp_stWhole (thr := T c) (m := m7) zero2 k1_pay1) $$ H7
    iintro H7
    iapply wp_done
    iapply Hk
    isplitl [H1]; · iexact H1
    isplitl [H2]; · iexact H2
    isplitl [H3]; · iexact H3
    isplitl [H4]; · iexact H4
    isplitl [H5]; · iexact H5
    isplitl [H6]; · iexact H6
    iexact H7
  · simp only [hf, hl, dif_pos, dif_neg, not_false_eq_true, if_true, if_false, Prog.lift, Prog.bind_op, Prog.bind_ret, Prog.bind_assoc, pure_bind] at hA ⊢
    subst hA
    iintro ⟨H1, H2, H3, H4, H5, H6, H7, Hk⟩
    iapply (wp_ldWhole (thr := T c) (m := m2) zero2 X) $$ H2
    iintro H2
    iapply (wp_ldWhole (thr := T c) (m := m3) zero2 W) $$ H3
    iintro H3
    iapply (wp_ldWhole (thr := T c) (m := m4) zero2 b) $$ H4
    iintro H4
    iapply (wp_ldWhole (thr := T c) (m := m1) zero3 B) $$ H1
    iintro H1
    iapply (wp_ldWhole (thr := T c) (m := m7) zero2 A) $$ H7
    iintro H7
    iapply (wp_ldWhole (thr := T c) (m := m7) zero2 A) $$ H7
    iintro H7
    iapply (wp_stWhole (thr := T c) (m := m7) zero2 A) $$ H7
    iintro H7
    iapply (wp_ld (thr := T c) (m := m7) (k1_pay2 X W b B A)) $$ H7
    iintro H7
    iapply (wp_ldWhole (thr := T c) (m := m5) zero2 Y5) $$ H5
    iintro H5
    iapply (wp_stWhole (thr := T c) (m := m5) zero2 Y5) $$ H5
    iintro H5
    iapply (wp_ld (thr := T c) (m := m7) (k1_pay2 X W b B A)) $$ H7
    iintro H7
    iapply (wp_ldWhole (thr := T c) (m := m6) zero2 Y6) $$ H6
    iintro H6
    iapply (wp_stWhole (thr := T c) (m := m6) zero2 Y6) $$ H6
    iintro H6
    iapply wp_done
    iapply Hk
    isplitl [H1]; · iexact H1
    isplitl [H2]; · iexact H2
    isplitl [H3]; · iexact H3
    isplitl [H4]; · iexact H4
    isplitl [H5]; · iexact H5
    isplitl [H6]; · iexact H6
    iexact H7
  · simp only [hf, hl, dif_pos, dif_neg, not_false_eq_true, if_true, if_false, Prog.lift, Prog.bind_op, Prog.bind_ret, Prog.bind_assoc, pure_bind] at hA ⊢
    subst hA
    iintro ⟨H1, H2, H3, H4, H5, H6, H7, Hk⟩
    iapply (wp_ldWhole (thr := T c) (m := m2) zero2 X) $$ H2
    iintro H2
    iapply (wp_ldWhole (thr := T c) (m := m3) zero2 W) $$ H3
    iintro H3
    iapply (wp_ldWhole (thr := T c) (m := m4) zero2 b) $$ H4
    iintro H4
    iapply (wp_ldWhole (thr := T c) (m := m1) zero3 B) $$ H1
    iintro H1
    iapply (wp_ldWhole (thr := T c) (m := m7) zero2 A) $$ H7
    iintro H7
    iapply (wp_ldWhole (thr := T c) (m := m7) zero2 A) $$ H7
    iintro H7
    iapply (wp_stWhole (thr := T c) (m := m7) zero2 A) $$ H7
    iintro H7
    iapply wp_done
    iapply Hk
    isplitl [H1]; · iexact H1
    isplitl [H2]; · iexact H2
    isplitl [H3]; · iexact H3
    isplitl [H4]; · iexact H4
    isplitl [H5]; · iexact H5
    isplitl [H6]; · iexact H6
    iexact H7

end Cert.Tile
-- ==== Proof.Region1.lean ====
module

public import proofs.«01_k».proof.Proof.TcBody
public import proofs.«01_k».proof.Proof.Gen.KernelIdeal.Launch
public import Idealize.ShloMosaic.Lib.Pipeline.RegionsLoop

@[expose] public section

noncomputable section

namespace Cert.Tile

open Cert.KernelIdeal Cert.KernelIdeal.Gen
open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

/-! ## The TensorCore's call over the remaining rows -/

theorem ofEq {P Q : sProp (MM F)} (h : P = Q) : P ⊢ Q := h ▸ BI.Entails.refl _

theorem holds_eq_owns (c : Dev nD) {sp : Space} {s : Shape} {e : EltTy} (m : Memref sig .tc sp s e) (X : s.Idx → Elt F e) :
    (holds (T c) m X : sProp (MM F)) = owns (c : Thread nD τ) m fullShare X := rfl

/-- The buffers' contents at the entry. -/
abbrev Vals (F : FTy → Type) : Type := (c : Dev nD) → (b : Ref sig .tc) → Buf (Elt F) ((c : Thread nD τ).loc b)

theorem toHolds (c : Dev nD) {sp : Space} {s : Shape} {e : EltTy} (m : Memref sig .tc sp s e) (X : s.Idx → Elt F e) :
    (owns (c : Thread nD τ) m fullShare X : sProp (MM F)) ⊢ holds (T c) m X := BI.Entails.refl _
theorem toOwns (c : Dev nD) {sp : Space} {s : Shape} {e : EltTy} (m : Memref sig .tc sp s e) (X : s.Idx → Elt F e) :
    (holds (T c) m X : sProp (MM F)) ⊢ owns (c : Thread nD τ) m fullShare X := BI.Entails.refl _

section Region

variable (V : Vals F)

/-- The windows' blocks at a step: the segments', the rows', the weights' and the bias's. -/
abbrev blkB (c : Dev nD) (t : Fin cfg1.N) : S1x1x4000.Idx → BitVec 32 := ((cfg1.win 0).blk t).view.read (Elt F) (V c main_v0)
abbrev blkX (c : Dev nD) (t : Fin cfg1.N) : S4000x128.Idx → F .f32 := ((cfg1.win 1).blk t).view.read (Elt F) (V c main_arg0)
abbrev blkW (c : Dev nD) (t : Fin cfg1.N) : S128x8.Idx → F .f32 := ((cfg1.win 2).blk t).view.read (Elt F) (V c main_v4)
abbrev blkb (c : Dev nD) (t : Fin cfg1.N) : S1x1.Idx → F .f32 := ((cfg1.win 3).blk t).view.read (Elt F) (V c main_v5)

/-- The running sums before step `n`. -/
def accS (c : Dev nD) : ℕ → S256x136.Idx → F .f32
  | 0 => k1_pay1
  | n + 1 => if h : n < cfg1.N then tcStep (blkB V c ⟨n, h⟩) (blkX V c ⟨n, h⟩) (blkW V c ⟨n, h⟩) (blkb V c ⟨n, h⟩) (accS c n) else accS c n

/-- The buffers that stage the epilogue's windows, held at anything. -/
def others1 (c : Dev nD) : sProp (MM F) :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f))

/-- Between two steps: the running sums' buffer at the sums so far, once the first step has set it. -/
def Φ1 (c : Dev nD) (n : ℕ) : sProp (MM F) :=
  iprop((∃ A : S256x136.Idx → F .f32, ⌜n ≠ 0 → A = accS V c n⌝ ∗ holds (T c) (Memref.whole cc1_scratch0) A) ∗ others1 c)

/-- What the call holds and leaves. -/
def dat1 (c : Dev nD) : Dat τ (Elt F) (HIx 1) ℕ UU ℕ cfg1 c where
  A w := V c (Pipeline.arrRef spec1 w)
  after w t := match w with
    | ⟨0, _⟩ => blkB V c t
    | ⟨1, _⟩ => blkX V c t
    | ⟨2, _⟩ => blkW V c t
    | ⟨3, _⟩ => blkb V c t
    | ⟨4, _⟩ => leftCols (accS V c 16)
    | ⟨5, _⟩ => rightCols (accS V c 16)
  Φ t := Φ1 V c t.val
  q _ := fullShare
  owed _ := 0

theorem before1_0 (c : Dev nD) (t : Fin cfg1.N) (d) : (dat1 V c).before 0 t d = blkB V c t :=
  ((dat1 V c).before_in_eq_fetched 0 rfl (fun _ => rfl) (fun _ _ _ => rfl) (fun _ => rfl) t d).trans rfl
theorem before1_1 (c : Dev nD) (t : Fin cfg1.N) (d) : (dat1 V c).before 1 t d = blkX V c t :=
  ((dat1 V c).before_in_eq_fetched 1 rfl (fun _ => rfl) (fun _ _ _ => rfl) (fun _ => rfl) t d).trans rfl
theorem before1_2 (c : Dev nD) (t : Fin cfg1.N) (d) : (dat1 V c).before 2 t d = blkW V c t :=
  ((dat1 V c).before_in_eq_fetched 2 rfl (fun _ => rfl) (fun _ _ _ => rfl) (fun _ => rfl) t d).trans rfl
theorem before1_3 (c : Dev nD) (t : Fin cfg1.N) (d) : (dat1 V c).before 3 t d = blkb V c t :=
  ((dat1 V c).before_in_eq_fetched 3 rfl (fun _ => rfl) (fun _ _ _ => rfl) (fun _ => rfl) t d).trans rfl

theorem first_iff : ∀ t : Fin 16, firstStep (grid1.coords t) = 1#1 ↔ t.val = 0 := by decide +kernel
theorem last_iff : ∀ t : Fin 16, k1_cond2 (grid1.coords t) = 1#1 ↔ t.val = 15 := by decide +kernel

theorem body1 (c : Dev nD) : BodyObligation (dat1 V c) (defs₀ (F := F)) 𝒱₀ (none : HIx 1) Set.univ := fun t => by
  rw [bigSep_W1, bigSep_W1]
  rw [show (dat1 V c).Φ t.castSucc = Φ1 V c t.val from rfl, show (dat1 V c).Φ t.succ = Φ1 V c (t.val + 1) from rfl,
    show (dat1 V c).owesAt (none : HIx 1) t.succ = (dat1 V c).owesAt (none : HIx 1) t.castSucc from rfl]
  dsimp only
  iintro ⟨HΦ, Howes, ⟨%d0, H0⟩, ⟨%d1, H1⟩, ⟨%d2, H2⟩, ⟨%d3, H3⟩, ⟨%d4, H4⟩, ⟨%d5, H5⟩⟩
  rw [before1_0, before1_1, before1_2, before1_3]
  unfold Φ1
  icases HΦ with ⟨⟨%A, %hA, HA⟩, Hr⟩
  have hN : t.val < 16 := lt_of_lt_of_eq t.isLt N_1
  have hacc : accS V c (t.val + 1) = tcStep (blkB V c t) (blkX V c t) (blkW V c t) (blkb V c t)
      (if firstStep (grid1.coords t) = 1#1 then k1_pay1 else A) := by
    rw [accS, dif_pos t.isLt]
    have hf : firstStep (grid1.coords t) = 1#1 ↔ t.val = 0 := first_iff ⟨t.val, hN⟩
    by_cases h0 : t.val = 0
    · rw [if_pos (hf.mpr h0)]
      congr 1
      rw [h0]; rfl
    · rw [if_neg fun h => h0 (hf.mp h), hA h0]
  iapply (wp_tcBody c (grid1.coords t) (stage1_0 (cfg1.slots t 0)) _ (stage1_1 (cfg1.slots t 1)) _ (stage1_2 (cfg1.slots t 2)) _ (stage1_3 (cfg1.slots t 3)) _ (stage1_4 (cfg1.slots t 4)) _ (stage1_5 (cfg1.slots t 5)) _
    (Memref.whole cc1_scratch0) _ (blkB V c t) (blkX V c t) (blkW V c t) (blkb V c t) ((dat1 V c).before 4 t d4) ((dat1 V c).before 5 t d5)
    A (accS V c (t.val + 1)) _ hacc)
  isplitl [H0]; · iapply (toHolds c _ _) $$ H0
  isplitl [H1]; · iapply (toHolds c _ _) $$ H1
  isplitl [H2]; · iapply (toHolds c _ _) $$ H2
  isplitl [H3]; · iapply (toHolds c _ _) $$ H3
  isplitl [H4]; · iapply (toHolds c _ _) $$ H4
  isplitl [H5]; · iapply (toHolds c _ _) $$ H5
  isplitl [HA]; · iexact HA
  iintro ⟨H0, H1, H2, H3, H4, H5, HA⟩
  isplitl [HA Hr]
  · isplitl [HA]
    · iexists _
      isplitr; swap; · iexact HA
      ipureintro; exact fun _ => rfl
    iexact Hr
  isplitl [Howes]; · iexact Howes
  isplitl [H0]; · iapply (toOwns c _ _) $$ H0
  isplitl [H1]; · iapply (toOwns c _ _) $$ H1
  isplitl [H2]; · iapply (toOwns c _ _) $$ H2
  isplitl [H3]; · iapply (toOwns c _ _) $$ H3
  by_cases hl : k1_cond2 (grid1.coords t) = 1#1
  · have h15 : t.val = 15 := (last_iff ⟨t.val, hN⟩).mp hl
    have hi4 : idle1 4 (grid1.coords t) = false := by show (!(k1_cond2 (grid1.coords t) == 1#1)) = false; rw [hl]; rfl
    have hi5 : idle1 5 (grid1.coords t) = false := by show (!(k1_cond2 (grid1.coords t) == 1#1)) = false; rw [hl]; rfl
    rw [hi4, if_pos hl, if_pos hl, h15]
    dsimp only
    isplitl [H4]; · iapply (toOwns c _ _) $$ H4
    iapply (toOwns c _ _) $$ H5
  · have h15 : t.val ≠ 15 := fun h => hl ((last_iff ⟨t.val, hN⟩).mpr h)
    have hb : (k1_cond2 (grid1.coords t) == 1#1) = false := by simpa using hl
    have hi4 : idle1 4 (grid1.coords t) = true := by show (!(k1_cond2 (grid1.coords t) == 1#1)) = true; rw [hb]; rfl
    have hi5 : idle1 5 (grid1.coords t) = true := by show (!(k1_cond2 (grid1.coords t) == 1#1)) = true; rw [hb]; rfl
    have hf4 : (win1 4).flush t = false := by
      rw [← Bool.not_eq_true]; exact fun h => absurd ((flush1_4 t).mp h) (by omega)
    have hf5 : (win1 5).flush t = false := by
      rw [← Bool.not_eq_true]; exact fun h => absurd ((flush1_5 t).mp h) (by omega)
    rw [hi4, hf4, hf5, if_neg hl, if_neg hl]
    dsimp only
    isplitl [H4]; · iexists d4; iapply (toOwns c _ _) $$ H4
    iexists d5; iapply (toOwns c _ _) $$ H5

/-- Data for the call that is not the one at hand. -/
def noDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (adm : (p : Fin 2) → (pcfgs (F := F) p).Adm)

def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => noDat c

/-- The two results, written back. -/
def out4 (c : Dev nD) : Buf (Elt F) ((c : Thread nD τ).loc main_v8_0) := (dat1 V c).arrAt 4 cfg1.N
def out5 (c : Dev nD) : Buf (Elt F) ((c : Thread nD τ).loc main_v8_1) := (dat1 V c).arrAt 5 cfg1.N

variable (V' : Vals F)

/-- The scoped buffers, the running sums' held at something. -/
theorem scoped1 (c : Dev nD) : (Pipeline.scopedRest (Ix := HIx 1) (Name := ℕ) (U := UU) (Lvl := ℕ) (Val := Elt F) spec1 c : sProp (MM F))
    = iprop((∃ A : S256x136.Idx → F .f32, holds (T c) (Memref.whole cc1_scratch0) A) ∗ others1 c) := by
  rw [scopedRest1_eq]
  unfold others1
  congr 1
  exact congrArg _ (funext fun f => (owns_whole (c : Thread nD τ) cc1_scratch0 fullShare f).symm)

set_option backward.isDefEq.respectTransparency.types false in
/-- The call, from the buffers at `V` to the buffers at `V'`. -/
def reg1 (R : Dev nD → sProp (MM F)) (h4 : ∀ c, V' c main_v8_0 = out4 V c) (h5 : ∀ c, V' c main_v8_1 = out5 V c)
    (hne : ∀ c (b : Ref sig .tc), b ≠ main_v8_0 → b ≠ main_v8_1 → V' c b = V c b) :
    Pipeline.RegionSeg (pcfgs (F := F)) adm (pdats1 V adm) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ R c ∗ ∃ W, owes (c : Thread nD τ) (0 : CellTallies nD τ sig (HIx 1)) W)
  post c := iprop(unscopedBufs c (V' c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats1 V adm) (launch1).win (launch1).arr_whole c
      ((pdats1 V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats1 V adm 0 c).Φ 0 = Φ1 V c 0 from rfl]
    iintro ⟨-, -, Hr⟩
    ihave H := (ofEq (scoped1 (F := F) c)) $$ Hr
    icases H with ⟨⟨%A, HA⟩, Ho⟩
    unfold Φ1
    isplitl [HA]
    · iexists A
      isplitr; · ipureintro; exact fun h => absurd rfl h
      iexact HA
    iexact Ho
  hout c := by
    rw [Pipeline.ownSems0_none, show (pdats1 V adm 0 c).Φ (Fin.last _) = Φ1 V c (cfg1).N from rfl]
    unfold Φ1
    iintro ⟨⟨%A, -, HA⟩, Ho⟩
    isplitr; · iempintro
    isplitr; · iempintro
    iapply (ofEq (scoped1 (F := F) c).symm)
    isplitl [HA]
    · iexists A; iexact HA
    iexact Ho
  hexit c := by
    have hjoin := Pipeline.unscopedBufs_of_arrays (p := 0) (pcfgs (F := F)) adm (Ix := HIx 1) (Name := ℕ) (U := UU) (Lvl := ℕ) (launch1).win (launch1).arr_whole c
      (pdats1 V adm) ((pdats1 V adm 0 c).share_full fun _ => rfl) (V c) (V' c) ((pdats1 V adm 0 c).arrAt · cfg1.N)
      (fun w => by
        fin_cases w
        · exact ((pdats1 V adm 0 c).arrAt_in 0 rfl _).trans (hne c main_v0 (by decide) (by decide)).symm
        · exact ((pdats1 V adm 0 c).arrAt_in 1 rfl _).trans (hne c main_arg0 (by decide) (by decide)).symm
        · exact ((pdats1 V adm 0 c).arrAt_in 2 rfl _).trans (hne c main_v4 (by decide) (by decide)).symm
        · exact ((pdats1 V adm 0 c).arrAt_in 3 rfl _).trans (hne c main_v5 (by decide) (by decide)).symm
        · exact (h4 c).symm
        · exact (h5 c).symm)
      (fun b hb => hne c b (fun h => hb (h ▸ Finset.mem_image.mpr ⟨4, Finset.mem_univ _, rfl⟩)) fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Region

end Cert.Tile
-- ==== Proof.Region2.lean ====
module

public import proofs.«01_k».proof.Proof.Region1

@[expose] public section

noncomputable section

namespace Cert.Tile

open Cert.KernelIdeal Cert.KernelIdeal.Gen
open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

/-! ## The last call: the partial sums added and divided -/

/-- The first column of the weights' sums. -/
def firstCol (A : S256x8.Idx → F .f32) : S256x1.Idx → F .f32 :=
  fun y => A ((Rect.unit (s := S256x8) ![0, 0] S256x1.size inb_S256x8_S256x1_0_0).toLoadRect.idx y)

/-- The first lane of the tiles' weights' sums. -/
def firstLane (A : S32x256x16.Idx → F .f32) : S32x256x1.Idx → F .f32 :=
  fun y => A ((Rect.unit (s := S32x256x16) ![0, 0, 0] S32x256x1.size inb_S32x256x16_S32x256x1_0_0_0).toLoadRect.idx y)

/-- The result from the two calls' sums. -/
def pooled (P : S32x256x128.Idx → F .f32) (D : S32x256x16.Idx → F .f32) (A : S256x128.Idx → F .f32) (E : S256x8.Idx → F .f32) : S256x128.Idx → F .f32 :=
  k2_pay1 A P (firstCol E) (firstLane D)

theorem wp_epBody (c : Dev nD)
    (m0 : Memref sig .tc .vmem S32x256x128 .f32) (h0 : m0.IsWhole) (m1 : Memref sig .tc .vmem S32x256x16 .f32) (h1 : m1.IsWhole)
    (m2 : Memref sig .tc .vmem S256x128 .f32) (h2 : m2.IsWhole) (m3 : Memref sig .tc .vmem S256x8 .f32) (h3 : m3.IsWhole)
    (m4 : Memref sig .tc .vmem S256x128 .f32) (h4 : m4.IsWhole)
    (P : S32x256x128.Idx → F .f32) (D : S32x256x16.Idx → F .f32) (A : S256x128.Idx → F .f32) (E : S256x8.Idx → F .f32)
    (Y : S256x128.Idx → F .f32) (Q : PUnit → sProp (MM F)) :
    iprop(holds (T c) m0 P ∗ holds (T c) m1 D ∗ holds (T c) m2 A ∗ holds (T c) m3 E ∗ holds (T c) m4 Y
      ∗ ((holds (T c) m0 P ∗ holds (T c) m1 D ∗ holds (T c) m2 A ∗ holds (T c) m3 E ∗ holds (T c) m4 (pooled P D A E)) -∗ Q ⟨⟩))
      ⊢ WP (T c) (cc2__ep_body m0 h0 m1 h1 m2 h2 m3 h3 m4 h4) Q := by
  rw [cc2__ep_body_eq_skeleton]
  unfold cc2__ep_body_skel
  simp only [Prog.lift, Prog.bind_op, Prog.bind_ret, Prog.bind_assoc, pure_bind]
  iintro ⟨H0, H1, H2, H3, H4, Hk⟩
  iapply (wp_ldWhole (thr := T c) (m := m2) zero2 A) $$ H2
  iintro H2
  iapply (wp_ldWhole (thr := T c) (m := m0) zero3 P) $$ H0
  iintro H0
  iapply (wp_ld (thr := T c) (m := m3) E) $$ H3
  iintro H3
  iapply (wp_ld (thr := T c) (m := m1) D) $$ H1
  iintro H1
  iapply (wp_ldWhole (thr := T c) (m := m4) zero2 Y) $$ H4
  iintro H4
  iapply (wp_stWhole (thr := T c) (m := m4) zero2 Y) $$ H4
  iintro H4
  iapply wp_done
  iapply Hk
  isplitl [H0]; · iexact H0
  isplitl [H1]; · iexact H1
  isplitl [H2]; · iexact H2
  isplitl [H3]; · iexact H3
  iexact H4

section Region

variable (V : Vals F)

abbrev blkP (c : Dev nD) : S32x256x128.Idx → F .f32 := ((cfg2.win 0).blk t2_0).view.read (Elt F) (V c main_v9)
abbrev blkD (c : Dev nD) : S32x256x16.Idx → F .f32 := ((cfg2.win 1).blk t2_0).view.read (Elt F) (V c main_v10)
abbrev blkA (c : Dev nD) : S256x128.Idx → F .f32 := ((cfg2.win 2).blk t2_0).view.read (Elt F) (V c main_v8_0)
abbrev blkE (c : Dev nD) : S256x8.Idx → F .f32 := ((cfg2.win 3).blk t2_0).view.read (Elt F) (V c main_v8_1)

/-- Between the call's ends: the scoped buffers that stage none of its windows. -/
abbrev Φ2 (c : Dev nD) : sProp (MM F) := Pipeline.scopedRest (Ix := HIx 1) (Name := ℕ) (U := UU) (Lvl := ℕ) (Val := Elt F) spec2 c

/-- What the call holds and leaves. -/
def dat2 (c : Dev nD) : Dat τ (Elt F) (HIx 1) ℕ UU ℕ cfg2 c where
  A w := V c (Pipeline.arrRef spec2 w)
  after w t := match w with
    | ⟨0, _⟩ => blkP V c
    | ⟨1, _⟩ => blkD V c
    | ⟨2, _⟩ => blkA V c
    | ⟨3, _⟩ => blkE V c
    | ⟨4, _⟩ => pooled (blkP V c) (blkD V c) (blkA V c) (blkE V c)
  Φ t := Φ2 c
  q _ := fullShare
  owed _ := 0

theorem before2_0 (c : Dev nD) (d) : (dat2 V c).before 0 t2_0 d = blkP V c := by
  unfold Dat.before; rw [if_pos (fetch2_0 t2_0)]; rfl
theorem before2_1 (c : Dev nD) (d) : (dat2 V c).before 1 t2_0 d = blkD V c := by
  unfold Dat.before; rw [if_pos (fetch2_1 t2_0)]; rfl
theorem before2_2 (c : Dev nD) (d) : (dat2 V c).before 2 t2_0 d = blkA V c := by
  unfold Dat.before; rw [if_pos (fetch2_2 t2_0)]; rfl
theorem before2_3 (c : Dev nD) (d) : (dat2 V c).before 3 t2_0 d = blkE V c := by
  unfold Dat.before; rw [if_pos (fetch2_3 t2_0)]; rfl

theorem body2 (c : Dev nD) : BodyObligation (dat2 V c) (defs₀ (F := F)) 𝒱₀ (none : HIx 1) Set.univ := fun t => by
  obtain rfl := fin_N2 t
  rw [bigSep_W2, bigSep_W2]
  rw [show (dat2 V c).Φ t2_0.castSucc = Φ2 c from rfl, show (dat2 V c).Φ t2_0.succ = Φ2 c from rfl,
    show (dat2 V c).owesAt (none : HIx 1) t2_0.succ = (dat2 V c).owesAt (none : HIx 1) t2_0.castSucc from rfl]
  dsimp only
  iintro ⟨HΦ, Howes, ⟨%d0, H0⟩, ⟨%d1, H1⟩, ⟨%d2, H2⟩, ⟨%d3, H3⟩, ⟨%d4, H4⟩⟩
  rw [before2_0, before2_1, before2_2, before2_3]
  iapply (wp_epBody c (stage2_0 (cfg2.slots t2_0 0)) (hstage2_0 0) (stage2_1 (cfg2.slots t2_0 1)) (hstage2_1 0) (stage2_2 (cfg2.slots t2_0 2)) (hstage2_2 0)
    (stage2_3 (cfg2.slots t2_0 3)) (hstage2_3 0) (stage2_4 (cfg2.slots t2_0 4)) (hstage2_4 0) (blkP V c) (blkD V c) (blkA V c) (blkE V c) ((dat2 V c).before 4 t2_0 d4) _)
  isplitl [H0]; · iapply (toHolds c _ _) $$ H0
  isplitl [H1]; · iapply (toHolds c _ _) $$ H1
  isplitl [H2]; · iapply (toHolds c _ _) $$ H2
  isplitl [H3]; · iapply (toHolds c _ _) $$ H3
  isplitl [H4]; · iapply (toHolds c _ _) $$ H4
  iintro ⟨H0, H1, H2, H3, H4⟩
  isplitl [HΦ]; · iexact HΦ
  isplitl [Howes]; · iexact Howes
  isplitl [H0]; · iapply (toOwns c _ _) $$ H0
  isplitl [H1]; · iapply (toOwns c _ _) $$ H1
  isplitl [H2]; · iapply (toOwns c _ _) $$ H2
  isplitl [H3]; · iapply (toOwns c _ _) $$ H3
  iapply (toOwns c _ _) $$ H4

variable (adm : (p : Fin 2) → (pcfgs (F := F) p).Adm)

def pdats2 : (p : Fin 2) → (c : Dev nD) → Dat τ (Elt F) (HIx 1) ℕ UU ℕ (Pipeline.pin (pcfgs (F := F)) adm p) c
  | ⟨0, _⟩ => fun c => noDat c
  | ⟨1, _⟩ => fun c => dat2 V c

/-- The result, written back. -/
def outR (c : Dev nD) : Buf (Elt F) ((c : Thread nD τ).loc main_v11) := (dat2 V c).arrAt 4 cfg2.N

variable (V' : Vals F)

set_option backward.isDefEq.respectTransparency.types false in
/-- The call, from the buffers at `V` to the buffers at `V'`. -/
def reg2 (R : Dev nD → sProp (MM F)) (h4 : ∀ c, V' c main_v11 = outR V c)
    (hne : ∀ c (b : Ref sig .tc), b ≠ main_v11 → V' c b = V c b) :
    Pipeline.RegionSeg (pcfgs (F := F)) adm (pdats2 V adm) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := iprop(unscopedBufs c (V c) ∗ R c ∗ ∃ W, owes (c : Thread nD τ) (0 : CellTallies nD τ sig (HIx 1)) W)
  post c := iprop(unscopedBufs c (V' c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats2 V adm) (launch2).win (launch2).arr_whole c
      ((pdats2 V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats2 V adm 1 c).Φ 0 = Φ2 c from rfl]
    iintro ⟨-, -, Hr⟩; iexact Hr
  hout c := by
    rw [Pipeline.ownSems0_none, show (pdats2 V adm 1 c).Φ (Fin.last _) = Φ2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats2 V adm) ((pdats2 V adm 1 c).share_full fun _ => rfl) (V c) (V' c) ((pdats2 V adm 1 c).arrAt · cfg2.N)
      (fun w => by
        fin_cases w
        · exact ((pdats2 V adm 1 c).arrAt_in 0 rfl _).trans (hne c main_v9 (by decide)).symm
        · exact ((pdats2 V adm 1 c).arrAt_in 1 rfl _).trans (hne c main_v10 (by decide)).symm
        · exact ((pdats2 V adm 1 c).arrAt_in 2 rfl _).trans (hne c main_v8_0 (by decide)).symm
        · exact ((pdats2 V adm 1 c).arrAt_in 3 rfl _).trans (hne c main_v8_1 (by decide)).symm
        · exact (h4 c).symm)
      (fun b hb => hne c b fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Region

end Cert.Tile
-- ==== Proof.Host.lean ====
module

public import proofs.«01_k».proof.Proof.Handshake
public import proofs.«01_k».proof.Proof.Region2

@[expose] public section

noncomputable section

namespace Cert.Tile

open Cert.KernelIdeal Cert.KernelIdeal.Gen
open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

variable {F : FTy → Type} [FloatOps F]

/-! ## The buffers of @main, and the host's operations -/

/-- The buffers that outlive the kernels. -/
def ucRefs : Finset (DevRef τ sig) := (StableHlo.tcRefs τ sig).filter fun b => ¬ b.isScoped

/-- They are held at `V`. -/
abbrev heldU (d : Dev nD) (V : Valuation τ sig (Elt F)) : sProp (MM F) := StableHlo.held (T d) ucRefs V

/-- A valuation by the TensorCore's names of the buffers. -/
abbrev names (V : Dev nD → Valuation τ sig (Elt F)) : Vals F := fun d b => V d (Proc.devRef .tc b)

omit [FloatOps F] in
theorem unscopedBufs_held (d : Dev nD) (V : Dev nD → Valuation τ sig (Elt F)) :
    (unscopedBufs d (names V d) : sProp (MM F)) = heldU d (V d) := by
  unfold unscopedBufs heldU StableHlo.held ucRefs StableHlo.tcRefs
  rw [Finset.filter_map, bigSep_map]; rfl

/-- What the host does before the first call. -/
def ops0 : List (HloOp τ sig (Elt F)) :=
  [StableHlo.reshape main_arg1 main_v0 (rfl : (.i32 : EltTy) = .i32) shapeCasts_S100000_S25x1x4000,
    StableHlo.reshape main_arg2 main_v1 (rfl : (.f32 : EltTy) = .f32) shapeCasts_S1x128_S128,
    StableHlo.unary main_arg3 main_v2 (broadcastInDim S16 ![0] bcast_S1_S16_0 : (⟨S1, .f32⟩ : BufTy).Contents (Elt F) → (⟨S16, .f32⟩ : BufTy).Contents (Elt F)),
    StableHlo.reshape main_arg2 main_v3 (rfl : (.f32 : EltTy) = .f32) shapeCasts_S1x128_S128x1,
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_v3 main_call0_v0 main_v4 (fun (x : (⟨S128x1, .f32⟩ : BufTy).Contents (Elt F)) (v : (⟨S_, .f32⟩ : BufTy).Contents (Elt F)) =>
      (pad S128x8 ![0, 0] ![0, 7] ![0, 0] x v pads_S128x1_S128x8_000_070 h_S_ : (⟨S128x8, .f32⟩ : BufTy).Contents (Elt F))),
    StableHlo.reshape main_arg3 main_v5 (rfl : (.f32 : EltTy) = .f32) shapeCasts_S1_S1x1,
    StableHlo.reshape main_arg0 main_v6 (rfl : (.f32 : EltTy) = .f32) shapeCasts_S100000x128_S12800000]

/-- What it does before the last. -/
def ops1 : List (HloOp τ sig (Elt F)) :=
  [StableHlo.reshape main_v7_0 main_v9 (rfl : (.f32 : EltTy) = .f32) shapeCasts_S8192x128_S32x256x128,
    StableHlo.reshape main_v7_1 main_v10 (rfl : (.f32 : EltTy) = .f32) shapeCasts_S8192x16_S32x256x16]

theorem main_eq (d : Dev nD) : main (F := F) d = (StableHlo.seq ops0 >>= fun _ => (K (F := F)).run d 0 >>= fun _ =>
    Prog.lift (.customCall (SparseCore.inner (Pipeline.entry 0)) ()) >>= fun _ => StableHlo.seq ops1 >>= fun _ =>
      Prog.lift (.customCall (SparseCore.inner (Pipeline.entry 1)) ())) := rfl

omit [FloatOps F] in
theorem uc (r : Ref sig .tc) (h : r.isScoped = false) : Proc.devRef (τ := τ) .tc r ∈ ucRefs :=
  Finset.mem_filter.mpr ⟨Finset.mem_map.mpr ⟨r, Finset.mem_univ _, rfl⟩, by show ¬ (r.isScoped = true); rw [h]; decide⟩
omit [FloatOps F] in
theorem uc2 (r r' : Ref sig .tc) (h : r.isScoped = false) (h' : r'.isScoped = false) :
    ({Proc.devRef (τ := τ) .tc r, Proc.devRef (τ := τ) .tc r'} : Finset (DevRef τ sig)) ⊆ ucRefs := fun b hb => by
  rcases Finset.mem_insert.mp hb with rfl | hb
  · exact uc r h
  · rw [Finset.mem_singleton.mp hb]; exact uc r' h'

theorem ops0_sub : ∀ op ∈ (ops0 (F := F)), op.bufs ⊆ ucRefs := by
  intro op h
  simp only [ops0, List.mem_cons, List.not_mem_nil, or_false] at h
  rcases h with rfl | rfl | rfl | rfl | rfl | rfl | rfl | rfl | rfl
  · exact uc2 main_arg1 main_v0 rfl rfl
  · exact uc2 main_arg2 main_v1 rfl rfl
  · exact uc2 main_arg3 main_v2 rfl rfl
  · exact uc2 main_arg2 main_v3 rfl rfl
  · exact fun b hb => by rw [Finset.mem_singleton.mp hb]; exact uc main_c rfl
  · exact uc2 main_c main_call0_v0 rfl rfl
  · intro b hb
    rcases Finset.mem_insert.mp hb with rfl | hb
    · exact uc main_v3 rfl
    · exact uc2 main_call0_v0 main_v4 rfl rfl hb
  · exact uc2 main_arg3 main_v5 rfl rfl
  · exact uc2 main_arg0 main_v6 rfl rfl
theorem ops1_sub : ∀ op ∈ (ops1 (F := F)), op.bufs ⊆ ucRefs := by
  intro op h
  simp only [ops1, List.mem_cons, List.not_mem_nil, or_false] at h
  rcases h with rfl | rfl
  · exact uc2 main_v7_0 main_v9 rfl rfl
  · exact uc2 main_v7_1 main_v10 rfl rfl
theorem ops0_fresh : ∀ op ∈ (ops0 (F := F)), op.fresh = ∅ := by
  intro op h
  simp only [ops0, List.mem_cons, List.not_mem_nil, or_false] at h
  rcases h with rfl | rfl | rfl | rfl | rfl | rfl | rfl | rfl | rfl <;> rfl
theorem ops1_fresh : ∀ op ∈ (ops1 (F := F)), op.fresh = ∅ := by
  intro op h
  simp only [ops1, List.mem_cons, List.not_mem_nil, or_false] at h
  rcases h with rfl | rfl <;> rfl

/-! ## The buffers, from call to call -/

variable (m : (ℓ : Loc nD τ sig) → Buf (Elt F) ℓ)

def V0 (d : Dev nD) : Valuation τ sig (Elt F) := fun b => m (d, b)
/-- Before the first call. -/
def Va (d : Dev nD) : Valuation τ sig (Elt F) := StableHlo.after ops0 (V0 m d)
/-- What the SparseCores are given. -/
def G (d : Dev nD) : Ins F where
  fx := Va m d (Proc.devRef .tc main_v6)
  fs := Va m d (Proc.devRef .tc main_arg1)
  fw := Va m d (Proc.devRef .tc main_v1)
  fb := Va m d (Proc.devRef .tc main_v2)
/-- After the SparseCores. -/
def V1 (d : Dev nD) : Valuation τ sig (Elt F) :=
  Function.update (Function.update (Va m d) (Proc.devRef .tc main_v7_0) (accAll (G m d).fx (G m d).fs (G m d).fw (G m d).fb))
    (Proc.devRef .tc main_v7_1) (denAll (G m d).fx (G m d).fs (G m d).fw (G m d).fb)
/-- After the TensorCore's call. -/
def V2 (d : Dev nD) : Valuation τ sig (Elt F) :=
  Function.update (Function.update (V1 m d) (Proc.devRef .tc main_v8_0) (out4 (names (V1 m)) d)) (Proc.devRef .tc main_v8_1) (out5 (names (V1 m)) d)
def V3 (d : Dev nD) : Valuation τ sig (Elt F) := StableHlo.after ops1 (V2 m d)
/-- At the end. -/
def V4 (d : Dev nD) : Valuation τ sig (Elt F) := Function.update (V3 m d) (Proc.devRef .tc main_v11) (outR (names (V3 m)) d)

/-- An update of one buffer is not seen at another. -/
theorem upd_ne (V : Valuation τ sig (Elt F)) {r r' : Ref sig .tc} (x) (h : r' ≠ r) :
    Function.update V (Proc.devRef .tc r) x (Proc.devRef .tc r') = V (Proc.devRef .tc r') :=
  Function.update_of_ne (StableHlo.devRef_ne_of_ne h) _ _

theorem arg1_at (d : Dev nD) : Va m d (Proc.devRef .tc main_arg1) = m (sLoc d) := by
  unfold Va ops0
  after_results
  rfl

/-! ## The SparseCore call's operands -/

/-- The buffers the SparseCores read or write. -/
def scRefs : Finset (DevRef τ sig) :=
  {Proc.devRef .tc main_v6, Proc.devRef .tc main_arg1, Proc.devRef .tc main_v1, Proc.devRef .tc main_v2, Proc.devRef .tc main_v7_0, Proc.devRef .tc main_v7_1}

theorem scRefs_sub : scRefs ⊆ ucRefs := by
  intro b hb
  simp only [scRefs, Finset.mem_insert, Finset.mem_singleton] at hb
  rcases hb with rfl | rfl | rfl | rfl | rfl | rfl
  exacts [uc main_v6 rfl, uc main_arg1 rfl, uc main_v1 rfl, uc main_v2 rfl, uc main_v7_0 rfl, uc main_v7_1 rfl]

theorem held_sc (d : Dev nD) (V : Valuation τ sig (Elt F)) : (StableHlo.held (T d) scRefs V : sProp (MM F))
    = iprop((xLoc d ↦{fullShare} V (Proc.devRef .tc main_v6)) ∗ (sLoc d ↦{fullShare} V (Proc.devRef .tc main_arg1))
      ∗ (wLoc d ↦{fullShare} V (Proc.devRef .tc main_v1)) ∗ (bLoc d ↦{fullShare} V (Proc.devRef .tc main_v2))
      ∗ (aLoc d ↦{fullShare} V (Proc.devRef .tc main_v7_0)) ∗ dLoc d ↦{fullShare} V (Proc.devRef .tc main_v7_1)) := by
  unfold StableHlo.held scRefs
  rw [SparseCore.bigSep_insert' (by decide), SparseCore.bigSep_insert' (by decide), SparseCore.bigSep_insert' (by decide), SparseCore.bigSep_insert' (by decide),
    SparseCore.bigSep_insert' (by decide), bigSep_singleton]

/-- Each tile's share of what is read, and its rows of what is written. -/
abbrev tilePart (d : Dev nD) (fx : S12800000.Idx → F .f32) (fs : S100000.Idx → BitVec 32) (fw : S128.Idx → F .f32) (fb : S16.Idx → F .f32)
    (fa : S8192x128.Idx → F .f32) (fd : S8192x16.Idx → F .f32) (c : Fin 2) (s : Fin 16) : sProp (MM F) :=
  iprop((xLoc d ↦{shq c s} fx) ∗ (sLoc d ↦{shq c s} fs) ∗ (wLoc d ↦{shq c s} fw) ∗ (bLoc d ↦{shq c s} fb)
    ∗ (aLoc d ↦[aSet (c, s)]{fullShare} fa) ∗ dLoc d ↦[dSet (c, s)]{fullShare} fd)

theorem six_by_tile (d : Dev nD) (fx : S12800000.Idx → F .f32) (fs : S100000.Idx → BitVec 32) (fw : S128.Idx → F .f32) (fb : S16.Idx → F .f32)
    (fa : S8192x128.Idx → F .f32) (fd : S8192x16.Idx → F .f32) :
    (iprop((xLoc d ↦{fullShare} fx) ∗ (sLoc d ↦{fullShare} fs) ∗ (wLoc d ↦{fullShare} fw) ∗ (bLoc d ↦{fullShare} fb)
      ∗ (aLoc d ↦{fullShare} fa) ∗ dLoc d ↦{fullShare} fd) : sProp (MM F))
      = bigSep Finset.univ fun c : Fin 2 => bigSep Finset.univ fun s : Fin 16 => tilePart d fx fs fw fb fa fd c s := by
  unfold tilePart
  simp only [bigSep_sep']
  rw [by_tile (ℓ := xLoc d), by_tile (ℓ := sLoc d), by_tile (ℓ := wLoc d), by_tile (ℓ := bLoc d), a_by_tile, d_by_tile]

theorem tile_given (G : Dev nD → Ins F) (d : Dev nD) (fa : S8192x128.Idx → F .f32) (fd : S8192x16.Idx → F .f32) (c : Fin 2) (s : Fin 16) :
    tilePart d (G d).fx (G d).fs (G d).fw (G d).fb fa fd c s ⊢ given G d c s := by
  iintro ⟨Hx, Hs, Hw, Hb, Ha, Hd⟩
  isplitl [Hx Hs Hw Hb]
  · isplitl [Hx]; · iexact Hx
    isplitl [Hs]; · iexact Hs
    isplitl [Hw]; · iexact Hw
    iexact Hb
  isplitl [Ha]
  · iexists ((aRows (crd c s)).view.read (Elt F) fa)
    unfold holds
    iexists fa; isplitr; · ipureintro; rfl
    iexact Ha
  · iexists ((dRows (crd c s)).view.read (Elt F) fd)
    unfold holds
    iexists fd; isplitr; · ipureintro; rfl
    iexact Hd

theorem brought_tile (G : Dev nD → Ins F) (d : Dev nD) (c : Fin 2) (s : Fin 16) :
    brought G d c s ⊢ tilePart d (G d).fx (G d).fs (G d).fw (G d).fb (accAll (G d).fx (G d).fs (G d).fw (G d).fb) (denAll (G d).fx (G d).fs (G d).fw (G d).fb) c s := by
  iintro ⟨⟨Hx, Hs, Hw, Hb⟩, Ha, Hd⟩
  isplitl [Hx]; · iexact Hx
  isplitl [Hs]; · iexact Hs
  isplitl [Hw]; · iexact Hw
  isplitl [Hb]; · iexact Hb
  isplitl [Ha]; · iexact Ha
  iexact Hd

/-- The SparseCores' operands, out of the host's buffers. -/
theorem sc_start (d : Dev nD) : (StableHlo.held (T d) scRefs (Va m d) : sProp (MM F))
    ⊢ bigSep Finset.univ fun c : Fin ((K (F := F)).nCore 0) => (P (G m)).st 0 d c := by
  rw [held_sc]
  refine (ofEq (six_by_tile d (G m d).fx (G m d).fs (G m d).fw (G m d).fb _ _)).trans ?_
  exact bigSep_mono fun c _ => bigSep_mono fun s _ => tile_given (G m) d _ _ c s

/-- And back. -/
theorem sc_end (d : Dev nD) : (bigSep Finset.univ fun c : Fin ((K (F := F)).nCore 0) => (P (G m)).dn 0 d c)
    ⊢ (StableHlo.held (T d) scRefs (V1 m d) : sProp (MM F)) := by
  rw [held_sc]
  have h : V1 m d (Proc.devRef .tc main_v7_1) = denAll (G m d).fx (G m d).fs (G m d).fw (G m d).fb := Function.update_self _ _ _
  have h' : V1 m d (Proc.devRef .tc main_v7_0) = accAll (G m d).fx (G m d).fs (G m d).fw (G m d).fb :=
    (upd_ne _ _ (by decide)).trans (Function.update_self _ _ _)
  have e (r : Ref sig .tc) (h1 : r ≠ main_v7_0) (h2 : r ≠ main_v7_1) : V1 m d (Proc.devRef .tc r) = Va m d (Proc.devRef .tc r) :=
    (upd_ne _ _ h2).trans (upd_ne _ _ h1)
  rw [h, h', e main_v6 (by decide) (by decide), e main_arg1 (by decide) (by decide), e main_v1 (by decide) (by decide), e main_v2 (by decide) (by decide)]
  refine BI.Entails.trans ?_ (ofEq (six_by_tile d (G m d).fx (G m d).fs (G m d).fw (G m d).fb _ _).symm)
  refine bigSep_mono fun c _ => ?_
  show (bigSep Finset.univ fun s : Fin 16 => brought (G m) d (Fin.cast nCore_zero c) s) ⊢ _
  exact bigSep_mono fun s _ => brought_tile (G m) d (Fin.cast nCore_zero c) s

theorem held_rest (d : Dev nD) : (StableHlo.held (T d) (ucRefs \ scRefs) (Va m d) : sProp (MM F)) = StableHlo.held (T d) (ucRefs \ scRefs) (V1 m d) :=
  StableHlo.held_congr _ fun b hb => by
    have hb' := (Finset.mem_sdiff.mp hb).2
    simp only [scRefs, Finset.mem_insert, Finset.mem_singleton, not_or] at hb'
    exact ((Function.update_of_ne hb'.2.2.2.2.2 _ _).trans (Function.update_of_ne hb'.2.2.2.2.1 _ _)).symm

/-! ## The pipelines' ghost state -/

/-- No pipeline is handed a table. -/
def adm0 : (p : Fin 2) → (pcfgs (F := F) p).Adm
  | ⟨0, _⟩ => ⟨fun k => k.elim0, trivial⟩
  | ⟨1, _⟩ => ⟨fun k => k.elim0, trivial⟩

theorem inj0 : Function.Injective (Pipeline.cellOf (nD := nD) (τ := τ) (Pipeline.pin (pcfgs (F := F)) adm0)) := cellOf_inj

/-- The launch's ghost state: the handshakes', the two pipelines', and none of the transfers'. -/
def u₀ : UU := (Rounds.initOf (K (F := F)).hsCells (K (F := F)).hsToks,
  (Rounds.initOf (Pipeline.cells (Pipeline.pin (pcfgs (F := F)) adm0) inj0) (Pipeline.launchToks (Pipeline.pin (pcfgs (F := F)) adm0) inj0), 1))

/-- A device's part of the pipelines' state. -/
abbrev pipes (d : Dev nD) : sProp (MM F) :=
  iprop((Pipeline.cellsGhost (Pipeline.pin (pcfgs (F := F)) adm0) EP 0 d ∗ Pipeline.toksInit (Pipeline.pin (pcfgs (F := F)) adm0) EP 0 d)
    ∗ (Pipeline.cellsGhost (Pipeline.pin (pcfgs (F := F)) adm0) EP 1 d ∗ Pipeline.toksInit (Pipeline.pin (pcfgs (F := F)) adm0) EP 1 d))

theorem pipes_of : (bigSep Finset.univ fun d : Dev nD => iprop((bigSep Finset.univ fun p => Pipeline.cellsGhost (Pipeline.pin (pcfgs (F := F)) adm0) EP p d)
      ∗ bigSep Finset.univ fun p => Pipeline.toksInit (Pipeline.pin (pcfgs (F := F)) adm0) EP p d))
    ⊢ bigSep Finset.univ fun d : Dev nD => pipes (F := F) d := by
  refine bigSep_mono fun d _ => ?_
  rw [BI.bigSep_fin_two, BI.bigSep_fin_two]
  have h (A B C E : sProp (MM F)) : iprop((A ∗ B) ∗ C ∗ E) ⊢ iprop((A ∗ C) ∗ B ∗ E) := by
    iintro ⟨⟨A, B⟩, C, E⟩
    isplitl [A C]
    · isplitl [A] <;> iassumption
    · isplitl [B] <;> iassumption
  exact h _ _ _ _

theorem emps {I : Type} (s : Finset I) : (bigSep s fun _ => iprop(emp)) = (iprop(emp) : sProp (MM F)) := bigSep_emp_const s

theorem hu₀ (G : Dev nD → Ins F) : (ownU (u₀ (F := F)) : sProp (MM F))
    ⊢ |={Set.univ}=> iprop(BI.own (EH (Rounds.initOf (K (F := F)).hsCells (K (F := F)).hsToks)) ∗ (bigSep Finset.univ fun d : Dev nD => pipes d)
        ∗ bigSep Finset.univ fun thr : Thread nD τ => bigSep Finset.univ fun q : Fin 1 => (P G).x q thr) := by
  unfold u₀
  iintro Hu
  ihave H := (ownU_pair _ _) $$ Hu
  icases H with ⟨HH, HR⟩
  ihave HR2 := (own_pair_emb embR _ _) $$ HR
  icases HR2 with ⟨HR', -⟩
  imod (Pipeline.fund_ghost (Pipeline.pin (pcfgs (F := F)) adm0) EP inj0) $$ HR' with ⟨Hg, Ht⟩
  imodintro
  isplitl [HH]; · iexact HH
  isplitl [Hg Ht]
  · ihave H2 := (ofEq (bigSep_sep' Finset.univ (fun d : Dev nD => bigSep Finset.univ fun p => Pipeline.cellsGhost (Pipeline.pin (pcfgs (F := F)) adm0) EP p d)
      (fun d : Dev nD => bigSep Finset.univ fun p => Pipeline.toksInit (Pipeline.pin (pcfgs (F := F)) adm0) EP p d)).symm) $$ [Hg Ht]
    · isplitl [Hg] <;> iassumption
    iapply (pipes_of (F := F)) $$ H2
  rw [show (bigSep Finset.univ fun thr : Thread nD τ => bigSep Finset.univ fun q : Fin 1 => (P (F := F) G).x q thr) = bigSep Finset.univ fun _ => iprop(emp) from
    bigSep_congr fun _ _ => bigSep_univ_of_subsingleton (0 : Fin 1), emps]
  iempintro

/-! ## The TensorCore's own state after the SparseCore call -/

/-- What is left of it besides the owing. -/
def tcRest (d : Dev nD) : sProp (MM F) :=
  iprop(Rounds.atPos EH ((K (F := F)).doneCell d) 1 ∅ 0 ∗ Rounds.reached EH ((K (F := F)).doneCell d) 1
    ∗ (bigSep Finset.univ fun c : Fin τ.nSC => Rounds.reached EH ((K (F := F)).startCell d c) ((K (F := F)).sRank c 1))
    ∗ bigSep (SparseCore.Cfg.callsFrom 1) fun q : Fin 1 => bigSep Finset.univ fun c : Fin ((K (F := F)).nCore q) =>
        iprop(Rounds.dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tc_open (d : Dev nD) : ((K (F := F)).tcSt EH d 1 : sProp (MM F)) ⊢ iprop((∃ W, owes (T d) (0 : CellTallies nD τ sig (HIx 1)) W) ∗ tcRest d) := by
  unfold SparseCore.Cfg.tcSt tcRest
  rw [(K (F := F)).Otc_end d (le_refl 1)]
  iintro ⟨⟨%W, -, HO⟩, H⟩
  isplitl [HO]; · iexists W; iexact HO
  iexact H

theorem tc_close (d : Dev nD) : iprop((∃ W, owes (T d) (0 : CellTallies nD τ sig (HIx 1)) W) ∗ tcRest d) ⊢ ((K (F := F)).tcSt EH d 1 : sProp (MM F)) := by
  unfold SparseCore.Cfg.tcSt tcRest
  rw [(K (F := F)).Otc_end d (le_refl 1)]
  iintro ⟨⟨%W, HO⟩, H⟩
  isplitl [HO]
  · iexists W; isplitr
    · ipureintro
      intro p _
      obtain ⟨sm, ι⟩ := p
      show (K (F := F)).lev (T d, sm) ι ≤ 8
      rcases ι with _ | j
      · rw [SparseCore.Cfg.lev_none]; exact Nat.zero_le _
      · obtain rfl : j = 0 := Subsingleton.elim _ _
        exact ((K (F := F)).lev_some_le (T d, sm) 0).trans (by decide)
    iexact HO
  iexact H

end Cert.Tile
-- ==== Proof.Main.lean ====
module

public import proofs.«01_k».proof.Proof.Handshake
public import proofs.«01_k».proof.Proof.Host

@[expose] public section

noncomputable section

namespace Cert.Tile

open Cert.KernelIdeal Cert.KernelIdeal.Gen
open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

variable {F : FTy → Type} [FloatOps F]

/-! ## A TensorCore call, of the whole program -/

theorem lift_eq (p : Fin 2) : (Prog.lift (.customCall (SparseCore.inner (Pipeline.entry p)) ()) : Prog (TpuEff nD τ sig (Elt F) (SparseCore.Sig (Pipeline.Sig Λ₀ (Fin 2) fun p => (pcfgs (F := F) p).Adm) 1) .tc) PUnit)
   = SparseCore.liftProg (.op (.customCall (Pipeline.entry p) ()) fun _ => .ret ⟨⟩) := rfl

theorem wp_lifted (d : Dev nD) (Φ : PUnit → sProp (MM F)) (q : Prog (TpuEff nD τ sig (Elt F) (ΛP (F := F)) .tc) PUnit) :
   wp frame (wpE (D (F := F)) 𝒱 (SparseCore.T d) none) Set.univ q Φ
      ⊢ wp frame (wpE ((K (F := F)).defs (D (F := F))) 𝒱 (SparseCore.T d) none) Set.univ (SparseCore.liftProg q) Φ := by
  have h := (K (F := F)).wp_liftProg (D (F := F)) 𝒱 (SparseCore.T d) (Name := ℕ) (U := UU) (N := 1) Set.univ none q Φ
  exact h

theorem wp_call (p : Fin 2) (d : Dev nD) (Φ : PUnit → sProp (MM F)) :
   wp frame (wpE (D (F := F)) 𝒱 (SparseCore.T d) none) Set.univ (.op (.customCall (Pipeline.entry p) ()) fun _ => .ret ⟨⟩) Φ
      ⊢ wp frame (wpE ((K (F := F)).defs (D (F := F))) 𝒱 (SparseCore.T d) none) Set.univ (Prog.lift (.customCall (SparseCore.inner (Pipeline.entry p)) ())) Φ := by
  rw [lift_eq]
  exact wp_lifted d Φ _

set_option backward.isDefEq.respectTransparency.types false in
set_option maxHeartbeats 1000000 in
theorem wp_entry {pdats : (p : Fin 2) → (c : Dev nD) → Dat τ (Elt F) (HIx 1) ℕ UU ℕ (Pipeline.pin (pcfgs (F := F)) adm0 p) c} {p : Fin 2}
    (R : Pipeline.RegionSeg (pcfgs (F := F)) adm0 pdats (none : HIx 1) defs₀ 𝒱₀ (K (F := F)).L (K (F := F)).lev p) (d : Dev nD) (Φ : PUnit → sProp (MM F)) :
    iprop((iprop(boundary (SparseCore.T d) ∗ R.post d) -∗ wp frame (wpE (D (F := F)) 𝒱 (SparseCore.T d) none) Set.univ (.ret ⟨⟩) Φ) ∗ boundary (SparseCore.T d) ∗ R.pre d ∗ levAts (K (F := F)).L (K (F := F)).lev
        ∗ Pipeline.cellsGhost (Pipeline.pin (pcfgs (F := F)) adm0) EP p d ∗ Pipeline.toksInit (Pipeline.pin (pcfgs (F := F)) adm0) EP p d)
      ⊢ wp frame (wpE (D (F := F)) 𝒱 (SparseCore.T d) none) Set.univ (.op (.customCall (Pipeline.entry p) ()) fun _ => .ret ⟨⟩) Φ :=
   Pipeline.RegionSeg.wp (pcfgs (F := F)) adm0 pdats (none : HIx 1) inj0 EP defs₀ 𝒱₀ (K (F := F)).L (K (F := F)).lev R d none
    (fun _ h => absurd h (by simp)) (fun _ => .ret ⟨⟩) Φ

theorem region_call {pdats : (p : Fin 2) → (c : Dev nD) → Dat τ (Elt F) (HIx 1) ℕ UU ℕ (Pipeline.pin (pcfgs (F := F)) adm0 p) c} {p : Fin 2}
    (R : Pipeline.RegionSeg (pcfgs (F := F)) adm0 pdats (none : HIx 1) defs₀ 𝒱₀ (K (F := F)).L (K (F := F)).lev p) (d : Dev nD) (Φ : PUnit → sProp (MM F)) :
    iprop((iprop(boundary (SparseCore.T d) ∗ R.post d) -∗ Φ ⟨⟩) ∗ boundary (SparseCore.T d) ∗ R.pre d ∗ levAts (K (F := F)).L (K (F := F)).lev
        ∗ Pipeline.cellsGhost (Pipeline.pin (pcfgs (F := F)) adm0) EP p d ∗ Pipeline.toksInit (Pipeline.pin (pcfgs (F := F)) adm0) EP p d)
      ⊢ wp frame (wpE ((K (F := F)).defs (D (F := F))) 𝒱 (SparseCore.T d) none) Set.univ (Prog.lift (.customCall (SparseCore.inner (Pipeline.entry p)) ())) Φ := by
  have hw : iprop(iprop(boundary (SparseCore.T d) ∗ R.post d) -∗ Φ ⟨⟩)
      ⊢ iprop(iprop(boundary (SparseCore.T d) ∗ R.post d) -∗ wp frame (wpE (D (F := F)) 𝒱 (SparseCore.T d) none) Set.univ (.ret ⟨⟩) Φ) := by
    rw [wp_ret]
    iintro Hk H
    imodintro
    iapply Hk; iexact H
  exact (sep_mono_left hw).trans ((wp_entry R d Φ).trans (wp_call p d Φ))

variable (m : (ℓ : Loc nD τ sig) → Buf (Elt F) ℓ)

/-! ## @main -/

theorem v2_at4 (c : Dev nD) : names (V2 m) c main_v8_0 = out4 (names (V1 m)) c := (upd_ne _ _ (by decide)).trans (Function.update_self _ _ _)
theorem v2_at5 (c : Dev nD) : names (V2 m) c main_v8_1 = out5 (names (V1 m)) c := Function.update_self _ _ _
theorem v2_ne (c : Dev nD) (b : Ref sig .tc) (h : b ≠ main_v8_0) (h' : b ≠ main_v8_1) : names (V2 m) c b = names (V1 m) c b :=
  (upd_ne _ _ h').trans (upd_ne _ _ h)
theorem v4_at4 (c : Dev nD) : names (V4 m) c main_v11 = outR (names (V3 m)) c := Function.update_self _ _ _
theorem v4_ne (c : Dev nD) (b : Ref sig .tc) (h : b ≠ main_v11) : names (V4 m) c b = names (V3 m) c b := upd_ne _ _ h

variable (ρ : Dev nD → PrngReg)

theorem hmain (κ : GSem nD τ sig → ℕ) (d : Dev nD) :
    iprop((K (F := F)).ctx EH (P (G m)) κ ∗ (K (F := F)).tcSt EH d 0 ∗ (K (F := F)).tcRes m ρ d ∗ pipes d)
      ⊢ wp frame (wpE ((K (F := F)).defs (D (F := F))) 𝒱 (SparseCore.T d) none) Set.univ (main d)
          fun _ => iprop((K (F := F)).tcSt EH d 1 ∗ heldU d (V4 m d) ∗ (K (F := F)).tcEnd d) := by
  have hbufs : (unscopedBufs d (fun b => m ((SparseCore.T d).loc b)) : sProp (MM F)) = heldU d (V0 m d) := unscopedBufs_held d (V0 m)
  unfold SparseCore.Cfg.tcRes SparseCore.Cfg.tcEnd
  rw [hbufs, main_eq]
  iintro ⟨#Hctx, Hst, ⟨Hb, Hbufs, Hts, -⟩, ⟨Hg0, Ht0⟩, ⟨Hg1, Ht1⟩⟩
  ihave #Hlev := (SparseCore.Cfg.ctx_levAts κ) $$ Hctx
  iapply (StableHlo.wp_seq (defs := (K (F := F)).defs (D (F := F))) 𝒱 none Set.univ d ucRefs _ ops0 ops0_sub ops0_fresh (V0 m d)) $$ [Hb Hbufs]
  · isplitl [Hb] <;> iassumption
  iintro ⟨Hb, Hbufs⟩
  rw [wp_bind]
  ihave H := (show (StableHlo.held (d.tc : Thread nD τ) ucRefs (StableHlo.after ops0 (V0 m d)) : sProp (MM F))
    ⊢ iprop(StableHlo.held (SparseCore.T d) scRefs (Va m d) ∗ StableHlo.held (SparseCore.T d) (ucRefs \ scRefs) (Va m d))
    from ofEq (StableHlo.held_sub_split (SparseCore.T d) scRefs_sub (Va m d))) $$ Hbufs
  icases H with ⟨Hsc, Hrest⟩
  iapply ((K (F := F)).wp_run (D (F := F)) 𝒱 (EH := EH) (P := P (G m)) κ d 0)
  isplitr; · iexact Hctx
  isplitl [Hst]; · iexact Hst
  isplitl [Hsc]; · iapply (sc_start m d); iexact Hsc
  iintro ⟨Hst, Hdn⟩
  ihave Hsc := (sc_end m d) $$ Hdn
  ihave Hrest' := (ofEq (held_rest m d)) $$ Hrest
  ihave Hbufs := (ofEq (StableHlo.held_sub_split (SparseCore.T d) scRefs_sub (V1 m d)).symm) $$ [Hsc Hrest']
  · isplitl [Hsc] <;> iassumption
  ihave Hst' := (show ((K (F := F)).tcSt EH d ((0 : Fin 1).val + 1) : sProp (MM F))
    ⊢ iprop((∃ W, owes (SparseCore.T d) (0 : CellTallies nD τ sig (HIx 1)) W) ∗ tcRest d) from tc_open d) $$ Hst
  icases Hst' with ⟨HO, Hst⟩
  rw [wp_bind]
  iapply (region_call (reg1 (names (V1 m)) adm0 (names (V2 m)) (fun _ => iprop(emp)) (v2_at4 m) (v2_at5 m) (v2_ne m)) d _)
  isplitr [Hb Hbufs HO Hg0 Ht0]
  · iintro ⟨Hb, Hpost⟩
    ihave Hpost' := (show (reg1 (names (V1 m)) adm0 (names (V2 m)) (fun _ => iprop(emp)) (v2_at4 m) (v2_at5 m) (v2_ne m)).post d
      ⊢ iprop(unscopedBufs d (names (V2 m) d) ∗ emp ∗ ∃ W, owes (SparseCore.T d) (0 : CellTallies nD τ sig (HIx 1)) W) from .rfl) $$ Hpost
    icases Hpost' with ⟨Hbufs, -, HO⟩
    ihave Hbufs' := (ofEq (unscopedBufs_held d (V2 m))) $$ Hbufs
    iapply (StableHlo.wp_seq (defs := (K (F := F)).defs (D (F := F))) 𝒱 none Set.univ d ucRefs _ ops1 ops1_sub ops1_fresh (V2 m d)) $$ [Hb Hbufs']
    · isplitl [Hb] <;> iassumption
    iintro ⟨Hb, Hbufs⟩
    ihave Hbufs' := (show (StableHlo.held (d.tc : Thread nD τ) ucRefs (StableHlo.after ops1 (V2 m d)) : sProp (MM F)) ⊢ unscopedBufs d (names (V3 m) d)
      from ofEq (unscopedBufs_held d (V3 m)).symm) $$ Hbufs
    iapply (region_call (reg2 (names (V3 m)) adm0 (names (V4 m)) (fun _ => iprop(emp)) (v4_at4 m) (v4_ne m)) d _)
    isplitr [Hb Hbufs' HO Hg1 Ht1]
    · iintro ⟨Hb, Hpost⟩
      ihave Hpost' := (show (reg2 (names (V3 m)) adm0 (names (V4 m)) (fun _ => iprop(emp)) (v4_at4 m) (v4_ne m)).post d
        ⊢ iprop(unscopedBufs d (names (V4 m) d) ∗ emp ∗ ∃ W, owes (SparseCore.T d) (0 : CellTallies nD τ sig (HIx 1)) W) from .rfl) $$ Hpost
      icases Hpost' with ⟨Hbufs, -, HO⟩
      ihave Hbufs' := (ofEq (unscopedBufs_held d (V4 m))) $$ Hbufs
      isplitl [Hst HO]
      · iapply (tc_close d); isplitl [HO] <;> iassumption
      isplitl [Hbufs']; · iexact Hbufs'
      isplitl [Hb] <;> iassumption
    isplitl [Hb]; · iexact Hb
    isplitl [Hbufs' HO]
    · iapply (show iprop(unscopedBufs d (names (V3 m) d) ∗ emp ∗ ∃ W, owes (SparseCore.T d) (0 : CellTallies nD τ sig (HIx 1)) W)
        ⊢ (reg2 (names (V3 m)) adm0 (names (V4 m)) (fun _ => iprop(emp)) (v4_at4 m) (v4_ne m)).pre d from .rfl)
      isplitl [Hbufs']; · iexact Hbufs'
      isplitr; · iempintro
      iexact HO
    isplitr; · iexact Hlev
    isplitl [Hg1] <;> iassumption
  isplitl [Hb]; · iexact Hb
  isplitl [Hbufs HO]
  · ihave Hbufs' := (ofEq (unscopedBufs_held d (V1 m)).symm) $$ Hbufs
    iapply (show iprop(unscopedBufs d (names (V1 m) d) ∗ emp ∗ ∃ W, owes (SparseCore.T d) (0 : CellTallies nD τ sig (HIx 1)) W)
      ⊢ (reg1 (names (V1 m)) adm0 (names (V2 m)) (fun _ => iprop(emp)) (v2_at4 m) (v2_at5 m) (v2_ne m)).pre d from .rfl)
    isplitl [Hbufs']; · iexact Hbufs'
    isplitr; · iempintro
    iexact HO
  isplitr; · iexact Hlev
  isplitl [Hg0] <;> iassumption

/-! ## The run -/

abbrev fiveRefs : List (Ref sig .tc) := [main_arg0, main_arg1, main_arg2, main_arg3, main_v11]

/-- What the final memory holds of a device: each of the buffers read or returned, at its last contents. -/
def fq (d : Dev nD) (s' : Phys nD τ sig (Elt F)) : Prop := ∀ b ∈ ucRefs, s'.mem.mem (d, b) = V4 m d b

theorem hfin (d : Dev nD) (s' : Phys nD τ sig (Elt F)) : iprop(heldU d (V4 m d) ∗ SI s') ⊢ (⌜fq m d s'⌝ : sProp (MM F)) := by
  unfold heldU StableHlo.held
  suffices h : ∀ S : Finset (DevRef τ sig), iprop((bigSep S fun b => ((d, b) : Loc nD τ sig) ↦{fullShare} V4 m d b) ∗ SI s')
      ⊢ (⌜∀ b ∈ S, s'.mem.mem (d, b) = V4 m d b⌝ : sProp (MM F)) from h ucRefs
  intro S
  induction S using Finset.induction_on with
  | empty => exact BI.pure_intro fun b hb => absurd hb (Finset.notMem_empty b)
  | insert a S ha ih =>
    rw [SparseCore.bigSep_insert' ha]
    iintro ⟨⟨Ha, HS⟩, HSI⟩
    ihave H := (persistent_entails_right (SI_pointsTo_agree (st := s') (ℓ := ((d, a) : Loc nD τ sig)) (I := Finset.univ) (q := fullShare) (f := V4 m d a))) $$ [HSI Ha]
    · isplitl [HSI] <;> iassumption
    icases H with ⟨%h1, HSI, -⟩
    ihave H := ih $$ [HS HSI]
    · isplitl [HS] <;> iassumption
    icases H with %h2
    ipureintro
    intro b hb
    rcases Finset.mem_insert.mp hb with rfl | hb
    · exact funext fun i => h1 i (Finset.mem_univ i)
    · exact h2 b hb

theorem run_main [∀ e, Nonempty (Elt F e)] (hin : ∀ d, InRange (m (sLoc d))) :
    θ_run (Cert.KernelIdeal.defs (F := F)) (Cert.KernelIdeal.threads (F := F)) ⟨m, fun _ => 0, ρ⟩
      (fun r => (∀ (d : Dev nD), ∀ b ∈ ucRefs, r.2.mem (d, b) = V4 m d b) ∧ r.2.sem = fun _ => 0) :=
  SparseCore.Cfg.θ_run_sc_quiescent (K := K (F := F)) (D := D (F := F)) (𝒱 := 𝒱) (EH := EH) (P := P (G m)) (A := ∅) facts v₀
    (fun q hq => match q with | 0 => nomatch hq)
    (fun q _ => match q with | 0 => tileObl (G m) facts (fun d => (show (G m d).fs = m (sLoc d) from arg1_at m d) ▸ hin d))
    (fun q _ => match q with | 0 => SparseCore.Cfg.VecSplit.of_plain (vecSplit (G m)))
    m ρ main (fun d => pipes d) (fun d => heldU d (V4 m d)) (u₀ (F := F)) (sep_elim_left.trans (hu₀ (G m))) (hmain m ρ) (fq m) (hfin m) _ (fun _ h hz => ⟨h, hz⟩)

end Cert.Tile
-- ==== Proof.Same.lean ====
module

public import proofs.«01_k».proof.Defs
public import proofs.«01_k».proof.Proof.Gen.Kernel
public import proofs.«01_k».proof.Proof.Main

/-!
The program as printed and the program printed for the ideal instance are the same text, so what is proved of one over
any floats holds of the other over the machine's.
-/

@[expose] public section

noncomputable section

namespace Cert.Tile

open Idealize.ShloMosaic Idealize.SL.Sem

set_option maxRecDepth 100000
set_option maxHeartbeats 4000000

/-- The three kernels' functions are those of the program read at the ideal instance. -/
theorem tile_same : @Cert.Kernel.cc0__sc_body Bits _ (Cert.Kernel.Gen.facts) = @Cert.KernelIdeal.cc0__sc_body Bits _ (Cert.KernelIdeal.Gen.facts) := rfl
theorem call_same : @Cert.Kernel.cc1__tc_body Bits _ (Cert.Kernel.Gen.facts) = @Cert.KernelIdeal.cc1__tc_body Bits _ (Cert.KernelIdeal.Gen.facts) := rfl
theorem last_same : @Cert.Kernel.cc2__ep_body Bits _ (Cert.Kernel.Gen.facts) = @Cert.KernelIdeal.cc2__ep_body Bits _ (Cert.KernelIdeal.Gen.facts) := rfl
theorem table_same : @Cert.Kernel.defs₀ Bits _ (Cert.Kernel.Gen.facts) = @Cert.KernelIdeal.defs₀ Bits _ (Cert.KernelIdeal.Gen.facts) := by
  funext c l a
  match c, l, a with
  | .scVector c s, 0, _ => rfl
  | .tc, 1, (t, s) => rfl
  | .tc, 2, (t, s) => rfl
  | .tc, 0, _ => rfl
  | .scVector c s, 1, _ => rfl
  | .scVector c s, 2, _ => rfl
  | .scScalar c, 0, _ => rfl
  | .scScalar c, 1, _ => rfl
  | .scScalar c, 2, _ => rfl
theorem defs_eq : @Cert.Kernel.defs Bits _ (Cert.Kernel.Gen.facts) = @Cert.KernelIdeal.defs Bits _ (Cert.KernelIdeal.Gen.facts) :=
  congrArg (fun D => (Cert.KernelIdeal.sc (F := Bits)).defs (Pipeline.defs (Cert.KernelIdeal.pcfgs (F := Bits)) D)) table_same

theorem run_kernel (m : (ℓ : Loc Cert.Kernel.nD Cert.Kernel.τ Cert.Kernel.sig) → Buf (Elt Bits) ℓ)
    (ρ : Dev Cert.Kernel.nD → PrngReg) (hin : ∀ d, InRange (m (sLoc d))) :
    θ_run (Cert.Kernel.defs (F := Bits)) (Cert.Kernel.threads (F := Bits)) ⟨m, fun _ => 0, ρ⟩
      (fun r => (∀ (d : Dev Cert.Kernel.nD), ∀ b ∈ ucRefs, r.2.mem (d, b) = V4 (F := Bits) m d b)
        ∧ r.2.sem = fun _ => 0) := by
  rw [defs_eq]
  exact run_main (F := Bits) m ρ hin
end Cert.Tile
end
end
-- ==== Proof.Frames.lean ====
module

public import proofs.«01_k».proof.Defs
public import proofs.«01_k».proof.Proof.Same
public import proofs.«01_k».proof.Proof.Gen.ReferenceIdeal
public import proofs.«01_k».proof.Proof.Gen.ReferenceIdeal.Run
public import proofs.«01_k».proof.Proof.Gen.Pre_in_segments
public import proofs.«01_k».proof.Proof.Gen.Pre_in_segments_moderate
public import Idealize.ShloMosaic.Lib.ReduceAll

/-!
The programs' runs end, and leave the arguments as they were.
-/

@[expose] public section

noncomputable section

namespace Cert.Tile

open Idealize.ShloMosaic Idealize.SL.Sem
open Cert.KernelIdeal Cert.KernelIdeal.Facts₀ Cert.KernelIdeal.Facts

variable {F : FTy → Type} [FloatOps F]

/-- A word that is at least 0 and below 256 when read signed is below 256. -/
theorem below (v : BitVec 32) (h : IntOp.andi (IntOp.cmpi .sge v 0#32) (IntOp.cmpi .slt v 256#32) = 1#1) : v.toNat < 256 := by
  obtain ⟨h0, h1⟩ := IntOp.andi_eq_one.1 h
  have h0 := IntOp.cmpi_sge.1 h0
  have h1 := IntOp.cmpi_slt.1 h1
  rw [BitVec.toInt_eq_toNat_cond] at h0 h1
  simp only [BitVec.toInt_eq_toNat_cond, BitVec.toNat_ofNat, Nat.reducePow, Nat.reduceMod] at h0 h1
  omega

theorem range_of (x : FVec F Cert.Pre_in_segments.S100000x128 .f32) (s : IVec S100000 32) (w : FVec F Cert.Pre_in_segments.S1x128 .f32)
    (b : FVec F Cert.Pre_in_segments.S1 .f32) (h : Cert.Pre_in_segments.fn x s w b = fun _ => 1#1) : InRange s := fun y =>
  below _ (Host.reduce_andi_all _ _ _ _ _ (congrFun h (fun a => a.elim0)) y)

theorem moderate_range (x : FVec F Cert.Pre_in_segments_moderate.S100000x128 .f32) (s : IVec S100000 32) (w : FVec F Cert.Pre_in_segments_moderate.S1x128 .f32)
    (b : FVec F Cert.Pre_in_segments_moderate.S1 .f32) (h : Cert.Pre_in_segments_moderate.fn x s w b = fun _ => 1#1) : InRange s := fun y =>
  below _ (Host.reduce_andi_all _ _ _ _ _ (IntOp.andi_eq_one.1 (IntOp.andi_eq_one.1 (congrFun h (fun a => a.elim0))).1).1 y)

variable (m : (ℓ : Loc nD τ sig) → Buf (Elt F) ℓ)

/-- An argument the host's operations do not write, at the end. -/
theorem kept (d : Dev nD) (r : Ref sig .tc) (h11 : r ≠ main_v11) (h80 : r ≠ main_v8_0) (h81 : r ≠ main_v8_1) (h70 : r ≠ main_v7_0) (h71 : r ≠ main_v7_1)
    (h9 : r ≠ main_v9) (h10 : r ≠ main_v10) : V4 m d (Proc.devRef .tc r) = Va m d (Proc.devRef .tc r) := by
  refine (upd_ne _ _ h11).trans ?_
  have e : V3 m d (Proc.devRef .tc r) = V2 m d (Proc.devRef .tc r) :=
    StableHlo.after_of_forall_not_mem ops1 _ (by
      intro op h hb
      simp only [ops1, List.mem_cons, List.not_mem_nil, or_false] at h
      rcases h with rfl | rfl
      · exact StableHlo.devRef_ne_of_ne h9 (Finset.mem_singleton.mp hb)
      · exact StableHlo.devRef_ne_of_ne h10 (Finset.mem_singleton.mp hb))
  rw [e]
  exact (upd_ne _ _ h81).trans ((upd_ne _ _ h80).trans ((upd_ne _ _ h71).trans (upd_ne _ _ h70)))

theorem end0 (d : Dev nD) : V4 m d (Proc.devRef .tc main_arg0) = m (d, Proc.devRef .tc main_arg0) :=
  (kept m d main_arg0 (by decide) (by decide) (by decide) (by decide) (by decide) (by decide) (by decide)).trans (by unfold Va ops0; after_results; rfl)
theorem end1 (d : Dev nD) : V4 m d (Proc.devRef .tc main_arg1) = m (d, Proc.devRef .tc main_arg1) :=
  (kept m d main_arg1 (by decide) (by decide) (by decide) (by decide) (by decide) (by decide) (by decide)).trans (by unfold Va ops0; after_results; rfl)
theorem end2 (d : Dev nD) : V4 m d (Proc.devRef .tc main_arg2) = m (d, Proc.devRef .tc main_arg2) :=
  (kept m d main_arg2 (by decide) (by decide) (by decide) (by decide) (by decide) (by decide) (by decide)).trans (by unfold Va ops0; after_results; rfl)
theorem end3 (d : Dev nD) : V4 m d (Proc.devRef .tc main_arg3) = m (d, Proc.devRef .tc main_arg3) :=
  (kept m d main_arg3 (by decide) (by decide) (by decide) (by decide) (by decide) (by decide) (by decide)).trans (by unfold Va ops0; after_results; rfl)

/-- What a run of the kernel leaves: its result and its arguments. -/
theorem run_args [∀ e, Nonempty (Elt F e)] (ρ : Dev nD → PrngReg) (hin : ∀ d, InRange (m (sLoc d))) :
    θ_run (Cert.KernelIdeal.defs (F := F)) (Cert.KernelIdeal.threads (F := F)) ⟨m, fun _ => 0, ρ⟩
      (fun r => (∀ c : Dev nD, r.2.mem ((SparseCore.T c).loc main_v11) = outR (names (V3 m)) c
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)
        ∧ r.2.mem ((SparseCore.T c).loc main_arg3) = m ((SparseCore.T c).loc main_arg3)) ∧ r.2.sem = fun _ => 0) :=
  (θ_run _ _ _).mono (fun _ h => ⟨fun c => ⟨(h.1 c _ (uc main_v11 rfl)).trans (v4_at4 m c), (h.1 c _ (uc main_arg0 rfl)).trans (end0 m c),
    (h.1 c _ (uc main_arg1 rfl)).trans (end1 m c), (h.1 c _ (uc main_arg2 rfl)).trans (end2 m c), (h.1 c _ (uc main_arg3 rfl)).trans (end3 m c)⟩, h.2⟩)
    (run_main m ρ hin)

theorem frame_kernel : Cert.quiescent_Kernel := fun m ρ hpre =>
  (θ_run Cert.Kernel.defs _ _).mono (fun _ h => ⟨fun c => ⟨(h.1 c _ (uc main_arg0 rfl)).trans (end0 (F := Bits) m c),
    (h.1 c _ (uc main_arg1 rfl)).trans (end1 (F := Bits) m c), (h.1 c _ (uc main_arg2 rfl)).trans (end2 (F := Bits) m c), (h.1 c _ (uc main_arg3 rfl)).trans (end3 (F := Bits) m c)⟩, h.2⟩)
    (run_kernel m ρ fun d => range_of _ _ _ _ (hpre d))

theorem frame_ideal : Cert.quiescent_KernelIdeal := fun m ρ hpre =>
  (θ_run Cert.KernelIdeal.defs _ _).mono (fun _ h => ⟨fun c => (h.1 c).2, h.2⟩) (run_args m ρ fun d => range_of _ _ _ _ (hpre d))

theorem frame_moderate : Cert.quiescent_KernelIdeal_pre_in_segments_moderate := fun m ρ hpre =>
  (θ_run Cert.KernelIdeal.defs _ _).mono (fun _ h => ⟨fun c => (h.1 c).2, h.2⟩) (run_args m ρ fun d => moderate_range _ _ _ _ (hpre d))

theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_ref_moderate : Cert.quiescent_ReferenceIdeal_pre_in_segments_moderate := fun m ρ _ =>
  frame_ref m ρ trivial

end Cert.Tile

end
-- ==== Proof.ValGate.lean ====
module

public import proofs.«01_k».proof.Proof.Launch
public import Idealize.ShloMosaic.Lib.Pointwise

/-!
The sums the kernel makes, as sums over the rows of the array, over the extended reals; and the tiles' parts of them.
-/

@[expose] public section

noncomputable section

namespace Cert.Tile

open Cert.KernelIdeal Cert.KernelIdeal.Gen
open Idealize.ShloMosaic
open scoped BigOperators

/-! ## The sums -/

/-- Row `n` of the array. -/
abbrev rowAt (n : ℕ) : Fin 100000 := ⟨n % 100000, Nat.mod_lt _ (by decide)⟩

section Spec

variable (x : S100000x128.Idx → EReal) (s : S100000.Idx → BitVec 32) (w : S1x128.Idx → EReal) (b : S1.Idx → EReal)

/-- The gate of row `n`. -/
def gateAt (n : ℕ) : EReal := (∑ d : Fin 128, x (ix2 (rowAt n) d) * w (ix2 0 d)) + b (ix1 0)

/-- The segment of row `n`. -/
def segAt (n : ℕ) : ℕ := (s (ix1 (rowAt n))).toNat

/-- Row `n`'s part of a segment's weighted sum. -/
def numTerm (r : ℕ) (d : Fin 128) (n : ℕ) : EReal :=
  if segAt s n = r then Ideal.exp (gateAt x w b n) * x (ix2 (rowAt n) d) else 0

/-- Row `n`'s part of a segment's sum of weights. -/
def denTerm (r : ℕ) (n : ℕ) : EReal := if segAt s n = r then Ideal.exp (gateAt x w b n) else 0

end Spec

/-- A sum over blocks is the sum over the rows. -/
theorem sum_blocks (f : ℕ → EReal) (n T R : ℕ) :
    ∑ t ∈ Finset.range T, ∑ r ∈ Finset.range R, f (n + R * t + r) = ∑ i ∈ Finset.range (R * T), f (n + i) := by
  induction T with
  | zero => simp
  | succ T ih =>
    rw [Finset.sum_range_succ, ih, Nat.mul_succ, Finset.sum_range_add]
    simp only [Nat.add_assoc]

/-! ## The gate of a row, in the sixteen lanes -/

theorem step8_lane (p : FVec Ideal S16 .f32) (k : Fin 16) : step8 p (ix1 k) = p (ix1 k) + p (ix1 ⟨(k.val ^^^ 8) % 16, Nat.mod_lt _ (by decide)⟩) := by
  unfold step8 xor8
  fin_cases k <;> pointwise
theorem step4_lane (p : FVec Ideal S16 .f32) (k : Fin 16) : step4 p (ix1 k) = p (ix1 k) + p (ix1 ⟨(k.val ^^^ 4) % 16, Nat.mod_lt _ (by decide)⟩) := by
  unfold step4 xor4
  fin_cases k <;> pointwise
theorem step2_lane (p : FVec Ideal S16 .f32) (k : Fin 16) : step2 p (ix1 k) = p (ix1 k) + p (ix1 ⟨(k.val ^^^ 2) % 16, Nat.mod_lt _ (by decide)⟩) := by
  unfold step2 xor2
  fin_cases k <;> pointwise
theorem step1_lane (p : FVec Ideal S16 .f32) (k : Fin 16) : step1 p (ix1 k) = p (ix1 k) + p (ix1 ⟨(k.val ^^^ 1) % 16, Nat.mod_lt _ (by decide)⟩) := by
  unfold step1 xor1
  fin_cases k <;> pointwise

/-- After the four exchanges every lane has the total of the sixteen. -/
theorem all_lanes (p : FVec Ideal S16 .f32) (k : Fin 16) : step1 (step2 (step4 (step8 p))) (ix1 k) = ∑ q : Fin 16, p (ix1 q) := by
  have e : ∑ q : Fin 16, p (ix1 q) = ∑ q ∈ Finset.range 16, p (ix1 ⟨q % 16, Nat.mod_lt _ (by decide)⟩) := by
    rw [Finset.sum_range]
    exact Finset.sum_congr rfl fun q _ => congrArg (fun i => p (ix1 i)) (Fin.ext (Nat.mod_eq_of_lt q.isLt).symm)
  rw [e]
  simp only [step1_lane, step2_lane, step4_lane, step8_lane, Finset.sum_range_succ, Finset.sum_range_zero, zero_add]
  fin_cases k <;> simp only [Nat.reduceXor, Nat.reduceMod] <;> ac_rfl

theorem gateSum_lane (w x : Fin 8 → FVec Ideal S16 .f32) (q : Fin 16) : gateSum w x (ix1 q) = ∑ j : Fin 8, x j (ix1 q) * w j (ix1 q) := by
  unfold gateSum
  pointwise
  rw [Fin.sum_univ_eight]
  ac_rfl

theorem gateExp_lane (w x : Fin 8 → FVec Ideal S16 .f32) (b : FVec Ideal S16 .f32) (k : Fin 16) :
    gateExp w b x (ix1 k) = Ideal.exp (b (ix1 k) + ∑ q : Fin 16, ∑ j : Fin 8, x j (ix1 q) * w j (ix1 q)) := by
  unfold gateExp
  show Ideal.exp (b (ix1 k) + step1 (step2 (step4 (step8 (gateSum w x)))) (ix1 k)) = _
  rw [all_lanes]
  simp only [gateSum_lane]

/-- Sixteen lanes of eight vectors are the hundred and twenty-eight columns. -/
theorem sum_lanes (f : ℕ → EReal) : ∑ q : Fin 16, ∑ j : Fin 8, f (16 * j.val + q.val) = ∑ d : Fin 128, f d.val := by
  rw [Finset.sum_comm, ← Fintype.sum_prod_type', ← Equiv.sum_comp (finProdFinEquiv (m := 8) (n := 16))]
  refine Finset.sum_congr rfl fun p _ => ?_
  congr 1
  simp [finProdFinEquiv, Nat.add_comm]

end Cert.Tile
-- ==== Proof.ValTile.lean ====
module

public import proofs.«01_k».proof.Proof.ValGate
public import Idealize.ShloMosaic.Lib.Pointwise.IndexBridge

/-! A tile's two sums, as sums over its rows. -/

@[expose] public section

noncomputable section

namespace Cert.Tile

open Cert.KernelIdeal Cert.KernelIdeal.Gen
open Idealize.ShloMosaic
open scoped BigOperators

section

variable (fx : S12800000.Idx → Ideal .f32) (fs : S100000.Idx → BitVec 32) (fw : S128.Idx → Ideal .f32) (fb : S16.Idx → Ideal .f32)

/-- A row's exponential, in a lane. -/
def rowExp (n : ℕ) (k : Fin 16) : EReal := gateExp (wvec fw) fb (xrow fx n) (ix1 k)

theorem z32_eq : (z32 : Ideal .f32) = (0 : EReal) := by
  show Ideal.ofBits .f32 0x00000000#32 = 0
  simp [Ideal.ofBits, Ideal.ieee]

theorem run_fst (n k : ℕ) (r : Fin 256) (d : Fin 128) :
    (runFrom fx fs (wvec fw) fb n k).1 (ix2 r d)
      = ∑ i ∈ Finset.range k, if segOf fs (n + i) = r.val then rowExp fx fw fb (n + i) ⟨d.val % 16, Nat.mod_lt _ (by decide)⟩
          * xrow fx (n + i) ⟨d.val / 16 % 8, Nat.mod_lt _ (by decide)⟩ (ix1 ⟨d.val % 16, Nat.mod_lt _ (by decide)⟩) else (0 : EReal) := by
  induction k with
  | zero => exact z32_eq
  | succ k ih =>
    rw [Finset.sum_range_succ, ← ih]
    show accStep _ _ _ _ _ = _
    unfold accStep
    by_cases h : r.val = segOf fs (n + k)
    · refine (if_pos h).trans ?_
      rw [if_pos h.symm]; rfl
    · refine (if_neg h).trans ?_
      rw [if_neg (Ne.symm h)]; exact (add_zero _).symm

theorem run_snd (n k : ℕ) (r : Fin 256) (l : Fin 16) :
    (runFrom fx fs (wvec fw) fb n k).2 (ix2 r l)
      = ∑ i ∈ Finset.range k, if segOf fs (n + i) = r.val then rowExp fx fw fb (n + i) ⟨l.val % 16, Nat.mod_lt _ (by decide)⟩ else (0 : EReal) := by
  induction k with
  | zero => exact z32_eq
  | succ k ih =>
    rw [Finset.sum_range_succ, ← ih]
    show denStep _ _ _ _ = _
    unfold denStep
    by_cases h : r.val = segOf fs (n + k)
    · refine (if_pos h).trans ?_
      rw [if_pos h.symm]; rfl
    · refine (if_neg h).trans ?_
      rw [if_neg (Ne.symm h)]; exact (add_zero _).symm

end

section

variable (x : S100000x128.Idx → EReal) (s : S100000.Idx → BitVec 32) (w : S1x128.Idx → EReal) (b : S1.Idx → EReal)
variable (fx : S12800000.Idx → Ideal .f32) (fw : S128.Idx → Ideal .f32) (fb : S16.Idx → Ideal .f32)

/-- The flat copy of the rows, the weights' vector and the bias's lanes have the arguments' elements. -/
structure Flat : Prop where
  rows : ∀ (n d : ℕ) (hn : n < 100000) (hd : d < 128) (h : 128 * n + d < 12800000), fx (ix1 ⟨128 * n + d, h⟩) = x (ix2 ⟨n, hn⟩ ⟨d, hd⟩)
  weights : ∀ d : Fin 128, fw (ix1 d) = w (ix2 0 d)
  bias : ∀ l : Fin 16, fb (ix1 l) = b (ix1 0)

variable {x w b fx fw fb}

theorem xrow_flat (h : Flat x w b fx fw fb) (n : ℕ) (hn : n < 100000) (j : Fin 8) (q : Fin 16) :
    xrow fx n j (ix1 q) = x (ix2 (rowAt n) ⟨(16 * j.val + q.val) % 128, Nat.mod_lt _ (by decide)⟩) := by
  have hj := j.isLt
  have hq := q.isLt
  have e : (⟨n % 100000, Nat.mod_lt _ (by decide)⟩ : Fin 100000) = ⟨n, hn⟩ := Fin.ext (Nat.mod_eq_of_lt hn)
  unfold xrow
  rw [show rowAt n = ⟨n, hn⟩ from e, ← h.rows n ((16 * j.val + q.val) % 128) hn (Nat.mod_lt _ (by decide)) (by omega)]
  refine congrArg fx (congrArg ix1 (Fin.ext ?_))
  show (128 * n + 16 * j.val + q.val) % 12800000 = 128 * n + (16 * j.val + q.val) % 128
  rw [Nat.mod_eq_of_lt (by omega), Nat.mod_eq_of_lt (a := 16 * j.val + q.val) (by omega)]; omega

theorem wvec_flat (h : Flat x w b fx fw fb) (j : Fin 8) (q : Fin 16) :
    wvec fw j (ix1 q) = w (ix2 0 ⟨(16 * j.val + q.val) % 128, Nat.mod_lt _ (by decide)⟩) := h.weights _

theorem rowExp_flat (h : Flat x w b fx fw fb) (n : ℕ) (hn : n < 100000) (k : Fin 16) : rowExp fx fw fb n k = Ideal.exp (gateAt x w b n) := by
  unfold rowExp gateAt
  rw [gateExp_lane, h.bias, add_comm]
  refine congrArg (fun z => Ideal.exp (z + b (ix1 0))) ?_
  simp only [xrow_flat h n hn, wvec_flat h]
  rw [sum_lanes fun i => x (ix2 (rowAt n) ⟨i % 128, Nat.mod_lt _ (by decide)⟩) * w (ix2 0 ⟨i % 128, Nat.mod_lt _ (by decide)⟩)]
  refine Finset.sum_congr rfl fun d _ => ?_
  have e : (⟨d.val % 128, Nat.mod_lt _ (by decide)⟩ : Fin 128) = d := Fin.ext (Nat.mod_eq_of_lt d.isLt)
  rw [e]

theorem tile_num (h : Flat x w b fx fw fb) (t : ℕ) (ht : t < 32) (r : Fin 256) (d : Fin 128) :
    (tileSum fx s fw fb t).1 (ix2 r d) = ∑ i ∈ Finset.range 1125, numTerm x s w b r.val d (1125 * t + i) := by
  unfold tileSum
  rw [run_fst]
  refine Finset.sum_congr rfl fun i hi => ?_
  have hi := Finset.mem_range.1 hi
  have hd := d.isLt
  unfold numTerm
  rw [rowExp_flat h _ (by omega), xrow_flat h _ (by omega)]
  have e : (⟨(16 * (d.val / 16 % 8) + d.val % 16) % 128, Nat.mod_lt _ (by decide)⟩ : Fin 128) = d := Fin.ext (by show _ % 128 = _; omega)
  rw [e]
  rfl

theorem tile_den (h : Flat x w b fx fw fb) (t : ℕ) (ht : t < 32) (r : Fin 256) (l : Fin 16) :
    (tileSum fx s fw fb t).2 (ix2 r l) = ∑ i ∈ Finset.range 1125, denTerm x s w b r.val (1125 * t + i) := by
  unfold tileSum
  rw [run_snd]
  refine Finset.sum_congr rfl fun i hi => ?_
  have hi := Finset.mem_range.1 hi
  unfold denTerm
  rw [rowExp_flat h _ (by omega)]
  rfl

end

end Cert.Tile
-- ==== Proof.ValReg.lean ====
module

public import proofs.«01_k».proof.Proof.Host
public import Idealize.ShloMosaic.Lib.Pointwise
public import Idealize.ShloMosaic.Lib.Pipeline.ValueKit
public import Idealize.ShloMosaic.Lib.Pointwise.IndexBridge

/-! The two TensorCore calls' blocks and results, at the buffers' elements. -/

@[expose] public section

noncomputable section

namespace Cert.Tile

open Cert.KernelIdeal Cert.KernelIdeal.Gen Cert.KernelIdeal.Facts₀ Cert.KernelIdeal.Facts
open Idealize.ShloMosaic

variable {F : FTy → Type} [FloatOps F] (V : Vals F) (c : Dev nD)

theorem outR_eq : outR V c = pooled (blkP V c) (blkD V c) (blkA V c) (blkE V c) := by
  refine (dat2 V c).arrAt_eq_of_after_last 4 t2_0 (by decide +kernel) _ fun j => ?_
  blk_simp
  rfl

theorem out4_eq : out4 V c = leftCols (accS V c 16) := by
  refine (dat1 V c).arrAt_eq_of_after_last 4 t1_15 (by decide +kernel) _ fun j => ?_
  blk_simp
  rfl

theorem out5_eq : out5 V c = rightCols (accS V c 16) := by
  refine (dat1 V c).arrAt_eq_of_after_last 5 t1_15 (by decide +kernel) _ fun j => ?_
  blk_simp
  rfl

theorem decided1_0 : ∀ t : Fin 16, cc1_transform_0 (grid1.coords t) = ![t.val + 9, 0, 0] := by decide +kernel
theorem index1_0 (t : Fin 16) : win1_0.index t = ![t.val + 9, 0, 0] := decided1_0 t
theorem decided1_1 : ∀ t : Fin 16, cc1_transform_1 (grid1.coords t) = ![t.val + 9, 0] := by decide +kernel
theorem index1_1 (t : Fin 16) : win1_1.index t = ![t.val + 9, 0] := decided1_1 t
theorem decided1_2 : ∀ t : Fin 16, cc1_transform_2 (grid1.coords t) = ![0, 0] := by decide +kernel
theorem index1_2 (t : Fin 16) : win1_2.index t = ![0, 0] := decided1_2 t
theorem decided1_3 : ∀ t : Fin 16, cc1_transform_3 (grid1.coords t) = ![0, 0] := by decide +kernel
theorem index1_3 (t : Fin 16) : win1_3.index t = ![0, 0] := decided1_3 t
theorem index2_0 : win2_0.index t2_0 = ![0, 0, 0] := by decide +kernel
theorem index2_1 : win2_1.index t2_0 = ![0, 0, 0] := by decide +kernel
theorem index2_2 : win2_2.index t2_0 = ![0, 0] := by decide +kernel
theorem index2_3 : win2_3.index t2_0 = ![0, 0] := by decide +kernel

theorem blkB_apply (t : Fin 16) (r : Fin 4000) (h : t.val + 9 < 25) :
    blkB V c t (ix3 0 0 r) = V c main_v0 (ix3 ⟨t.val + 9, h⟩ 0 r) := by
  unfold blkB
  blk_ext [index1_0 t]
theorem blkX_apply (t : Fin 16) (r : Fin 4000) (d : Fin 128) (h : 36000 + 4000 * t.val + r.val < 100000) :
    blkX V c t (ix2 r d) = V c main_arg0 (ix2 ⟨36000 + 4000 * t.val + r.val, h⟩ d) := by
  unfold blkX
  blk_ext [index1_1 t]
theorem blkW_apply (t : Fin 16) (d : Fin 128) (k : Fin 8) : blkW V c t (ix2 d k) = V c main_v4 (ix2 d k) := by
  unfold blkW
  blk_ext [index1_2 t]
theorem blkb_apply (t : Fin 16) : blkb V c t (ix2 0 0) = V c main_v5 (ix2 0 0) := by
  unfold blkb
  blk_ext [index1_3 t]
theorem blkP_apply (t : Fin 32) (r : Fin 256) (d : Fin 128) : blkP V c (ix3 t r d) = V c main_v9 (ix3 t r d) := by
  unfold blkP
  blk_ext [index2_0]
theorem blkD_apply (t : Fin 32) (r : Fin 256) (l : Fin 16) : blkD V c (ix3 t r l) = V c main_v10 (ix3 t r l) := by
  unfold blkD
  blk_ext [index2_1]
theorem blkA_apply (r : Fin 256) (d : Fin 128) : blkA V c (ix2 r d) = V c main_v8_0 (ix2 r d) := by
  unfold blkA
  blk_ext [index2_2]
theorem blkE_apply (r : Fin 256) (k : Fin 8) : blkE V c (ix2 r k) = V c main_v8_1 (ix2 r k) := by
  unfold blkE
  blk_ext [index2_3]

end Cert.Tile
-- ==== Proof.ValTc.lean ====
module

public import proofs.«01_k».proof.Proof.ValGate
public import proofs.«01_k».proof.Proof.ValReg

/-!
The TensorCore's running sums, as sums over the rows it has passed; and the last call's result.
-/

@[expose] public section

noncomputable section

namespace Cert.Tile

open Cert.KernelIdeal Cert.KernelIdeal.Gen
open Idealize.ShloMosaic
open scoped BigOperators

/-- The comparison of a word with a row's number, as a factor. -/
theorem onehot (v : BitVec 32) (n : ℕ) (hn : n < 2 ^ 32) :
    (FloatOps.sitofp FTy.f32 (BitVec.setWidth 32 (IntOp.cmpi .eq (BitVec.ofNat 32 n) v)) : Ideal .f32) = if v.toNat = n then (1 : EReal) else 0 := by
  by_cases h : v.toNat = n
  · subst h
    rw [if_pos rfl]
    have e : IntOp.cmpi .eq (BitVec.ofNat 32 v.toNat) v = 1#1 := by simp [IntOp.cmpi]
    rw [e]
    show (((BitVec.setWidth 32 1#1).toInt : ℝ) : EReal) = 1
    norm_num
  · rw [if_neg h]
    have hne : BitVec.ofNat 32 n ≠ v := fun q => h (by rw [← q, BitVec.toNat_ofNat, Nat.mod_eq_of_lt hn])
    have e : IntOp.cmpi .eq (BitVec.ofNat 32 n) v = 0#1 := by
      show BitVec.ofBool (BitVec.ofNat 32 n == v) = 0#1
      rw [beq_eq_false_iff_ne.2 hne]; rfl
    rw [e]
    show (((BitVec.setWidth 32 0#1).toInt : ℝ) : EReal) = 0
    norm_num

theorem tcStep_apply (B : S1x1x4000.Idx → BitVec 32) (X : S4000x128.Idx → Ideal .f32) (W : S128x8.Idx → Ideal .f32) (b : S1x1.Idx → Ideal .f32)
    (A : S256x136.Idx → Ideal .f32) (r : Fin 256) (k : Fin 136) :
    tcStep B X W b A (ix2 r k) = A (ix2 r k) + ∑ q : Fin 4000, if (B (ix3 0 0 q)).toNat = r.val then
      (if h : k.val < 128 then X (ix2 q ⟨k.val, h⟩) * Ideal.exp ((∑ d : Fin 128, X (ix2 q d) * W (ix2 d 0)) + b (ix2 0 0))
        else Ideal.exp ((∑ d : Fin 128, X (ix2 q d) * W (ix2 d 0)) + b (ix2 0 0))) else (0 : EReal) := by
  unfold tcStep k1_pay2
  pointwise
  refine congrArg (A (ix2 r k) + ·) (Finset.sum_congr rfl fun q _ => ?_)
  rw [onehot _ _ (by omega)]
  by_cases h : (B (ix3 0 0 q)).toNat = r.val
  · rw [if_pos h, if_pos h, one_mul]
  · rw [if_neg h, if_neg h, zero_mul]

section

variable (x : S100000x128.Idx → EReal) (s : S100000.Idx → BitVec 32) (w : S1x128.Idx → EReal) (b : S1.Idx → EReal)
variable (V : Vals Ideal) (c : Dev nD)

/-- The call's buffers have the arguments' elements. -/
structure Given : Prop where
  segs : ∀ (t : Fin 25) (q : Fin 4000) (h : 4000 * t.val + q.val < 100000), V c main_v0 (ix3 t 0 q) = s (ix1 ⟨4000 * t.val + q.val, h⟩)
  rows : V c main_arg0 = x
  weights : ∀ d : Fin 128, V c main_v4 (ix2 d 0) = w (ix2 0 d)
  bias : V c main_v5 (ix2 0 0) = b (ix1 0)

/-- A row's part of column `k` of the running sums. -/
def colTerm (r : ℕ) (k : Fin 136) (n : ℕ) : EReal := if h : k.val < 128 then numTerm x s w b r ⟨k.val, h⟩ n else denTerm x s w b r n

variable {x s w b V c}

theorem acc_apply (hV : Given x s w b V c) (r : Fin 256) (k : Fin 136) (n : ℕ) (hn : n ≤ 16) :
    accS V c n (ix2 r k) = ∑ t ∈ Finset.range n, ∑ q ∈ Finset.range 4000, colTerm x s w b r.val k (36000 + 4000 * t + q) := by
  induction n with
  | zero =>
    show Ideal.ofBits .f32 0x00000000#32 = _
    simp [Ideal.ofBits, Ideal.ieee]
  | succ n ih =>
    have hn' : n < 16 := by omega
    rw [Finset.sum_range_succ, ← ih (by omega)]
    have e : accS V c (n + 1) = tcStep (blkB V c (⟨n, hn'⟩ : Fin 16)) (blkX V c (⟨n, hn'⟩ : Fin 16)) (blkW V c (⟨n, hn'⟩ : Fin 16)) (blkb V c (⟨n, hn'⟩ : Fin 16)) (accS V c n) := by
      rw [accS]; exact dif_pos hn'
    rw [e, tcStep_apply, Finset.sum_range]
    refine congrArg (accS V c n (ix2 r k) + ·) (Finset.sum_congr rfl fun q _ => ?_)
    have hq := q.isLt
    have hrow : rowAt (36000 + 4000 * n + q.val) = ⟨36000 + 4000 * n + q.val, by omega⟩ := Fin.ext (Nat.mod_eq_of_lt (by omega))
    have hs : blkB V c (⟨n, hn'⟩ : Fin 16) (ix3 0 0 q) = s (ix1 (rowAt (36000 + 4000 * n + q.val))) := by
      rw [blkB_apply V c ⟨n, hn'⟩ q (by show n + 9 < 25; omega), hV.segs ⟨n + 9, by omega⟩ q (by show 4000 * (n + 9) + q.val < 100000; omega), hrow]
      exact congrArg (fun i => s (ix1 i)) (Fin.ext (by show 4000 * (n + 9) + q.val = 36000 + 4000 * n + q.val; omega))
    have hx : ∀ d : Fin 128, blkX V c (⟨n, hn'⟩ : Fin 16) (ix2 q d) = x (ix2 (rowAt (36000 + 4000 * n + q.val)) d) := fun d => by
      rw [blkX_apply V c ⟨n, hn'⟩ q d (by show 36000 + 4000 * n + q.val < 100000; omega), hV.rows, hrow]
    have hg : (∑ d : Fin 128, blkX V c (⟨n, hn'⟩ : Fin 16) (ix2 q d) * blkW V c (⟨n, hn'⟩ : Fin 16) (ix2 d 0)) + blkb V c (⟨n, hn'⟩ : Fin 16) (ix2 0 0)
        = gateAt x w b (36000 + 4000 * n + q.val) := by
      unfold gateAt
      rw [blkb_apply V c ⟨n, hn'⟩, hV.bias]
      refine congrArg (· + b (ix1 0)) (Finset.sum_congr rfl fun d _ => ?_)
      rw [hx, blkW_apply V c ⟨n, hn'⟩, hV.weights]
    rw [hs, hg]
    unfold colTerm numTerm denTerm segAt
    by_cases hk : k.val < 128
    · simp only [dif_pos hk, hx, mul_comm (x _)]
    · simp only [dif_neg hk]

theorem left_apply (hV : Given x s w b V c) (r : Fin 256) (d : Fin 128) :
    leftCols (accS V c 16) (ix2 r d) = ∑ i ∈ Finset.range 64000, numTerm x s w b r.val d (36000 + i) := by
  have e : leftCols (accS V c 16) (ix2 r d) = accS V c 16 (ix2 r ⟨d.val, by omega⟩) := by
    unfold leftCols; pointwise
  rw [e, acc_apply hV r _ 16 le_rfl, sum_blocks _ 36000 16 4000]
  refine Finset.sum_congr rfl fun i _ => ?_
  exact dif_pos d.isLt

theorem right_apply (hV : Given x s w b V c) (r : Fin 256) :
    rightCols (accS V c 16) (ix2 r 0) = ∑ i ∈ Finset.range 64000, denTerm x s w b r.val (36000 + i) := by
  have e : rightCols (accS V c 16) (ix2 r 0) = accS V c 16 (ix2 r ⟨128, by omega⟩) := by
    unfold rightCols; pointwise
  rw [e, acc_apply hV r _ 16 le_rfl, sum_blocks _ 36000 16 4000]
  refine Finset.sum_congr rfl fun i _ => ?_
  exact dif_neg (lt_irrefl 128)

end

theorem pooled_apply (P : S32x256x128.Idx → Ideal .f32) (D : S32x256x16.Idx → Ideal .f32) (A : S256x128.Idx → Ideal .f32) (E : S256x8.Idx → Ideal .f32)
    (r : Fin 256) (d : Fin 128) : pooled P D A E (ix2 r d)
      = Ideal.div (A (ix2 r d) + ∑ t : Fin 32, P (ix3 t r d)) (max (E (ix2 r 0) + ∑ t : Fin 32, D (ix3 t r 0)) (Ideal.ofBits FTy.f32 0x0DA24260#32)) := by
  unfold pooled k2_pay1 firstCol firstLane
  pointwise

end Cert.Tile
-- ==== Proof.ValHost.lean ====
module

public import proofs.«01_k».proof.Proof.ValTile
public import proofs.«01_k».proof.Proof.ValTc

/-!
The host's reshapes, and the kernel's result as a quotient of two sums over the rows.
-/

@[expose] public section

noncomputable section

namespace Cert.Tile

open Cert.KernelIdeal Cert.KernelIdeal.Gen
open Idealize.ShloMosaic
open scoped BigOperators

variable (m : (ℓ : Loc nD τ sig) → Buf (Elt Ideal) ℓ) (d : Dev nD)

/-- The arguments. -/
abbrev argX : S100000x128.Idx → EReal := m (d, Proc.devRef .tc main_arg0)
abbrev argS : S100000.Idx → BitVec 32 := m (d, Proc.devRef .tc main_arg1)
abbrev argW : S1x128.Idx → EReal := m (d, Proc.devRef .tc main_arg2)
abbrev argB : S1.Idx → EReal := m (d, Proc.devRef .tc main_arg3)

theorem va_arg0 : Va m d (Proc.devRef .tc main_arg0) = argX m d := by unfold Va ops0; after_results; rfl
theorem va_arg1 : Va m d (Proc.devRef .tc main_arg1) = argS m d := by unfold Va ops0; after_results; rfl
theorem va_v0 : Va m d (Proc.devRef .tc main_v0) = shapeCast S25x1x4000 (argS m d) shapeCasts_S100000_S25x1x4000 := by unfold Va ops0; after_results; rfl
theorem va_v1 : Va m d (Proc.devRef .tc main_v1) = shapeCast S128 (argW m d) shapeCasts_S1x128_S128 := by unfold Va ops0; after_results; rfl
theorem va_v2 : Va m d (Proc.devRef .tc main_v2) = broadcastInDim S16 ![0] bcast_S1_S16_0 (argB m d) := by unfold Va ops0; after_results; rfl
theorem va_v4 : Va m d (Proc.devRef .tc main_v4) = pad S128x8 ![0, 0] ![0, 7] ![0, 0] (shapeCast S128x1 (argW m d) shapeCasts_S1x128_S128x1)
    (sitofp .f32 (constantI S_ 32 0#32) : FVec Ideal S_ .f32) pads_S128x1_S128x8_000_070 h_S_ := by unfold Va ops0; after_results; rfl
theorem va_v5 : Va m d (Proc.devRef .tc main_v5) = shapeCast S1x1 (argB m d) shapeCasts_S1_S1x1 := by unfold Va ops0; after_results; rfl
theorem va_v6 : Va m d (Proc.devRef .tc main_v6) = shapeCast S12800000 (argX m d) shapeCasts_S100000x128_S12800000 := by unfold Va ops0; after_results; rfl

theorem flat : Flat (argX m d) (argW m d) (argB m d) (G m d).fx (G m d).fw (G m d).fb where
  rows n k hn hk h := by
    show Va m d (Proc.devRef .tc main_v6) (ix1 _) = _
    rw [va_v6]
    pointwise
    refine congrArg (argX m d) (congrArg₂ ix2 (Fin.ext ?_) (Fin.ext ?_))
    · show (128 * n + k) / 128 = n
      omega
    · show (128 * n + k) % 128 = k
      omega
  weights k := by
    show Va m d (Proc.devRef .tc main_v1) (ix1 _) = _
    rw [va_v1]
    pointwise
  bias l := by
    show Va m d (Proc.devRef .tc main_v2) (ix1 _) = _
    rw [va_v2]
    pointwise

/-- A buffer the SparseCores do not write, at the TensorCore's call. -/
theorem v1_at (r : Ref sig .tc) (h0 : r ≠ main_v7_0) (h1 : r ≠ main_v7_1) : names (V1 m) d r = Va m d (Proc.devRef .tc r) :=
  (upd_ne _ _ h1).trans (upd_ne _ _ h0)

theorem given_args : Given (argX m d) (argS m d) (argW m d) (argB m d) (names (V1 m)) d where
  segs t q h := by
    rw [v1_at m d main_v0 (by decide) (by decide), va_v0]
    pointwise
    exact congrArg (fun i => argS m d (ix1 i)) (Fin.ext (by show t.val * 4000 + q.val = 4000 * t.val + q.val; omega))
  rows := by rw [v1_at m d main_arg0 (by decide) (by decide), va_arg0]
  weights k := by
    rw [v1_at m d main_v4 (by decide) (by decide), va_v4]
    pointwise
  bias := by
    rw [v1_at m d main_v5 (by decide) (by decide), va_v5]
    pointwise

theorem v3_v9 : names (V3 m) d main_v9 = shapeCast S32x256x128 (accAll (G m d).fx (G m d).fs (G m d).fw (G m d).fb) shapeCasts_S8192x128_S32x256x128 := by
  show V3 m d (Proc.devRef .tc main_v9) = _
  have e : V2 m d (Proc.devRef .tc main_v7_0) = accAll (G m d).fx (G m d).fs (G m d).fw (G m d).fb :=
    (upd_ne _ _ (by decide)).trans ((upd_ne _ _ (by decide)).trans ((upd_ne _ _ (by decide)).trans (Function.update_self _ _ _)))
  rw [← e]
  unfold V3 ops1; after_results; try rfl
theorem v3_v10 : names (V3 m) d main_v10 = shapeCast S32x256x16 (denAll (G m d).fx (G m d).fs (G m d).fw (G m d).fb) shapeCasts_S8192x16_S32x256x16 := by
  show V3 m d (Proc.devRef .tc main_v10) = _
  have e : V2 m d (Proc.devRef .tc main_v7_1) = denAll (G m d).fx (G m d).fs (G m d).fw (G m d).fb :=
    (upd_ne _ _ (by decide)).trans ((upd_ne _ _ (by decide)).trans (Function.update_self _ _ _))
  rw [← e]
  unfold V3 ops1; after_results; rfl
theorem v3_v8_0 : names (V3 m) d main_v8_0 = out4 (names (V1 m)) d := by
  show V3 m d (Proc.devRef .tc main_v8_0) = _
  have e : V2 m d (Proc.devRef .tc main_v8_0) = out4 (names (V1 m)) d := (upd_ne _ _ (by decide)).trans (Function.update_self _ _ _)
  rw [← e]
  unfold V3 ops1; after_results
theorem v3_v8_1 : names (V3 m) d main_v8_1 = out5 (names (V1 m)) d := by
  show V3 m d (Proc.devRef .tc main_v8_1) = _
  have e : V2 m d (Proc.devRef .tc main_v8_1) = out5 (names (V1 m)) d := Function.update_self _ _ _
  rw [← e]
  unfold V3 ops1; after_results

theorem fs_eq : (G m d).fs = argS m d := va_arg1 m d

theorem part_num (t : Fin 32) (r : Fin 256) (k : Fin 128) :
    blkP (names (V3 m)) d (ix3 t r k) = ∑ i ∈ Finset.range 1125, numTerm (argX m d) (argS m d) (argW m d) (argB m d) r.val k (1125 * t.val + i) := by
  rw [blkP_apply, v3_v9, ← tile_num (argS m d) (flat m d) t.val t.isLt r k, fs_eq]
  pointwise
  have hr := r.isLt
  have h0 : (t.val * 256 + r.val) / 256 = t.val := by omega
  have h1 : (⟨(t.val * 256 + r.val) % 256, Nat.mod_lt _ (by decide)⟩ : Fin 256) = r := Fin.ext (by show (t.val * 256 + r.val) % 256 = r.val; omega)
  show (tileSum (G m d).fx (argS m d) (G m d).fw (G m d).fb ((t.val * 256 + r.val) / 256)).1 (ix2 ⟨(t.val * 256 + r.val) % 256, Nat.mod_lt _ (by decide)⟩ k) = _
  rw [h0, h1]

theorem part_den (t : Fin 32) (r : Fin 256) (l : Fin 16) :
    blkD (names (V3 m)) d (ix3 t r l) = ∑ i ∈ Finset.range 1125, denTerm (argX m d) (argS m d) (argW m d) (argB m d) r.val (1125 * t.val + i) := by
  rw [blkD_apply, v3_v10, ← tile_den (argS m d) (flat m d) t.val t.isLt r l, fs_eq]
  pointwise
  have hr := r.isLt
  have h0 : (t.val * 256 + r.val) / 256 = t.val := by omega
  have h1 : (⟨(t.val * 256 + r.val) % 256, Nat.mod_lt _ (by decide)⟩ : Fin 256) = r := Fin.ext (by show (t.val * 256 + r.val) % 256 = r.val; omega)
  show (tileSum (G m d).fx (argS m d) (G m d).fw (G m d).fb ((t.val * 256 + r.val) / 256)).2 (ix2 ⟨(t.val * 256 + r.val) % 256, Nat.mod_lt _ (by decide)⟩ l) = _
  rw [h0, h1]

/-- The kernel's result. -/
theorem kernel_apply (r : Fin 256) (k : Fin 128) : outR (names (V3 m)) d (ix2 r k)
    = Ideal.div (∑ i ∈ Finset.range 100000, numTerm (argX m d) (argS m d) (argW m d) (argB m d) r.val k i)
        (max (∑ i ∈ Finset.range 100000, denTerm (argX m d) (argS m d) (argW m d) (argB m d) r.val i) (Ideal.ofBits FTy.f32 0x0DA24260#32)) := by
  rw [outR_eq, pooled_apply, blkA_apply, blkE_apply, v3_v8_0, v3_v8_1, out4_eq, out5_eq, left_apply (given_args m d), right_apply (given_args m d)]
  rw [Finset.sum_congr rfl fun t _ => part_num m d t r k, Finset.sum_congr rfl fun t _ => part_den m d t r 0]
  have e : ∀ f : ℕ → EReal, (∑ i ∈ Finset.range 64000, f (36000 + i)) + ∑ t : Fin 32, ∑ i ∈ Finset.range 1125, f (1125 * t.val + i) = ∑ i ∈ Finset.range 100000, f i := fun f => by
    have e0 := sum_blocks f 0 32 1125
    simp only [Nat.zero_add] at e0
    rw [← Finset.sum_range (n := 32) fun t => ∑ i ∈ Finset.range 1125, f (1125 * t + i), e0, add_comm, ← Finset.sum_range_add]
  rw [e, e]

end Cert.Tile
-- ==== Proof.ValRef.lean ====
module

public import proofs.«01_k».proof.Proof.Gen.ReferenceIdeal
public import proofs.«01_k».proof.Proof.Gen.ReferenceIdeal.Run
public import Idealize.ShloMosaic.Lib.Pointwise
public import Idealize.ShloMosaic.Lib.Pointwise.IndexBridge
public import Idealize.ShloMosaic.Lib.Routing.OpsPair
public import Idealize.ShloMosaic.Lib.Routing.OpsSet

/-!
The reference's result, read at an element.
-/

@[expose] public section

noncomputable section

namespace Cert.RefValue

open Cert.ReferenceIdeal Cert.ReferenceIdeal.Gen Cert.ReferenceIdeal.Facts
open Idealize.ShloMosaic

variable (x : FVec Ideal S100000x128 .f32) (s : IVec S100000 32) (w : FVec Ideal S1x128 .f32) (b : FVec Ideal S1 .f32)

/-- The gates. -/
def gates : FVec Ideal S100000 .f32 :=
  shapeCast _ (addf (Host.dotGeneral dot_S100000x128_S128x1_S100000x1_1_0_0_1_n_n none x (transpose S128x1 [1, 0] w transposes_S1x128_S128x1_1_0))
    (broadcastInDim S100000x1 ![0, 1] bcast_S1x1_S100000x1_0_1 (broadcastInDim S1x1 ![1] bcast_S1_S1x1_1 b))) shapeCasts_S100000x1_S100000

/-- The segments' greatest gates. -/
def tops (g : FVec Ideal S100000 .f32) : FVec Ideal S256 .f32 :=
  Host.reduce FloatOps.maximumf (select (cmpi .eq (broadcastInDim S256x100000 ![0, 1] bcast_S1x100000_S256x100000_0_1 (broadcastInDim S1x100000 ![1] bcast_S100000_S1x100000_1 s))
      (broadcastInDim S256x100000 ![0, 1] bcast_S256x1_S256x100000_0_1 (broadcastInDim S256x1 ![0] bcast_S256_S256x1_0 (iotaInDim S256 32 0))))
    (broadcastInDim S256x100000 ![0, 1] bcast_S1x100000_S256x100000_0_1 (broadcastInDim S1x100000 ![1] bcast_S100000_S1x100000_1 g))
    (broadcastInDim S256x100000 ![] bcast_S_S256x100000 (id (constant S_ .f32 0xFF800000#32)))) (constant S_ .f32 0xFF800000#32) reducesTo_S256x100000_S256_d1 h_S_

/-- The segments' words, as a column, a word below 0 moved up by 256. -/
def column : IVec S100000x1 32 :=
  broadcastInDim S100000x1 ![0] bcast_S100000_S100000x1_0 (select (cmpi .slt s (broadcastInDim S100000 ![] bcast_S_S100000 (constantI S_ 32 0#32)))
    (addi s (broadcastInDim S100000 ![] bcast_S_S100000 (constantI S_ 32 256#32))) s)

/-- The rows' entries of a table over the segments. -/
def entries (t : FVec Ideal S256 .f32) : FVec Ideal S100000 .f32 := Host.gather gather_S256_S100000x1_S100000_n_0_n_n_0_1_1 t (column s)

/-- The exponentials, each shifted by its segment's greatest gate. -/
def exps : FVec Ideal S100000 .f32 := Host.exp (subf (gates x w b) (entries s (tops s (gates x w b))))

/-- The segments' sums of a vector over the rows. -/
def segSums (e : FVec Ideal S100000 .f32) : FVec Ideal S256 .f32 :=
  Host.scatterAdd scatter_S256_S100000x1_S100000_n_0_0_1 (broadcastInDim S256 ![] bcast_S_S256 (constant S_ .f32 0x00000000#32))
    (broadcastInDim S100000x1 ![0] bcast_S100000_S100000x1_0 s) e

/-- The rows' shares of their segments. -/
def shares : FVec Ideal S100000 .f32 := Host.divf (exps x s w b) (entries s (segSums s (exps x s w b)))

/-- The result. -/
def result : FVec Ideal S256x128 .f32 :=
  Host.scatterAdd scatter_S256x128_S100000x1_S100000x128_1_0_0_1 (broadcastInDim S256x128 ![] bcast_S_S256x128 (constant S_ .f32 0x00000000#32))
    (broadcastInDim S100000x1 ![0] bcast_S100000_S100000x1_0 s)
    (mulf (broadcastInDim S100000x128 ![0, 1] bcast_S100000x1_S100000x128_0_1 (broadcastInDim S100000x1 ![0] bcast_S100000_S100000x1_0 (shares x s w b))) x)

theorem result_eq (m : (ℓ : Loc nD τ sig) → Buf (Elt Ideal) ℓ) (c : Dev nD) :
    Cert.ReferenceIdeal.Value.res_main_v40 m c = result (m ((c.tc : Thread nD τ).loc main_arg0)) (m ((c.tc : Thread nD τ).loc main_arg1))
      (m ((c.tc : Thread nD τ).loc main_arg2)) (m ((c.tc : Thread nD τ).loc main_arg3)) := rfl

theorem gates_apply (i : Fin 100000) : gates x w b (ix1 i) = (∑ d : Fin 128, x (ix2 i d) * w (ix2 0 d)) + b (ix1 0) := by
  pointwise [gates]

theorem column_apply (i : Fin 100000) (h : (s (ix1 i)).toNat < 256) : column s (ix2 i 0) = s (ix1 i) := by
  pointwise [column]
  exact Routing.wrap_of_lt _ _ (by omega)

theorem select_word (v : BitVec 32) (n : ℕ) (hn : n < 2 ^ 32) (a c : EReal) :
    Scalar.select (IntOp.cmpi .eq v (BitVec.ofNat 32 n)) a c = if v.toNat = n then a else c := by
  by_cases h : v.toNat = n
  · subst h
    simp [IntOp.cmpi, Scalar.select]
  · have hne : v ≠ BitVec.ofNat 32 n := fun q => h (by rw [q, BitVec.toNat_ofNat, Nat.mod_eq_of_lt hn])
    simp only [IntOp.cmpi, Scalar.select, beq_eq_false_iff_ne.2 hne, h, if_false]
    rfl

theorem tops_apply (g : FVec Ideal S100000 .f32) (r : Fin 256) :
    tops s g (ix1 r) = Finset.univ.fold max (⊥ : EReal) fun i : Fin 100000 => if (s (ix1 i)).toNat = r.val then g (ix1 i) else ⊥ := by
  have e : Ideal.ofBits .f32 0xFF800000#32 = (⊥ : EReal) := by simp [Ideal.ofBits, Ideal.ieee]
  pointwise [tops]
  rw [e]
  refine Finset.fold_congr fun i _ => ?_
  show Scalar.select _ _ (Ideal.ofBits .f32 0xFF800000#32) = _
  rw [e]
  exact select_word _ r.val (by omega) _ _

theorem lands1 (i : Fin 100000) (r : Fin 256) (idx : IVec S100000x1 32) :
    (scatter_S256_S100000x1_S100000_n_0_0_1).resultIdx? (ix1 i) idx = some (ix1 r) ↔ (idx (ix2 i 0)).toInt = r.val := by
  rw [ix1_eq_valueIdx r, Routing.resultIdx?_ix1]
  have hm : (0 : Fin 1) ∈ (scatter_S256_S100000x1_S100000_n_0_0_1).scatterDimsToOperandDims := List.mem_singleton.2 rfl
  have hw : (scatter_S256_S100000x1_S100000_n_0_0_1).window (ix1 i) 0 = 0 := rfl
  have hs : (scatter_S256_S100000x1_S100000_n_0_0_1).start (ix1 i) idx 0 = (idx (ix2 i 0)).toInt := by
    unfold ScatterDims.start
    rw [dif_pos hm]
    refine congrArg (fun j => (idx j).toInt) (funext fun a => ?_)
    match a with
    | ⟨0, _⟩ => rfl
    | ⟨1, _⟩ => rfl
  rw [hw, hs]; simp

theorem lands2 (i : Fin 100000) (d : Fin 128) (r : Fin 256) (k : Fin 128) (idx : IVec S100000x1 32) :
    (scatter_S256x128_S100000x1_S100000x128_1_0_0_1).resultIdx? (ix2 i d) idx = some (ix2 r k) ↔ (idx (ix2 i 0)).toInt = r.val ∧ d = k := by
  rw [ix2_eq_valueIdx r, Routing.resultIdx?_ix2]
  have hm : (0 : Fin 2) ∈ (scatter_S256x128_S100000x1_S100000x128_1_0_0_1).scatterDimsToOperandDims := List.mem_singleton.2 rfl
  have hw : (scatter_S256x128_S100000x1_S100000x128_1_0_0_1).window (ix2 i d) 0 = 0 := rfl
  have hw1 : (scatter_S256x128_S100000x1_S100000x128_1_0_0_1).window (ix2 i d) 1 = d.val := rfl
  have hs1 : (scatter_S256x128_S100000x1_S100000x128_1_0_0_1).start (ix2 i d) idx 1 = 0 := rfl
  have hs : (scatter_S256x128_S100000x1_S100000x128_1_0_0_1).start (ix2 i d) idx 0 = (idx (ix2 i 0)).toInt := by
    unfold ScatterDims.start
    rw [dif_pos hm]
    refine congrArg (fun j => (idx j).toInt) (funext fun a => ?_)
    match a with
    | ⟨0, _⟩ => rfl
    | ⟨1, _⟩ => rfl
  rw [hw, hs, hw1, hs1, Fin.ext_iff]
  constructor
  · rintro ⟨h0, h1⟩; exact ⟨by omega, by omega⟩
  · rintro ⟨h0, h1⟩; exact ⟨by omega, by omega⟩

theorem toInt_small (v : BitVec 32) (h : v.toNat < 256) (r : Fin 256) : v.toInt = (r.val : ℤ) ↔ v.toNat = r.val := by
  rw [BitVec.toInt_eq_toNat_cond]
  split <;> omega

theorem zero_word : Ideal.ofBits .f32 0x00000000#32 = (0 : EReal) := by simp [Ideal.ofBits, Ideal.ieee]

theorem segSums_apply (e : FVec Ideal S100000 .f32) (r : Fin 256) (hs : ∀ i, (s (ix1 i)).toNat < 256) :
    segSums s e (ix1 r) = ∑ i : Fin 100000, if (s (ix1 i)).toNat = r.val then e (ix1 i) else 0 := by
  unfold segSums
  show Ideal.ofBits .f32 0x00000000#32 + ∑ j ∈ Finset.univ.filter (fun j => (scatter_S256_S100000x1_S100000_n_0_0_1).resultIdx? j
    (broadcastInDim S100000x1 ![0] bcast_S100000_S100000x1_0 s) = some (ix1 r)), e j = _
  rw [zero_word, zero_add, Finset.sum_filter, sum_idx1]
  refine Finset.sum_congr rfl fun i _ => if_congr ((lands1 i r _).trans ?_) rfl rfl
  rw [show broadcastInDim S100000x1 ![0] bcast_S100000_S100000x1_0 s (ix2 i 0) = s (ix1 i) by pointwise]
  exact toInt_small _ (hs i) r

theorem entries_apply (t : FVec Ideal S256 .f32) (i : Fin 100000) (h : (s (ix1 i)).toNat < 256) : entries s t (ix1 i) = t (ix1 ⟨(s (ix1 i)).toNat, h⟩) := by
  unfold entries
  rw [ix1_eq_valueIdx (⟨(s (ix1 i)).toNat, h⟩ : Fin 256)]
  refine (congrArg _ (ix1_eq_valueIdx i)).trans (Routing.gather_take1 _ rfl rfl rfl rfl t _ i ⟨_, h⟩ ?_ (by decide))
  rw [← ix2_eq_valueIdx, column_apply s i h]
  exact (BitVec.eq_of_toNat_eq (by rw [BitVec.toNat_ofNat]; exact Nat.mod_eq_of_lt (s (ix1 i)).isLt)).symm

theorem result_apply (r : Fin 256) (k : Fin 128) (hs : ∀ i, (s (ix1 i)).toNat < 256) :
    result x s w b (ix2 r k) = ∑ i : Fin 100000, if (s (ix1 i)).toNat = r.val then shares x s w b (ix1 i) * x (ix2 i k) else 0 := by
  unfold result
  show Ideal.ofBits .f32 0x00000000#32 + ∑ j ∈ Finset.univ.filter (fun j => (scatter_S256x128_S100000x1_S100000x128_1_0_0_1).resultIdx? j
    (broadcastInDim S100000x1 ![0] bcast_S100000_S100000x1_0 s) = some (ix2 r k)), _ = _
  rw [zero_word, zero_add, Finset.sum_filter, sum_idx2]
  refine Finset.sum_congr rfl fun i _ => ?_
  rw [Finset.sum_eq_single k]
  · refine if_congr ((lands2 i k r k _).trans ?_) ?_ rfl
    · rw [show broadcastInDim S100000x1 ![0] bcast_S100000_S100000x1_0 s (ix2 i 0) = s (ix1 i) by pointwise, toInt_small _ (hs i) r]
      simp
    · pointwise
  · intro d _ hd
    exact if_neg fun h => hd ((lands2 i d r k _).1 h).2
  · intro h; exact absurd (Finset.mem_univ _) h

theorem exps_apply (i : Fin 100000) (h : (s (ix1 i)).toNat < 256) :
    exps x s w b (ix1 i) = Ideal.exp (gates x w b (ix1 i) - tops s (gates x w b) (ix1 ⟨(s (ix1 i)).toNat, h⟩)) := by
  rw [← entries_apply s (tops s (gates x w b)) i h]; rfl

theorem quotient_apply (a c : FVec Ideal S100000 .f32) (i : S100000.Idx) : Host.divf a c i = Ideal.div (a i) (c i) := rfl

theorem shares_apply (i : Fin 100000) (h : (s (ix1 i)).toNat < 256) :
    shares x s w b (ix1 i) = Ideal.div (exps x s w b (ix1 i)) (segSums s (exps x s w b) (ix1 ⟨(s (ix1 i)).toNat, h⟩)) := by
  unfold shares
  rw [quotient_apply, entries_apply s _ i h]

end Cert.RefValue
-- ==== Proof.Algebra.lean ====
module

public import proofs.«01_k».proof.Proof.Frames
public import proofs.«01_k».proof.Proof.ValHost
public import proofs.«01_k».proof.Proof.ValRef

/-!
The kernel's quotient of sums is the reference's sum of shares: the greatest gate of a segment cancels.
-/

@[expose] public section

noncomputable section

namespace Cert.Tile

open Idealize.ShloMosaic
open scoped BigOperators

theorem sum_real {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

theorem if_real (p : Prop) [Decidable p] (a : ℝ) : (if p then ((a : ℝ) : EReal) else 0) = ((if p then a else 0 : ℝ) : EReal) := by
  split <;> simp

theorem floor_pos : (0 : EReal) < Ideal.ofBits FTy.f32 0x0DA24260#32 := by
  simp [Ideal.ofBits, Ideal.ieee]
  try positivity

section

variable {n : ℕ} (p : Fin n → Prop) [DecidablePred p] (g xs : Fin n → ℝ)

/-- The greatest gate of a segment with a member is a real. -/
theorem top_real (i : Fin n) (hi : p i) :
    ∃ μ : ℝ, (Finset.univ.fold max (⊥ : EReal) fun i => if p i then ((g i : ℝ) : EReal) else ⊥) = (μ : EReal) := by
  have hlo : ((g i : ℝ) : EReal) ≤ Finset.univ.fold max (⊥ : EReal) fun i => if p i then ((g i : ℝ) : EReal) else ⊥ :=
    Finset.le_fold_max _ |>.2 (Or.inr ⟨i, Finset.mem_univ i, by rw [if_pos hi]⟩)
  have hhi : (Finset.univ.fold max (⊥ : EReal) fun i => if p i then ((g i : ℝ) : EReal) else ⊥) < ⊤ := by
    refine (Finset.fold_max_lt _).2 ⟨bot_lt_top, fun j _ => ?_⟩
    split
    · exact EReal.coe_lt_top _
    · exact bot_lt_top
  exact ⟨_, (EReal.coe_toReal hhi.ne (ne_bot_of_le_ne_bot (EReal.coe_ne_bot _) hlo)).symm⟩

/-- The two ways to weigh a segment's rows, over the reals. -/
theorem weigh (μ : ℝ) (hD : (∑ j, if p j then Real.exp (g j) else 0) ≠ 0) :
    (∑ i, if p i then Real.exp (g i) * xs i else 0) * (1 / ∑ j, if p j then Real.exp (g j) else 0)
      = ∑ i, if p i then Real.exp (g i - μ) * (1 / ∑ j, if p j then Real.exp (g j - μ) else 0) * xs i else 0 := by
  have e : (∑ j, if p j then Real.exp (g j - μ) else 0) = (∑ j, if p j then Real.exp (g j) else 0) * Real.exp (-μ) := by
    rw [Finset.sum_mul]
    refine Finset.sum_congr rfl fun j _ => ?_
    rw [ite_mul, zero_mul, ← Real.exp_add, sub_eq_add_neg]
  rw [e, Finset.sum_mul]
  refine Finset.sum_congr rfl fun i _ => ?_
  by_cases h : p i
  · rw [if_pos h, if_pos h, sub_eq_add_neg, Real.exp_add]
    have := Real.exp_ne_zero (-μ)
    field_simp
  · rw [if_neg h, if_neg h, zero_mul]

/-- The same over the extended reals, with the kernel's floor under the sum of weights. -/
theorem pooled_eq (ε : EReal) (hε : 0 < ε) (hg : ∀ i, ε ≤ ((Real.exp (g i) : ℝ) : EReal)) :
    Ideal.div (∑ i, if p i then Ideal.exp ((g i : ℝ) : EReal) * ((xs i : ℝ) : EReal) else 0) (max (∑ i, if p i then Ideal.exp ((g i : ℝ) : EReal) else 0) ε)
      = ∑ i, if p i then Ideal.div (Ideal.exp (((g i : ℝ) : EReal) - Finset.univ.fold max (⊥ : EReal) fun i => if p i then ((g i : ℝ) : EReal) else ⊥))
          (∑ j, if p j then Ideal.exp (((g j : ℝ) : EReal) - Finset.univ.fold max (⊥ : EReal) fun i => if p i then ((g i : ℝ) : EReal) else ⊥) else 0) * ((xs i : ℝ) : EReal)
        else 0 := by
  by_cases hp : ∃ i, p i
  · obtain ⟨i, hi⟩ := hp
    obtain ⟨μ, hμ⟩ := top_real p g i hi
    have hpos : 0 < ∑ j, if p j then Real.exp (g j) else 0 :=
      Finset.sum_pos' (fun j _ => by split <;> positivity) ⟨i, Finset.mem_univ i, by rw [if_pos hi]; positivity⟩
    have hpos' : 0 < ∑ j, if p j then Real.exp (g j - μ) else 0 :=
      Finset.sum_pos' (fun j _ => by split <;> positivity) ⟨i, Finset.mem_univ i, by rw [if_pos hi]; positivity⟩
    have hle : ε ≤ ((∑ j, if p j then Real.exp (g j) else 0 : ℝ) : EReal) := by
      refine (hg i).trans (EReal.coe_le_coe_iff.2 ?_)
      have := Finset.single_le_sum (f := fun j => if p j then Real.exp (g j) else 0) (fun j _ => by split <;> positivity) (Finset.mem_univ i)
      simpa only [if_pos hi] using this
    simp only [hμ, Ideal.exp_coe, ← EReal.coe_sub, ← EReal.coe_mul, if_real, sum_real]
    rw [max_eq_left hle, Ideal.div_coe hpos.ne', ← EReal.coe_mul, weigh p g xs μ hpos.ne', ← sum_real]
    refine Finset.sum_congr rfl fun i _ => ?_
    rw [Ideal.div_coe hpos'.ne', ← EReal.coe_mul, ← EReal.coe_mul, if_real]
  · have h0 : ∀ i, ¬ p i := fun i hi => hp ⟨i, hi⟩
    simp only [h0, if_false, Finset.sum_const_zero]
    rw [max_eq_right hε.le, Ideal.div, if_neg hε.ne', zero_mul]

end

theorem real_of (v : EReal) (h : Ideal.cmp .olt (max v (-v)) (Ideal.ofBits FTy.f32 0x7F800000#32) = 1#1) : ∃ r : ℝ, v = (r : EReal) := by
  have e : Ideal.ofBits FTy.f32 0x7F800000#32 = (⊤ : EReal) := by simp [Ideal.ofBits, Ideal.ieee]
  rw [e] at h
  have hl : max v (-v) < ⊤ := by
    by_contra hc
    simp [Ideal.cmp, hc] at h
  induction v with
  | bot => simp at hl
  | top => simp at hl
  | coe r => exact ⟨r, rfl⟩

/-- The facts the precondition gives. -/
structure Moderate (x : Cert.KernelIdeal.S100000x128.Idx → EReal) (s : Cert.KernelIdeal.S100000.Idx → BitVec 32) (w : Cert.KernelIdeal.S1x128.Idx → EReal) (b : Cert.KernelIdeal.S1.Idx → EReal) : Prop where
  range : InRange s
  rows : ∀ i, ∃ r : ℝ, x i = (r : EReal)
  weights : ∀ i, ∃ r : ℝ, w i = (r : EReal)
  bias : ∀ i, ∃ r : ℝ, b i = (r : EReal)
  floor : ∀ i : Fin 100000, Ideal.ofBits FTy.f32 0x0DA24260#32 ≤ Ideal.exp ((∑ d : Fin 128, x (ix2 i d) * w (ix2 0 d)) + b (ix1 0))

theorem gate_pre (x : FVec Ideal Cert.Pre_in_segments_moderate.S100000x128 .f32) (w : FVec Ideal Cert.Pre_in_segments_moderate.S1x128 .f32)
    (b : FVec Ideal Cert.Pre_in_segments_moderate.S1 .f32) (i : Fin 100000) :
    (Host.exp (addf (Host.dotGeneral Cert.Pre_in_segments_moderate.dot_S100000x128_S128x1_S100000x1_1_0_0_1_n_n none x
        (transpose Cert.Pre_in_segments_moderate.S128x1 [1, 0] w Cert.Pre_in_segments_moderate.Facts.transposes_S1x128_S128x1_1_0))
      (broadcastInDim Cert.Pre_in_segments_moderate.S100000x1 ![0, 1] Cert.Pre_in_segments_moderate.Facts.bcast_S1x1_S100000x1_0_1
        (broadcastInDim Cert.Pre_in_segments_moderate.S1x1 ![1] Cert.Pre_in_segments_moderate.Facts.bcast_S1_S1x1_1 b))) : FVec Ideal Cert.Pre_in_segments_moderate.S100000x1 .f32) (ix2 i 0)
      = Ideal.exp ((∑ d : Fin 128, x (ix2 i d) * w (ix2 0 d)) + b (ix1 0)) := by
  pointwise [Cert.Pre_in_segments_moderate.dot_S100000x128_S128x1_S100000x1_1_0_0_1_n_n]

theorem moderate (x : FVec Ideal Cert.Pre_in_segments_moderate.S100000x128 .f32) (s : IVec Cert.KernelIdeal.S100000 32) (w : FVec Ideal Cert.Pre_in_segments_moderate.S1x128 .f32)
    (b : FVec Ideal Cert.Pre_in_segments_moderate.S1 .f32) (h : Cert.Pre_in_segments_moderate.fn x s w b = fun _ => 1#1) : Moderate x s w b := by
  have h0 := IntOp.andi_eq_one.1 (congrFun h (fun a => a.elim0))
  have h1 := IntOp.andi_eq_one.1 h0.1
  have h2 := IntOp.andi_eq_one.1 h1.2
  have h3 := IntOp.andi_eq_one.1 h2.1
  refine ⟨moderate_range x s w b h, fun i => real_of _ (Host.reduce_andi_all _ _ _ _ _ h3.1 i), fun i => real_of _ (Host.reduce_andi_all _ _ _ _ _ h3.2 i),
    fun i => real_of _ (Host.reduce_andi_all _ _ _ _ _ h2.2 i), fun i => ?_⟩
  have q : Ideal.cmp .oge _ (Ideal.ofBits FTy.f32 0x0DA24260#32) = 1#1 := Host.reduce_andi_all _ _ _ _ _ h0.2 (ix2 i 0)
  rw [gate_pre] at q
  by_contra hc
  simp only [Ideal.cmp, decide_eq_false hc] at q
  exact absurd q (by decide)

/-- The kernel's result is the reference's. -/
theorem same (m : (ℓ : Loc Cert.KernelIdeal.nD Cert.KernelIdeal.τ Cert.KernelIdeal.sig) → Buf (Elt Ideal) ℓ) (d : Dev Cert.KernelIdeal.nD)
    (h : Moderate (argX m d) (argS m d) (argW m d) (argB m d)) :
    outR (names (V3 m)) d = Cert.RefValue.result (argX m d) (argS m d) (argW m d) (argB m d) := by
  funext j
  obtain ⟨r, k, rfl⟩ : ∃ (r : Fin 256) (k : Fin 128), j = ix2 r k := ⟨_, _, eq_ix2 j⟩
  have hs : ∀ i, (argS m d (ix1 i)).toNat < 256 := fun i => h.range (ix1 i)
  choose X hX using h.rows
  choose W hW using h.weights
  choose B hB using h.bias
  have hgate : ∀ i : Fin 100000, (∑ q : Fin 128, argX m d (ix2 i q) * argW m d (ix2 0 q)) + argB m d (ix1 0)
      = (((∑ q : Fin 128, X (ix2 i q) * W (ix2 0 q)) + B (ix1 0) : ℝ) : EReal) := fun i => by
    simp only [hX, hW, hB, ← EReal.coe_mul, sum_real, ← EReal.coe_add]
  have hrow : ∀ i : Fin 100000, rowAt i.val = i := fun i => Fin.ext (Nat.mod_eq_of_lt i.isLt)
  have key := pooled_eq (fun i : Fin 100000 => (argS m d (ix1 i)).toNat = r.val) (fun i => (∑ q : Fin 128, X (ix2 i q) * W (ix2 0 q)) + B (ix1 0)) (fun i => X (ix2 i k))
    _ floor_pos (fun i => by have := h.floor i; rw [hgate, Ideal.exp_coe] at this; exact this)
  simp only [← hgate, ← hX] at key
  rw [kernel_apply, Cert.RefValue.result_apply _ _ _ _ r k hs, Finset.sum_range, Finset.sum_range]
  simp only [numTerm, denTerm, segAt, gateAt, hrow]
  refine key.trans (Finset.sum_congr rfl fun i _ => ?_)
  by_cases hi : (argS m d (ix1 i)).toNat = r.val
  · have hr : (⟨(argS m d (ix1 i)).toNat, hs i⟩ : Fin 256) = r := Fin.ext hi
    have hexp : ∀ i (hi : (argS m d (ix1 i)).toNat = r.val), Cert.RefValue.exps (argX m d) (argS m d) (argW m d) (argB m d) (ix1 i)
        = Ideal.exp (((∑ q : Fin 128, argX m d (ix2 i q) * argW m d (ix2 0 q)) + argB m d (ix1 0)) - Finset.univ.fold max (⊥ : EReal) fun i : Fin 100000 =>
          if (argS m d (ix1 i)).toNat = r.val then (∑ q : Fin 128, argX m d (ix2 i q) * argW m d (ix2 0 q)) + argB m d (ix1 0) else ⊥) := fun i hi => by
      have hr : (⟨(argS m d (ix1 i)).toNat, hs i⟩ : Fin 256) = r := Fin.ext hi
      rw [Cert.RefValue.exps_apply _ _ _ _ i (hs i), hr, Cert.RefValue.tops_apply, Cert.RefValue.gates_apply]
      simp only [Cert.RefValue.gates_apply]
    have hsum : (∑ j : Fin 100000, if (argS m d (ix1 j)).toNat = r.val then Cert.RefValue.exps (argX m d) (argS m d) (argW m d) (argB m d) (ix1 j) else 0)
        = ∑ j : Fin 100000, if (argS m d (ix1 j)).toNat = r.val then
            Ideal.exp (((∑ q : Fin 128, argX m d (ix2 j q) * argW m d (ix2 0 q)) + argB m d (ix1 0)) - Finset.univ.fold max (⊥ : EReal) fun i : Fin 100000 =>
              if (argS m d (ix1 i)).toNat = r.val then (∑ q : Fin 128, argX m d (ix2 i q) * argW m d (ix2 0 q)) + argB m d (ix1 0) else ⊥) else 0 :=
      Finset.sum_congr rfl fun j _ => by
        by_cases hj : (argS m d (ix1 j)).toNat = r.val
        · rw [if_pos hj, if_pos hj, hexp j hj]
        · rw [if_neg hj, if_neg hj]
    rw [if_pos hi, if_pos hi, Cert.RefValue.shares_apply _ _ _ _ i (hs i), hr, Cert.RefValue.segSums_apply _ _ r hs, hexp i hi, hsum]
  · rw [if_neg hi, if_neg hi]

theorem algebraic : Cert.algebraic_KernelIdeal_ReferenceIdeal_pre_in_segments_moderate := fun m g m' g' hpre hargs => by
  have hM : ∀ d, Moderate (argX m d) (argS m d) (argW m d) (argB m d) := fun d => moderate _ _ _ _ (hpre d)
  refine ⟨fun c => outR (names (V3 m)) c, (θ_run _ _ _).mono (fun _ h => h.1) (run_args m g fun d => (hM d).range),
    (θ_run _ _ _).mono (fun _ h c => ?_) (Cert.ReferenceIdeal.Value.run m' g')⟩
  refine ⟨(h c).1.trans ?_, (h c).2⟩
  rw [Cert.RefValue.result_eq]
  refine Eq.trans ?_ (same m c (hM c)).symm
  obtain ⟨h0, h1, h2, h3⟩ := hargs c
  rw [h0, h1, h2, h3]

end Cert.Tile
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_segments
public import proofs.«01_k».proof.Proof.Gen.Pre_in_segments_moderate
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Pre_in_segments.Gen.facts,
    Cert.Pre_in_segments_moderate.Gen.facts, Cert.Tile.frame_kernel, Cert.Tile.frame_ideal, Cert.Tile.frame_moderate, Cert.Tile.frame_ref,
    Cert.Tile.frame_ref_moderate, trivial, Cert.Tile.algebraic⟩

end Cert.Proof

end
